-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Unbounded (m : (ℓ : Loc Cert.Unbounded.nD Cert.Unbounded.τ Cert.Unbounded.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Unbounded [hUnbounded : Cert.Unbounded.Facts] : Prop :=
  ∀ (m : (ℓ : Loc Cert.Unbounded.nD Cert.Unbounded.τ Cert.Unbounded.sig) → Buf (Elt Ideal) ℓ) (g : Dev Cert.Unbounded.nD → PrngReg), Pre_Unbounded m →
    θ_run (Cert.Unbounded.defs (F := Ideal)) (onTc (τ := Cert.Unbounded.τ) (Cert.Unbounded.main (F := Ideal))) ⟨m, fun _ => 0, g⟩ (fun r => (∀ c : Dev Cert.Unbounded.nD,
      r.2.mem ((c.tc : Thread Cert.Unbounded.nD Cert.Unbounded.τ).loc Cert.Unbounded.main_arg0) = m ((c.tc : Thread Cert.Unbounded.nD Cert.Unbounded.τ).loc Cert.Unbounded.main_arg0)
      ∧ r.2.mem ((c.tc : Thread Cert.Unbounded.nD Cert.Unbounded.τ).loc Cert.Unbounded.main_arg1) = m ((c.tc : Thread Cert.Unbounded.nD Cert.Unbounded.τ).loc Cert.Unbounded.main_arg1))
      ∧ r.2.sem = fun _ => 0)

def preserves_Kernel_KernelIdeal : Prop :=
  True

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 1024]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_Unbounded [hKernelIdeal : Cert.KernelIdeal.Facts] [hUnbounded : Cert.Unbounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.Unbounded.nD Cert.Unbounded.τ Cert.Unbounded.sig) → Buf (Elt Ideal) ℓ) (g' : Dev Cert.Unbounded.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.Unbounded.nD).tc : Thread Cert.Unbounded.nD Cert.Unbounded.τ).loc Cert.Unbounded.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.Unbounded.nD).tc : Thread Cert.Unbounded.nD Cert.Unbounded.τ).loc Cert.Unbounded.main_arg1))) →
    ∃ (v0 : Buf (Elt Ideal) (((0 : Dev Cert.Unbounded.nD).tc : Thread Cert.Unbounded.nD Cert.Unbounded.τ).loc Cert.Unbounded.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.Unbounded.defs (F := Ideal)) (onTc (τ := Cert.Unbounded.τ) (Cert.Unbounded.main (F := Ideal))) ⟨m', fun _ => 0, g'⟩ (fun r =>
          r.2.mem (((0 : Dev Cert.Unbounded.nD).tc : Thread Cert.Unbounded.nD Cert.Unbounded.τ).loc Cert.Unbounded.main_v0) = v0
          ∧ r.2.mem (((0 : Dev Cert.Unbounded.nD).tc : Thread Cert.Unbounded.nD Cert.Unbounded.τ).loc Cert.Unbounded.main_arg0) = m' (((0 : Dev Cert.Unbounded.nD).tc : Thread Cert.Unbounded.nD Cert.Unbounded.τ).loc Cert.Unbounded.main_arg0)
          ∧ r.2.mem (((0 : Dev Cert.Unbounded.nD).tc : Thread Cert.Unbounded.nD Cert.Unbounded.τ).loc Cert.Unbounded.main_arg1) = m' (((0 : Dev Cert.Unbounded.nD).tc : Thread Cert.Unbounded.nD Cert.Unbounded.τ).loc Cert.Unbounded.main_arg1))

def Claim : Prop :=
  ∃ (hKernel : Cert.Kernel.Facts) (hKernelIdeal : Cert.KernelIdeal.Facts) (hReferenceIdeal : Cert.ReferenceIdeal.Facts) (hUnbounded : Cert.Unbounded.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_Unbounded (hUnbounded := hUnbounded)
    ∧ preserves_Kernel_KernelIdeal
    ∧ algebraic_KernelIdeal_ReferenceIdeal_on_unclipped (hKernelIdeal := hKernelIdeal) (hReferenceIdeal := hReferenceIdeal) (hOn_unclipped := hOn_unclipped)
    ∧ algebraic_KernelIdeal_Unbounded (hKernelIdeal := hKernelIdeal) (hUnbounded := hUnbounded)
-- ==== On_unclipped.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x42700000#32
  let main_v2 : FVec F S1024x1024 .f32 := broadcastInDim S1024x1024 ![] bcast_S_S1024x1024 main_cst
  let main_v3 : IVec S1024x1024 1 := cmpf .ole main_v1 main_v2
  main_v3
-- ==== Kernel.lean ====
abbrev S1024x128 : Shape := ⟨2, ![1024, 128]⟩
abbrev S128x1024 : Shape := ⟨2, ![128, 1024]⟩
abbrev S1024x1024 : Shape := ⟨2, ![1024, 1024]⟩
abbrev S8x16x1024 : Shape := ⟨3, ![8, 16, 1024]⟩
abbrev S8x3x16x1024 : Shape := ⟨4, ![8, 3, 16, 1024]⟩
abbrev S8x3 : Shape := ⟨2, ![8, 3]⟩
abbrev S_ : Shape := ⟨0, ![]⟩
abbrev S64x128 : Shape := ⟨2, ![64, 128]⟩
abbrev S64x1024 : Shape := ⟨2, ![64, 1024]⟩
abbrev S1x1 : Shape := ⟨2, ![1, 1]⟩
abbrev S1x1x16x1024 : Shape := ⟨4, ![1, 1, 16, 1024]⟩
abbrev S16x1024 : Shape := ⟨2, ![16, 1024]⟩
abbrev S128x128 : Shape := ⟨2, ![128, 128]⟩
abbrev S1x16x1024 : Shape := ⟨3, ![1, 16, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x128, .f32⟩
  | .hbm, ⟨1, _⟩ => ⟨S128x1024, .f32⟩
  | .hbm, ⟨2, _⟩ => ⟨S1024x1024, .f32⟩
  | .local _ .vmem, ⟨0, _⟩ => ⟨S1024x128, .f32⟩
  | .local _ .vmem, ⟨1, _⟩ => ⟨S128x1024, .f32⟩
  | .local _ .vmem, ⟨2, _⟩ => ⟨S1024x1024, .f32⟩
  | .local _ .vmem, ⟨3, _⟩ => ⟨S1024x1024, .f32⟩
  | .local _ .vmem, ⟨4, _⟩ => ⟨S8x16x1024, .f32⟩
  | .local _ .vmem, ⟨5, _⟩ => ⟨S8x3x16x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_39 : BitVec 32 := 1#32
  let v55 : BitVec 32 := Scalar.muli v11 c1_i32_39
  let v56 : BitVec 32 := Scalar.addi c0_i32 v55
  v56.toNat
def k0_dev2 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_41 : BitVec 32 := 1#32
  let v57 : BitVec 32 := Scalar.muli v17 c1_i32_41
  let v58 : BitVec 32 := Scalar.addi c0_i32_42 v57
  v58.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v59 : BitVec 32 := Scalar.muli v2 c128_i32
  let v60 : Index := Scalar.indexCast v59
  let c0 : Index := 0#32
  ![v60.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v59 : BitVec 32 := Scalar.muli v2 c128_i32
  let v66 : Index := Scalar.indexCast v59
  let c0_45 : Index := 0#32
  ![v66.toNat, 0]
def k0_off3 (d0 : Dev nD) (c0_i32_49 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_46 : BitVec 32 := 4#32
  let v70 : BitVec 1 := Scalar.cmpi .slt v5 c4_i32_46
  let c11_i32_47 : BitVec 32 := 11#32
  let v71 : BitVec 32 := Scalar.subi c11_i32_47 v5
  let v72 : BitVec 32 := Scalar.select v70 v5 v71
  let c128_i32_48 : BitVec 32 := 128#32
  let v73 : BitVec 32 := Scalar.muli v72 c128_i32_48
  let v74 : BitVec 32 := Scalar.addi v73 c0_i32_49
  let c0_i32_60 : BitVec 32 := 0#32
  ![v74.toNat, 0]
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_56 : BitVec 32 := 1#32
  let v75 : BitVec 32 := Scalar.muli v11 c1_i32_56
  let v76 : BitVec 32 := Scalar.addi c0_i32_57 v75
  v76.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_71 : BitVec 32 := 1#32
  let v89 : BitVec 32 := Scalar.muli v23 c1_i32_71
  let v90 : BitVec 32 := Scalar.addi c0_i32_72 v89
  v90.toNat
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_85 : BitVec 32 := 1#32
  let v103 : BitVec 32 := Scalar.muli v35 c1_i32_85
  let v104 : BitVec 32 := Scalar.addi c0_i32_86 v103
  v104.toNat
def k0_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_98 : BitVec 32 := 1#32
  let v117 : BitVec 32 := Scalar.muli v47 c1_i32_98
  let v118 : BitVec 32 := Scalar.addi c0_i32_99 v117
  v118.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_103 : BitVec 32 := 128#32
  let v126 : BitVec 32 := Scalar.muli v2 c128_i32_103
  let c64_i32 : BitVec 32 := 64#32
  let v127 : BitVec 32 := Scalar.addi v126 c64_i32
  let v128 : Index := Scalar.indexCast v127
  let c0_104 : Index := 0#32
  ![v128.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_103 : BitVec 32 := 128#32
  let v126 : BitVec 32 := Scalar.muli v2 c128_i32_103
  let c64_i32 : BitVec 32 := 64#32
  let v127 : BitVec 32 := Scalar.addi v126 c64_i32
  let v134 : Index := Scalar.indexCast v127
  let c0_108 : Index := 0#32
  ![v134.toNat, 0]
def k0_dev7 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_119 : BitVec 32 := 1#32
  let v143 : BitVec 32 := Scalar.muli v17 c1_i32_119
  let v144 : BitVec 32 := Scalar.addi c0_i32_120 v143
  v144.toNat
def k0_dev8 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_132 : BitVec 32 := 1#32
  let v157 : BitVec 32 := Scalar.muli v29 c1_i32_132
  let v158 : BitVec 32 := Scalar.addi c0_i32_133 v157
  v158.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_145 : BitVec 32 := 1#32
  let v171 : BitVec 32 := Scalar.muli v41 c1_i32_145
  let v172 : BitVec 32 := Scalar.addi c0_i32_146 v171
  v172.toNat
def k0_dev10 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_158 : BitVec 32 := 1#32
  let v185 : BitVec 32 := Scalar.muli v53 c1_i32_158
  let v186 : BitVec 32 := Scalar.addi c0_i32_159 v185
  v186.toNat
def k0_off6 (d0 : Dev nD) (c1_i32_163 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v194 : BitVec 32 := Scalar.addi v5 c1_i32_163
  let c16_i32_164 : BitVec 32 := 16#32
  let v195 : BitVec 32 := Scalar.addi v194 c16_i32_164
  let c8_i32_165 : BitVec 32 := 8#32
  let v196 : BitVec 32 := Scalar.remsi v195 c8_i32_165
  let c4_i32_166 : BitVec 32 := 4#32
  let v197 : BitVec 1 := Scalar.cmpi .slt v196 c4_i32_166
  let c11_i32_167 : BitVec 32 := 11#32
  let v198 : BitVec 32 := Scalar.subi c11_i32_167 v196
  let v199 : BitVec 32 := Scalar.select v197 v196 v198
  let c128_i32_168 : BitVec 32 := 128#32
  let v200 : BitVec 32 := Scalar.muli v199 c128_i32_168
  let v201 : Index := Scalar.indexCast v200
  let c0_169 : Index := 0#32
  ![v201.toNat, 0]
def k0_off6_at (r : Fin 6) : BitVec 32 :=
  if r.val < 3 then
    if r.val < 1 then
      1#32
    else
      if r.val < 2 then
        2#32
      else
        4294967294#32
  else
    if r.val < 4 then
      3#32
    else
      if r.val < 5 then
        4294967293#32
      else
        4#32
def k0_off7 (d0 : Dev nD) (c1_i32_163 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v194 : BitVec 32 := Scalar.addi v5 c1_i32_163
  let c16_i32_164 : BitVec 32 := 16#32
  let v195 : BitVec 32 := Scalar.addi v194 c16_i32_164
  let c8_i32_165 : BitVec 32 := 8#32
  let v196 : BitVec 32 := Scalar.remsi v195 c8_i32_165
  let c4_i32_166 : BitVec 32 := 4#32
  let v197 : BitVec 1 := Scalar.cmpi .slt v196 c4_i32_166
  let c11_i32_167 : BitVec 32 := 11#32
  let v198 : BitVec 32 := Scalar.subi c11_i32_167 v196
  let v199 : BitVec 32 := Scalar.select v197 v196 v198
  let c128_i32_168 : BitVec 32 := 128#32
  let v200 : BitVec 32 := Scalar.muli v199 c128_i32_168
  let v207 : Index := Scalar.indexCast v200
  let c0_173 : Index := 0#32
  ![v207.toNat, 0]
def k0_off7_at (r : Fin 6) : BitVec 32 :=
  if r.val < 3 then
    if r.val < 1 then
      1#32
    else
      if r.val < 2 then
        2#32
      else
        4294967294#32
  else
    if r.val < 4 then
      3#32
    else
      if r.val < 5 then
        4294967293#32
      else
        4#32
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_174 : BitVec 32 := 1#32
  let v211 : BitVec 32 := Scalar.subi v5 c1_i32_174
  let c16_i32_175 : BitVec 32 := 16#32
  let v212 : BitVec 32 := Scalar.addi v211 c16_i32_175
  let c8_i32_176 : BitVec 32 := 8#32
  let v213 : BitVec 32 := Scalar.remsi v212 c8_i32_176
  let c4_i32_177 : BitVec 32 := 4#32
  let v214 : BitVec 1 := Scalar.cmpi .slt v213 c4_i32_177
  let c11_i32_178 : BitVec 32 := 11#32
  let v215 : BitVec 32 := Scalar.subi c11_i32_178 v213
  let v216 : BitVec 32 := Scalar.select v214 v213 v215
  let c128_i32_179 : BitVec 32 := 128#32
  let v217 : BitVec 32 := Scalar.muli v216 c128_i32_179
  let v218 : Index := Scalar.indexCast v217
  let c0_180 : Index := 0#32
  ![v218.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_174 : BitVec 32 := 1#32
  let v211 : BitVec 32 := Scalar.subi v5 c1_i32_174
  let c16_i32_175 : BitVec 32 := 16#32
  let v212 : BitVec 32 := Scalar.addi v211 c16_i32_175
  let c8_i32_176 : BitVec 32 := 8#32
  let v213 : BitVec 32 := Scalar.remsi v212 c8_i32_176
  let c4_i32_177 : BitVec 32 := 4#32
  let v214 : BitVec 1 := Scalar.cmpi .slt v213 c4_i32_177
  let c11_i32_178 : BitVec 32 := 11#32
  let v215 : BitVec 32 := Scalar.subi c11_i32_178 v213
  let v216 : BitVec 32 := Scalar.select v214 v213 v215
  let c128_i32_179 : BitVec 32 := 128#32
  let v217 : BitVec 32 := Scalar.muli v216 c128_i32_179
  let v224 : Index := Scalar.indexCast v217
  let c0_184 : Index := 0#32
  ![v224.toNat, 0]
def k0_off10 (d0 : Dev nD) (c1_i32_210 : BitVec 32) (c0_i32_216 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v245 : BitVec 32 := Scalar.subi v5 c1_i32_210
  let c16_i32_211 : BitVec 32 := 16#32
  let v246 : BitVec 32 := Scalar.addi v245 c16_i32_211
  let c8_i32_212 : BitVec 32 := 8#32
  let v247 : BitVec 32 := Scalar.remsi v246 c8_i32_212
  let c4_i32_213 : BitVec 32 := 4#32
  let v248 : BitVec 1 := Scalar.cmpi .slt v247 c4_i32_213
  let c11_i32_214 : BitVec 32 := 11#32
  let v249 : BitVec 32 := Scalar.subi c11_i32_214 v247
  let v250 : BitVec 32 := Scalar.select v248 v247 v249
  let c128_i32_215 : BitVec 32 := 128#32
  let v251 : BitVec 32 := Scalar.muli v250 c128_i32_215
  let v252 : BitVec 32 := Scalar.addi v251 c0_i32_216
  let v253 : Index := Scalar.indexCast v252
  let c0_217 : Index := 0#32
  ![v253.toNat, 0]
def k0_off10_at (r : Fin 48) : BitVec 32 × BitVec 32 :=
  if r.val < 24 then
    if r.val < 12 then
      if r.val < 6 then
        if r.val < 3 then
          if r.val < 1 then
            (1#32, 0#32)
          else
            if r.val < 2 then
              (4294967295#32, 64#32)
            else
              (1#32, 16#32)
        else
          if r.val < 4 then
            (4294967295#32, 80#32)
          else
            if r.val < 5 then
              (1#32, 32#32)
            else
              (4294967295#32, 96#32)
      else
        if r.val < 9 then
          if r.val < 7 then
            (1#32, 48#32)
          else
            if r.val < 8 then
              (4294967295#32, 112#32)
            else
              (2#32, 0#32)
        else
          if r.val < 10 then
            (4294967294#32, 64#32)
          else
            if r.val < 11 then
              (2#32, 16#32)
            else
              (4294967294#32, 80#32)
    else
      if r.val < 18 then
        if r.val < 15 then
          if r.val < 13 then
            (2#32, 32#32)
          else
            if r.val < 14 then
              (4294967294#32, 96#32)
            else
              (2#32, 48#32)
        else
          if r.val < 16 then
            (4294967294#32, 112#32)
          else
            if r.val < 17 then
              (3#32, 0#32)
            else
              (4294967293#32, 64#32)
      else
        if r.val < 21 then
          if r.val < 19 then
            (3#32, 16#32)
          else
            if r.val < 20 then
              (4294967293#32, 80#32)
            else
              (3#32, 32#32)
        else
          if r.val < 22 then
            (4294967293#32, 96#32)
          else
            if r.val < 23 then
              (3#32, 48#32)
            else
              (4294967293#32, 112#32)
  else
    if r.val < 36 then
      if r.val < 30 then
        if r.val < 27 then
          if r.val < 25 then
            (4#32, 0#32)
          else
            if r.val < 26 then
              (4294967292#32, 64#32)
            else
              (4#32, 16#32)
        else
          if r.val < 28 then
            (4294967292#32, 80#32)
          else
            if r.val < 29 then
              (4#32, 32#32)
            else
              (4294967292#32, 96#32)
      else
        if r.val < 33 then
          if r.val < 31 then
            (4#32, 48#32)
          else
            if r.val < 32 then
              (4294967292#32, 112#32)
            else
              (5#32, 0#32)
        else
          if r.val < 34 then
            (4294967291#32, 64#32)
          else
            if r.val < 35 then
              (5#32, 16#32)
            else
              (4294967291#32, 80#32)
    else
      if r.val < 42 then
        if r.val < 39 then
          if r.val < 37 then
            (5#32, 32#32)
          else
            if r.val < 38 then
              (4294967291#32, 96#32)
            else
              (5#32, 48#32)
        else
          if r.val < 40 then
            (4294967291#32, 112#32)
          else
            if r.val < 41 then
              (6#32, 0#32)
            else
              (4294967290#32, 64#32)
      else
        if r.val < 45 then
          if r.val < 43 then
            (6#32, 16#32)
          else
            if r.val < 44 then
              (4294967290#32, 80#32)
            else
              (6#32, 32#32)
        else
          if r.val < 46 then
            (4294967290#32, 96#32)
          else
            if r.val < 47 then
              (6#32, 48#32)
            else
              (4294967290#32, 112#32)
def k0_dev11 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_232 : BitVec 32 := 1#32
  let v261 : BitVec 32 := Scalar.muli v11 c1_i32_232
  let v262 : BitVec 32 := Scalar.addi c0_i32_233 v261
  v262.toNat
def k0_dev12 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_284 : BitVec 32 := 1#32
  let v304 : BitVec 32 := Scalar.muli v17 c1_i32_284
  let v305 : BitVec 32 := Scalar.addi c0_i32_285 v304
  v305.toNat
def k0_dev13 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_336 : BitVec 32 := 1#32
  let v347 : BitVec 32 := Scalar.muli v23 c1_i32_336
  let v348 : BitVec 32 := Scalar.addi c0_i32_337 v347
  v348.toNat
def k0_dev14 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_388 : BitVec 32 := 1#32
  let v390 : BitVec 32 := Scalar.muli v29 c1_i32_388
  let v391 : BitVec 32 := Scalar.addi c0_i32_389 v390
  v391.toNat
def k0_dev15 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_440 : BitVec 32 := 1#32
  let v433 : BitVec 32 := Scalar.muli v35 c1_i32_440
  let v434 : BitVec 32 := Scalar.addi c0_i32_441 v433
  v434.toNat
def k0_dev16 (d0 : Dev nD) : Nat :=
  let c0_i32_493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_492 : BitVec 32 := 1#32
  let v476 : BitVec 32 := Scalar.muli v41 c1_i32_492
  let v477 : BitVec 32 := Scalar.addi c0_i32_493 v476
  v477.toNat
def k0_dev17 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_544 : BitVec 32 := 1#32
  let v519 : BitVec 32 := Scalar.muli v47 c1_i32_544
  let v520 : BitVec 32 := Scalar.addi c0_i32_545 v519
  v520.toNat
def k0_dev18 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_596 : BitVec 32 := 1#32
  let v562 : BitVec 32 := Scalar.muli v53 c1_i32_596
  let v563 : BitVec 32 := Scalar.addi c0_i32_597 v562
  v563.toNat
def k0_dev19 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_670 : BitVec 32 := 1#32
  let v636 : BitVec 32 := Scalar.muli v11 c1_i32_670
  let v637 : BitVec 32 := Scalar.addi c0_i32_671 v636
  v637.toNat
def k0_dev20 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_723 : BitVec 32 := 1#32
  let v676 : BitVec 32 := Scalar.muli v17 c1_i32_723
  let v677 : BitVec 32 := Scalar.addi c0_i32_724 v676
  v677.toNat
def k0_dev21 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_776 : BitVec 32 := 1#32
  let v716 : BitVec 32 := Scalar.muli v23 c1_i32_776
  let v717 : BitVec 32 := Scalar.addi c0_i32_777 v716
  v717.toNat
def k0_dev22 (d0 : Dev nD) : Nat :=
  let c0_i32_830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_829 : BitVec 32 := 1#32
  let v756 : BitVec 32 := Scalar.muli v29 c1_i32_829
  let v757 : BitVec 32 := Scalar.addi c0_i32_830 v756
  v757.toNat
def k0_dev23 (d0 : Dev nD) : Nat :=
  let c0_i32_883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_882 : BitVec 32 := 1#32
  let v796 : BitVec 32 := Scalar.muli v35 c1_i32_882
  let v797 : BitVec 32 := Scalar.addi c0_i32_883 v796
  v797.toNat
def k0_dev24 (d0 : Dev nD) : Nat :=
  let c0_i32_936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_935 : BitVec 32 := 1#32
  let v836 : BitVec 32 := Scalar.muli v41 c1_i32_935
  let v837 : BitVec 32 := Scalar.addi c0_i32_936 v836
  v837.toNat
def k0_dev25 (d0 : Dev nD) : Nat :=
  let c0_i32_989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_988 : BitVec 32 := 1#32
  let v876 : BitVec 32 := Scalar.muli v47 c1_i32_988
  let v877 : BitVec 32 := Scalar.addi c0_i32_989 v876
  v877.toNat
def k0_dev26 (d0 : Dev nD) : Nat :=
  let c0_i32_1042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_1041 : BitVec 32 := 1#32
  let v916 : BitVec 32 := Scalar.muli v53 c1_i32_1041
  let v917 : BitVec 32 := Scalar.addi c0_i32_1042 v916
  v917.toNat
def k0_dev27 (d0 : Dev nD) : Nat :=
  let c0_i32_1116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1115 : BitVec 32 := 1#32
  let v990 : BitVec 32 := Scalar.muli v11 c1_i32_1115
  let v991 : BitVec 32 := Scalar.addi c0_i32_1116 v990
  v991.toNat
def k0_dev28 (d0 : Dev nD) : Nat :=
  let c0_i32_1169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_1168 : BitVec 32 := 1#32
  let v1030 : BitVec 32 := Scalar.muli v17 c1_i32_1168
  let v1031 : BitVec 32 := Scalar.addi c0_i32_1169 v1030
  v1031.toNat
def k0_dev29 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_1221 : BitVec 32 := 1#32
  let v1070 : BitVec 32 := Scalar.muli v23 c1_i32_1221
  let v1071 : BitVec 32 := Scalar.addi c0_i32_1222 v1070
  v1071.toNat
def k0_dev30 (d0 : Dev nD) : Nat :=
  let c0_i32_1275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_1274 : BitVec 32 := 1#32
  let v1110 : BitVec 32 := Scalar.muli v29 c1_i32_1274
  let v1111 : BitVec 32 := Scalar.addi c0_i32_1275 v1110
  v1111.toNat
def k0_dev31 (d0 : Dev nD) : Nat :=
  let c0_i32_1328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_1327 : BitVec 32 := 1#32
  let v1150 : BitVec 32 := Scalar.muli v35 c1_i32_1327
  let v1151 : BitVec 32 := Scalar.addi c0_i32_1328 v1150
  v1151.toNat
def k0_dev32 (d0 : Dev nD) : Nat :=
  let c0_i32_1381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_1380 : BitVec 32 := 1#32
  let v1190 : BitVec 32 := Scalar.muli v41 c1_i32_1380
  let v1191 : BitVec 32 := Scalar.addi c0_i32_1381 v1190
  v1191.toNat
def k0_dev33 (d0 : Dev nD) : Nat :=
  let c0_i32_1434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_1433 : BitVec 32 := 1#32
  let v1230 : BitVec 32 := Scalar.muli v47 c1_i32_1433
  let v1231 : BitVec 32 := Scalar.addi c0_i32_1434 v1230
  v1231.toNat
def k0_dev34 (d0 : Dev nD) : Nat :=
  let c0_i32_1487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_1486 : BitVec 32 := 1#32
  let v1270 : BitVec 32 := Scalar.muli v53 c1_i32_1486
  let v1271 : BitVec 32 := Scalar.addi c0_i32_1487 v1270
  v1271.toNat
def k0_dev35 (d0 : Dev nD) : Nat :=
  let c0_i32_1551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1550 : BitVec 32 := 1#32
  let v1327 : BitVec 32 := Scalar.muli v11 c1_i32_1550
  let v1328 : BitVec 32 := Scalar.addi c0_i32_1551 v1327
  v1328.toNat
def k0_dev36 (d0 : Dev nD) : Nat :=
  let c0_i32_1603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_1602 : BitVec 32 := 1#32
  let v1367 : BitVec 32 := Scalar.muli v17 c1_i32_1602
  let v1368 : BitVec 32 := Scalar.addi c0_i32_1603 v1367
  v1368.toNat
def k0_dev37 (d0 : Dev nD) : Nat :=
  let c0_i32_1656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_1655 : BitVec 32 := 1#32
  let v1407 : BitVec 32 := Scalar.muli v23 c1_i32_1655
  let v1408 : BitVec 32 := Scalar.addi c0_i32_1656 v1407
  v1408.toNat
def k0_dev38 (d0 : Dev nD) : Nat :=
  let c0_i32_1709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_1708 : BitVec 32 := 1#32
  let v1447 : BitVec 32 := Scalar.muli v29 c1_i32_1708
  let v1448 : BitVec 32 := Scalar.addi c0_i32_1709 v1447
  v1448.toNat
def k0_dev39 (d0 : Dev nD) : Nat :=
  let c0_i32_1762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_1761 : BitVec 32 := 1#32
  let v1487 : BitVec 32 := Scalar.muli v35 c1_i32_1761
  let v1488 : BitVec 32 := Scalar.addi c0_i32_1762 v1487
  v1488.toNat
def k0_dev40 (d0 : Dev nD) : Nat :=
  let c0_i32_1815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_1814 : BitVec 32 := 1#32
  let v1527 : BitVec 32 := Scalar.muli v41 c1_i32_1814
  let v1528 : BitVec 32 := Scalar.addi c0_i32_1815 v1527
  v1528.toNat
def k0_dev41 (d0 : Dev nD) : Nat :=
  let c0_i32_1868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_1867 : BitVec 32 := 1#32
  let v1567 : BitVec 32 := Scalar.muli v47 c1_i32_1867
  let v1568 : BitVec 32 := Scalar.addi c0_i32_1868 v1567
  v1568.toNat
def k0_dev42 (d0 : Dev nD) : Nat :=
  let c0_i32_1921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_1920 : BitVec 32 := 1#32
  let v1607 : BitVec 32 := Scalar.muli v53 c1_i32_1920
  let v1608 : BitVec 32 := Scalar.addi c0_i32_1921 v1607
  v1608.toNat
def k0_dev43 (d0 : Dev nD) : Nat :=
  let c0_i32_1974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_1973 : BitVec 32 := 1#32
  let v1647 : BitVec 32 := Scalar.muli v11 c1_i32_1973
  let v1648 : BitVec 32 := Scalar.addi c0_i32_1974 v1647
  v1648.toNat
def k0_dev44 (d0 : Dev nD) : Nat :=
  let c0_i32_2026 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_2025 : BitVec 32 := 1#32
  let v1687 : BitVec 32 := Scalar.muli v17 c1_i32_2025
  let v1688 : BitVec 32 := Scalar.addi c0_i32_2026 v1687
  v1688.toNat
def k0_dev45 (d0 : Dev nD) : Nat :=
  let c0_i32_2079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_2078 : BitVec 32 := 1#32
  let v1727 : BitVec 32 := Scalar.muli v23 c1_i32_2078
  let v1728 : BitVec 32 := Scalar.addi c0_i32_2079 v1727
  v1728.toNat
def k0_dev46 (d0 : Dev nD) : Nat :=
  let c0_i32_2132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_2131 : BitVec 32 := 1#32
  let v1767 : BitVec 32 := Scalar.muli v29 c1_i32_2131
  let v1768 : BitVec 32 := Scalar.addi c0_i32_2132 v1767
  v1768.toNat
def k0_dev47 (d0 : Dev nD) : Nat :=
  let c0_i32_2185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_2184 : BitVec 32 := 1#32
  let v1807 : BitVec 32 := Scalar.muli v35 c1_i32_2184
  let v1808 : BitVec 32 := Scalar.addi c0_i32_2185 v1807
  v1808.toNat
def k0_dev48 (d0 : Dev nD) : Nat :=
  let c0_i32_2238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_2237 : BitVec 32 := 1#32
  let v1847 : BitVec 32 := Scalar.muli v41 c1_i32_2237
  let v1848 : BitVec 32 := Scalar.addi c0_i32_2238 v1847
  v1848.toNat
def k0_dev49 (d0 : Dev nD) : Nat :=
  let c0_i32_2291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_2290 : BitVec 32 := 1#32
  let v1887 : BitVec 32 := Scalar.muli v47 c1_i32_2290
  let v1888 : BitVec 32 := Scalar.addi c0_i32_2291 v1887
  v1888.toNat
def k0_dev50 (d0 : Dev nD) : Nat :=
  let c0_i32_2344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_2343 : BitVec 32 := 1#32
  let v1927 : BitVec 32 := Scalar.muli v53 c1_i32_2343
  let v1928 : BitVec 32 := Scalar.addi c0_i32_2344 v1927
  v1928.toNat
def k0_dev51 (d0 : Dev nD) : Nat :=
  let c0_i32_2397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2396 : BitVec 32 := 1#32
  let v1967 : BitVec 32 := Scalar.muli v11 c1_i32_2396
  let v1968 : BitVec 32 := Scalar.addi c0_i32_2397 v1967
  v1968.toNat
def k0_dev52 (d0 : Dev nD) : Nat :=
  let c0_i32_2449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_2448 : BitVec 32 := 1#32
  let v2007 : BitVec 32 := Scalar.muli v17 c1_i32_2448
  let v2008 : BitVec 32 := Scalar.addi c0_i32_2449 v2007
  v2008.toNat
def k0_dev53 (d0 : Dev nD) : Nat :=
  let c0_i32_2502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_2501 : BitVec 32 := 1#32
  let v2047 : BitVec 32 := Scalar.muli v23 c1_i32_2501
  let v2048 : BitVec 32 := Scalar.addi c0_i32_2502 v2047
  v2048.toNat
def k0_dev54 (d0 : Dev nD) : Nat :=
  let c0_i32_2555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_2554 : BitVec 32 := 1#32
  let v2087 : BitVec 32 := Scalar.muli v29 c1_i32_2554
  let v2088 : BitVec 32 := Scalar.addi c0_i32_2555 v2087
  v2088.toNat
def k0_dev55 (d0 : Dev nD) : Nat :=
  let c0_i32_2608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_2607 : BitVec 32 := 1#32
  let v2127 : BitVec 32 := Scalar.muli v35 c1_i32_2607
  let v2128 : BitVec 32 := Scalar.addi c0_i32_2608 v2127
  v2128.toNat
def k0_dev56 (d0 : Dev nD) : Nat :=
  let c0_i32_2661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_2660 : BitVec 32 := 1#32
  let v2167 : BitVec 32 := Scalar.muli v41 c1_i32_2660
  let v2168 : BitVec 32 := Scalar.addi c0_i32_2661 v2167
  v2168.toNat
def k0_dev57 (d0 : Dev nD) : Nat :=
  let c0_i32_2714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_2713 : BitVec 32 := 1#32
  let v2207 : BitVec 32 := Scalar.muli v47 c1_i32_2713
  let v2208 : BitVec 32 := Scalar.addi c0_i32_2714 v2207
  v2208.toNat
def k0_dev58 (d0 : Dev nD) : Nat :=
  let c0_i32_2767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_2766 : BitVec 32 := 1#32
  let v2247 : BitVec 32 := Scalar.muli v53 c1_i32_2766
  let v2248 : BitVec 32 := Scalar.addi c0_i32_2767 v2247
  v2248.toNat
def k0_off11 (d0 : Dev nD) (c1_i32_2797 : BitVec 32) (c0_i32_2803 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v2271 : BitVec 32 := Scalar.addi v5 c1_i32_2797
  let c16_i32_2798 : BitVec 32 := 16#32
  let v2272 : BitVec 32 := Scalar.addi v2271 c16_i32_2798
  let c8_i32_2799 : BitVec 32 := 8#32
  let v2273 : BitVec 32 := Scalar.remsi v2272 c8_i32_2799
  let c4_i32_2800 : BitVec 32 := 4#32
  let v2274 : BitVec 1 := Scalar.cmpi .slt v2273 c4_i32_2800
  let c11_i32_2801 : BitVec 32 := 11#32
  let v2275 : BitVec 32 := Scalar.subi c11_i32_2801 v2273
  let v2276 : BitVec 32 := Scalar.select v2274 v2273 v2275
  let c128_i32_2802 : BitVec 32 := 128#32
  let v2277 : BitVec 32 := Scalar.muli v2276 c128_i32_2802
  let v2278 : BitVec 32 := Scalar.addi v2277 c0_i32_2803
  let v2279 : Index := Scalar.indexCast v2278
  let c0_2804 : Index := 0#32
  ![v2279.toNat, 0]
def k0_off11_at (r : Fin 8) : BitVec 32 × BitVec 32 :=
  if r.val < 4 then
    if r.val < 2 then
      if r.val < 1 then
        (1#32, 0#32)
      else
        (4294967295#32, 64#32)
    else
      if r.val < 3 then
        (1#32, 16#32)
      else
        (4294967295#32, 80#32)
  else
    if r.val < 6 then
      if r.val < 5 then
        (1#32, 32#32)
      else
        (4294967295#32, 96#32)
    else
      if r.val < 7 then
        (1#32, 48#32)
      else
        (4294967295#32, 112#32)
def k0_off12 (d0 : Dev nD) (c1_i32_2810 : BitVec 32) (c0_i32_2816 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v2288 : BitVec 32 := Scalar.addi v5 c1_i32_2810
  let c16_i32_2811 : BitVec 32 := 16#32
  let v2289 : BitVec 32 := Scalar.addi v2288 c16_i32_2811
  let c8_i32_2812 : BitVec 32 := 8#32
  let v2290 : BitVec 32 := Scalar.remsi v2289 c8_i32_2812
  let c4_i32_2813 : BitVec 32 := 4#32
  let v2291 : BitVec 1 := Scalar.cmpi .slt v2290 c4_i32_2813
  let c11_i32_2814 : BitVec 32 := 11#32
  let v2292 : BitVec 32 := Scalar.subi c11_i32_2814 v2290
  let v2293 : BitVec 32 := Scalar.select v2291 v2290 v2292
  let c128_i32_2815 : BitVec 32 := 128#32
  let v2294 : BitVec 32 := Scalar.muli v2293 c128_i32_2815
  let v2295 : BitVec 32 := Scalar.addi v2294 c0_i32_2816
  let c0_i32_2823 : BitVec 32 := 0#32
  ![v2295.toNat, 0]
def k0_off12_at (r : Fin 56) : BitVec 32 × BitVec 32 :=
  if r.val < 28 then
    if r.val < 14 then
      if r.val < 7 then
        if r.val < 3 then
          if r.val < 1 then
            (1#32, 0#32)
          else
            if r.val < 2 then
              (4294967295#32, 64#32)
            else
              (1#32, 16#32)
        else
          if r.val < 5 then
            if r.val < 4 then
              (4294967295#32, 80#32)
            else
              (1#32, 32#32)
          else
            if r.val < 6 then
              (4294967295#32, 96#32)
            else
              (1#32, 48#32)
      else
        if r.val < 10 then
          if r.val < 8 then
            (4294967295#32, 112#32)
          else
            if r.val < 9 then
              (0#32, 0#32)
            else
              (0#32, 64#32)
        else
          if r.val < 12 then
            if r.val < 11 then
              (0#32, 16#32)
            else
              (0#32, 80#32)
          else
            if r.val < 13 then
              (0#32, 32#32)
            else
              (0#32, 96#32)
    else
      if r.val < 21 then
        if r.val < 17 then
          if r.val < 15 then
            (0#32, 48#32)
          else
            if r.val < 16 then
              (0#32, 112#32)
            else
              (4294967295#32, 0#32)
        else
          if r.val < 19 then
            if r.val < 18 then
              (1#32, 64#32)
            else
              (4294967295#32, 16#32)
          else
            if r.val < 20 then
              (1#32, 80#32)
            else
              (4294967295#32, 32#32)
      else
        if r.val < 24 then
          if r.val < 22 then
            (1#32, 96#32)
          else
            if r.val < 23 then
              (4294967295#32, 48#32)
            else
              (1#32, 112#32)
        else
          if r.val < 26 then
            if r.val < 25 then
              (4294967294#32, 0#32)
            else
              (2#32, 64#32)
          else
            if r.val < 27 then
              (4294967294#32, 16#32)
            else
              (2#32, 80#32)
  else
    if r.val < 42 then
      if r.val < 35 then
        if r.val < 31 then
          if r.val < 29 then
            (4294967294#32, 32#32)
          else
            if r.val < 30 then
              (2#32, 96#32)
            else
              (4294967294#32, 48#32)
        else
          if r.val < 33 then
            if r.val < 32 then
              (2#32, 112#32)
            else
              (4294967293#32, 0#32)
          else
            if r.val < 34 then
              (3#32, 64#32)
            else
              (4294967293#32, 16#32)
      else
        if r.val < 38 then
          if r.val < 36 then
            (3#32, 80#32)
          else
            if r.val < 37 then
              (4294967293#32, 32#32)
            else
              (3#32, 96#32)
        else
          if r.val < 40 then
            if r.val < 39 then
              (4294967293#32, 48#32)
            else
              (3#32, 112#32)
          else
            if r.val < 41 then
              (4294967292#32, 0#32)
            else
              (4#32, 64#32)
    else
      if r.val < 49 then
        if r.val < 45 then
          if r.val < 43 then
            (4294967292#32, 16#32)
          else
            if r.val < 44 then
              (4#32, 80#32)
            else
              (4294967292#32, 32#32)
        else
          if r.val < 47 then
            if r.val < 46 then
              (4#32, 96#32)
            else
              (4294967292#32, 48#32)
          else
            if r.val < 48 then
              (4#32, 112#32)
            else
              (4294967291#32, 0#32)
      else
        if r.val < 52 then
          if r.val < 50 then
            (5#32, 64#32)
          else
            if r.val < 51 then
              (4294967291#32, 16#32)
            else
              (5#32, 80#32)
        else
          if r.val < 54 then
            if r.val < 53 then
              (4294967291#32, 32#32)
            else
              (5#32, 96#32)
          else
            if r.val < 55 then
              (4294967291#32, 48#32)
            else
              (5#32, 112#32)
def k0_dev59 (d0 : Dev nD) : Nat :=
  let c0_i32_2822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_2821 : BitVec 32 := 1#32
  let v2296 : BitVec 32 := Scalar.muli v11 c1_i32_2821
  let v2297 : BitVec 32 := Scalar.addi c0_i32_2822 v2296
  v2297.toNat
def k0_dev60 (d0 : Dev nD) : Nat :=
  let c0_i32_2875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_2874 : BitVec 32 := 1#32
  let v2343 : BitVec 32 := Scalar.muli v17 c1_i32_2874
  let v2344 : BitVec 32 := Scalar.addi c0_i32_2875 v2343
  v2344.toNat
def k0_dev61 (d0 : Dev nD) : Nat :=
  let c0_i32_2928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_2927 : BitVec 32 := 1#32
  let v2390 : BitVec 32 := Scalar.muli v23 c1_i32_2927
  let v2391 : BitVec 32 := Scalar.addi c0_i32_2928 v2390
  v2391.toNat
def k0_dev62 (d0 : Dev nD) : Nat :=
  let c0_i32_2981 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_2980 : BitVec 32 := 1#32
  let v2437 : BitVec 32 := Scalar.muli v29 c1_i32_2980
  let v2438 : BitVec 32 := Scalar.addi c0_i32_2981 v2437
  v2438.toNat
def k0_dev63 (d0 : Dev nD) : Nat :=
  let c0_i32_3034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_3033 : BitVec 32 := 1#32
  let v2484 : BitVec 32 := Scalar.muli v35 c1_i32_3033
  let v2485 : BitVec 32 := Scalar.addi c0_i32_3034 v2484
  v2485.toNat
def k0_dev64 (d0 : Dev nD) : Nat :=
  let c0_i32_3087 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_3086 : BitVec 32 := 1#32
  let v2531 : BitVec 32 := Scalar.muli v41 c1_i32_3086
  let v2532 : BitVec 32 := Scalar.addi c0_i32_3087 v2531
  v2532.toNat
def k0_dev65 (d0 : Dev nD) : Nat :=
  let c0_i32_3140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_3139 : BitVec 32 := 1#32
  let v2578 : BitVec 32 := Scalar.muli v47 c1_i32_3139
  let v2579 : BitVec 32 := Scalar.addi c0_i32_3140 v2578
  v2579.toNat
def k0_dev66 (d0 : Dev nD) : Nat :=
  let c0_i32_3193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_3192 : BitVec 32 := 1#32
  let v2625 : BitVec 32 := Scalar.muli v53 c1_i32_3192
  let v2626 : BitVec 32 := Scalar.addi c0_i32_3193 v2625
  v2626.toNat
def k0_dev67 (d0 : Dev nD) : Nat :=
  let c0_i32_3230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3229 : BitVec 32 := 1#32
  let v2659 : BitVec 32 := Scalar.muli v11 c1_i32_3229
  let v2660 : BitVec 32 := Scalar.addi c0_i32_3230 v2659
  v2660.toNat
def k0_dev68 (d0 : Dev nD) : Nat :=
  let c0_i32_3267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_3266 : BitVec 32 := 1#32
  let v2693 : BitVec 32 := Scalar.muli v17 c1_i32_3266
  let v2694 : BitVec 32 := Scalar.addi c0_i32_3267 v2693
  v2694.toNat
def k0_dev69 (d0 : Dev nD) : Nat :=
  let c0_i32_3304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_3303 : BitVec 32 := 1#32
  let v2727 : BitVec 32 := Scalar.muli v23 c1_i32_3303
  let v2728 : BitVec 32 := Scalar.addi c0_i32_3304 v2727
  v2728.toNat
def k0_dev70 (d0 : Dev nD) : Nat :=
  let c0_i32_3341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_3340 : BitVec 32 := 1#32
  let v2761 : BitVec 32 := Scalar.muli v29 c1_i32_3340
  let v2762 : BitVec 32 := Scalar.addi c0_i32_3341 v2761
  v2762.toNat
def k0_dev71 (d0 : Dev nD) : Nat :=
  let c0_i32_3378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_3377 : BitVec 32 := 1#32
  let v2795 : BitVec 32 := Scalar.muli v35 c1_i32_3377
  let v2796 : BitVec 32 := Scalar.addi c0_i32_3378 v2795
  v2796.toNat
def k0_dev72 (d0 : Dev nD) : Nat :=
  let c0_i32_3415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_3414 : BitVec 32 := 1#32
  let v2829 : BitVec 32 := Scalar.muli v41 c1_i32_3414
  let v2830 : BitVec 32 := Scalar.addi c0_i32_3415 v2829
  v2830.toNat
def k0_dev73 (d0 : Dev nD) : Nat :=
  let c0_i32_3452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_3451 : BitVec 32 := 1#32
  let v2863 : BitVec 32 := Scalar.muli v47 c1_i32_3451
  let v2864 : BitVec 32 := Scalar.addi c0_i32_3452 v2863
  v2864.toNat
def k0_dev74 (d0 : Dev nD) : Nat :=
  let c0_i32_3489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_3488 : BitVec 32 := 1#32
  let v2897 : BitVec 32 := Scalar.muli v53 c1_i32_3488
  let v2898 : BitVec 32 := Scalar.addi c0_i32_3489 v2897
  v2898.toNat
def k0_dev75 (d0 : Dev nD) : Nat :=
  let c0_i32_3526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3525 : BitVec 32 := 1#32
  let v2931 : BitVec 32 := Scalar.muli v11 c1_i32_3525
  let v2932 : BitVec 32 := Scalar.addi c0_i32_3526 v2931
  v2932.toNat
def k0_dev76 (d0 : Dev nD) : Nat :=
  let c0_i32_3563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_3562 : BitVec 32 := 1#32
  let v2965 : BitVec 32 := Scalar.muli v17 c1_i32_3562
  let v2966 : BitVec 32 := Scalar.addi c0_i32_3563 v2965
  v2966.toNat
def k0_dev77 (d0 : Dev nD) : Nat :=
  let c0_i32_3600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_3599 : BitVec 32 := 1#32
  let v2999 : BitVec 32 := Scalar.muli v23 c1_i32_3599
  let v3000 : BitVec 32 := Scalar.addi c0_i32_3600 v2999
  v3000.toNat
def k0_dev78 (d0 : Dev nD) : Nat :=
  let c0_i32_3637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_3636 : BitVec 32 := 1#32
  let v3033 : BitVec 32 := Scalar.muli v29 c1_i32_3636
  let v3034 : BitVec 32 := Scalar.addi c0_i32_3637 v3033
  v3034.toNat
def k0_dev79 (d0 : Dev nD) : Nat :=
  let c0_i32_3674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_3673 : BitVec 32 := 1#32
  let v3067 : BitVec 32 := Scalar.muli v35 c1_i32_3673
  let v3068 : BitVec 32 := Scalar.addi c0_i32_3674 v3067
  v3068.toNat
def k0_dev80 (d0 : Dev nD) : Nat :=
  let c0_i32_3711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_3710 : BitVec 32 := 1#32
  let v3101 : BitVec 32 := Scalar.muli v41 c1_i32_3710
  let v3102 : BitVec 32 := Scalar.addi c0_i32_3711 v3101
  v3102.toNat
def k0_dev81 (d0 : Dev nD) : Nat :=
  let c0_i32_3748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_3747 : BitVec 32 := 1#32
  let v3135 : BitVec 32 := Scalar.muli v47 c1_i32_3747
  let v3136 : BitVec 32 := Scalar.addi c0_i32_3748 v3135
  v3136.toNat
def k0_dev82 (d0 : Dev nD) : Nat :=
  let c0_i32_3785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_3784 : BitVec 32 := 1#32
  let v3169 : BitVec 32 := Scalar.muli v53 c1_i32_3784
  let v3170 : BitVec 32 := Scalar.addi c0_i32_3785 v3169
  v3170.toNat
def k0_dev83 (d0 : Dev nD) : Nat :=
  let c0_i32_3822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_3821 : BitVec 32 := 1#32
  let v3203 : BitVec 32 := Scalar.muli v11 c1_i32_3821
  let v3204 : BitVec 32 := Scalar.addi c0_i32_3822 v3203
  v3204.toNat
def k0_dev84 (d0 : Dev nD) : Nat :=
  let c0_i32_3859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_3858 : BitVec 32 := 1#32
  let v3237 : BitVec 32 := Scalar.muli v17 c1_i32_3858
  let v3238 : BitVec 32 := Scalar.addi c0_i32_3859 v3237
  v3238.toNat
def k0_dev85 (d0 : Dev nD) : Nat :=
  let c0_i32_3896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_3895 : BitVec 32 := 1#32
  let v3271 : BitVec 32 := Scalar.muli v23 c1_i32_3895
  let v3272 : BitVec 32 := Scalar.addi c0_i32_3896 v3271
  v3272.toNat
def k0_dev86 (d0 : Dev nD) : Nat :=
  let c0_i32_3933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_3932 : BitVec 32 := 1#32
  let v3305 : BitVec 32 := Scalar.muli v29 c1_i32_3932
  let v3306 : BitVec 32 := Scalar.addi c0_i32_3933 v3305
  v3306.toNat
def k0_dev87 (d0 : Dev nD) : Nat :=
  let c0_i32_3970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_3969 : BitVec 32 := 1#32
  let v3339 : BitVec 32 := Scalar.muli v35 c1_i32_3969
  let v3340 : BitVec 32 := Scalar.addi c0_i32_3970 v3339
  v3340.toNat
def k0_dev88 (d0 : Dev nD) : Nat :=
  let c0_i32_4007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_4006 : BitVec 32 := 1#32
  let v3373 : BitVec 32 := Scalar.muli v41 c1_i32_4006
  let v3374 : BitVec 32 := Scalar.addi c0_i32_4007 v3373
  v3374.toNat
def k0_dev89 (d0 : Dev nD) : Nat :=
  let c0_i32_4044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_4043 : BitVec 32 := 1#32
  let v3407 : BitVec 32 := Scalar.muli v47 c1_i32_4043
  let v3408 : BitVec 32 := Scalar.addi c0_i32_4044 v3407
  v3408.toNat
def k0_dev90 (d0 : Dev nD) : Nat :=
  let c0_i32_4081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_4080 : BitVec 32 := 1#32
  let v3441 : BitVec 32 := Scalar.muli v53 c1_i32_4080
  let v3442 : BitVec 32 := Scalar.addi c0_i32_4081 v3441
  v3442.toNat
def k0_dev91 (d0 : Dev nD) : Nat :=
  let c0_i32_4118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_4117 : BitVec 32 := 1#32
  let v3475 : BitVec 32 := Scalar.muli v11 c1_i32_4117
  let v3476 : BitVec 32 := Scalar.addi c0_i32_4118 v3475
  v3476.toNat
def k0_dev92 (d0 : Dev nD) : Nat :=
  let c0_i32_4155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_4154 : BitVec 32 := 1#32
  let v3509 : BitVec 32 := Scalar.muli v17 c1_i32_4154
  let v3510 : BitVec 32 := Scalar.addi c0_i32_4155 v3509
  v3510.toNat
def k0_dev93 (d0 : Dev nD) : Nat :=
  let c0_i32_4192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_4191 : BitVec 32 := 1#32
  let v3543 : BitVec 32 := Scalar.muli v23 c1_i32_4191
  let v3544 : BitVec 32 := Scalar.addi c0_i32_4192 v3543
  v3544.toNat
def k0_dev94 (d0 : Dev nD) : Nat :=
  let c0_i32_4229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_4228 : BitVec 32 := 1#32
  let v3577 : BitVec 32 := Scalar.muli v29 c1_i32_4228
  let v3578 : BitVec 32 := Scalar.addi c0_i32_4229 v3577
  v3578.toNat
def k0_dev95 (d0 : Dev nD) : Nat :=
  let c0_i32_4266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_4265 : BitVec 32 := 1#32
  let v3611 : BitVec 32 := Scalar.muli v35 c1_i32_4265
  let v3612 : BitVec 32 := Scalar.addi c0_i32_4266 v3611
  v3612.toNat
def k0_dev96 (d0 : Dev nD) : Nat :=
  let c0_i32_4303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_4302 : BitVec 32 := 1#32
  let v3645 : BitVec 32 := Scalar.muli v41 c1_i32_4302
  let v3646 : BitVec 32 := Scalar.addi c0_i32_4303 v3645
  v3646.toNat
def k0_dev97 (d0 : Dev nD) : Nat :=
  let c0_i32_4340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_4339 : BitVec 32 := 1#32
  let v3679 : BitVec 32 := Scalar.muli v47 c1_i32_4339
  let v3680 : BitVec 32 := Scalar.addi c0_i32_4340 v3679
  v3680.toNat
def k0_dev98 (d0 : Dev nD) : Nat :=
  let c0_i32_4377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_4376 : BitVec 32 := 1#32
  let v3713 : BitVec 32 := Scalar.muli v53 c1_i32_4376
  let v3714 : BitVec 32 := Scalar.addi c0_i32_4377 v3713
  v3714.toNat
def k0_dev99 (d0 : Dev nD) : Nat :=
  let c0_i32_4414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_4413 : BitVec 32 := 1#32
  let v3747 : BitVec 32 := Scalar.muli v11 c1_i32_4413
  let v3748 : BitVec 32 := Scalar.addi c0_i32_4414 v3747
  v3748.toNat
def k0_dev100 (d0 : Dev nD) : Nat :=
  let c0_i32_4451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_4450 : BitVec 32 := 1#32
  let v3781 : BitVec 32 := Scalar.muli v17 c1_i32_4450
  let v3782 : BitVec 32 := Scalar.addi c0_i32_4451 v3781
  v3782.toNat
def k0_dev101 (d0 : Dev nD) : Nat :=
  let c0_i32_4488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_4487 : BitVec 32 := 1#32
  let v3815 : BitVec 32 := Scalar.muli v23 c1_i32_4487
  let v3816 : BitVec 32 := Scalar.addi c0_i32_4488 v3815
  v3816.toNat
def k0_dev102 (d0 : Dev nD) : Nat :=
  let c0_i32_4525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_4524 : BitVec 32 := 1#32
  let v3849 : BitVec 32 := Scalar.muli v29 c1_i32_4524
  let v3850 : BitVec 32 := Scalar.addi c0_i32_4525 v3849
  v3850.toNat
def k0_dev103 (d0 : Dev nD) : Nat :=
  let c0_i32_4562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_4561 : BitVec 32 := 1#32
  let v3883 : BitVec 32 := Scalar.muli v35 c1_i32_4561
  let v3884 : BitVec 32 := Scalar.addi c0_i32_4562 v3883
  v3884.toNat
def k0_dev104 (d0 : Dev nD) : Nat :=
  let c0_i32_4599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_4598 : BitVec 32 := 1#32
  let v3917 : BitVec 32 := Scalar.muli v41 c1_i32_4598
  let v3918 : BitVec 32 := Scalar.addi c0_i32_4599 v3917
  v3918.toNat
def k0_dev105 (d0 : Dev nD) : Nat :=
  let c0_i32_4636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_4635 : BitVec 32 := 1#32
  let v3951 : BitVec 32 := Scalar.muli v47 c1_i32_4635
  let v3952 : BitVec 32 := Scalar.addi c0_i32_4636 v3951
  v3952.toNat
def k0_dev106 (d0 : Dev nD) : Nat :=
  let c0_i32_4673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_4672 : BitVec 32 := 1#32
  let v3985 : BitVec 32 := Scalar.muli v53 c1_i32_4672
  let v3986 : BitVec 32 := Scalar.addi c0_i32_4673 v3985
  v3986.toNat
def k0_dev107 (d0 : Dev nD) : Nat :=
  let c0_i32_4710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_4709 : BitVec 32 := 1#32
  let v4019 : BitVec 32 := Scalar.muli v11 c1_i32_4709
  let v4020 : BitVec 32 := Scalar.addi c0_i32_4710 v4019
  v4020.toNat
def k0_dev108 (d0 : Dev nD) : Nat :=
  let c0_i32_4747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32 : BitVec 32 := 4294967295#32
  let v12 : BitVec 32 := Scalar.addi v5 c_m1_i32
  let c16_i32_4 : BitVec 32 := 16#32
  let v13 : BitVec 32 := Scalar.addi v12 c16_i32_4
  let c8_i32_5 : BitVec 32 := 8#32
  let v14 : BitVec 32 := Scalar.remsi v13 c8_i32_5
  let c4_i32_6 : BitVec 32 := 4#32
  let v15 : BitVec 1 := Scalar.cmpi .slt v14 c4_i32_6
  let c11_i32_7 : BitVec 32 := 11#32
  let v16 : BitVec 32 := Scalar.subi c11_i32_7 v14
  let v17 : BitVec 32 := Scalar.select v15 v14 v16
  let c1_i32_4746 : BitVec 32 := 1#32
  let v4053 : BitVec 32 := Scalar.muli v17 c1_i32_4746
  let v4054 : BitVec 32 := Scalar.addi c0_i32_4747 v4053
  v4054.toNat
def k0_dev109 (d0 : Dev nD) : Nat :=
  let c0_i32_4784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v18 : BitVec 32 := Scalar.addi v5 c1_i32_8
  let c16_i32_9 : BitVec 32 := 16#32
  let v19 : BitVec 32 := Scalar.addi v18 c16_i32_9
  let c8_i32_10 : BitVec 32 := 8#32
  let v20 : BitVec 32 := Scalar.remsi v19 c8_i32_10
  let c4_i32_11 : BitVec 32 := 4#32
  let v21 : BitVec 1 := Scalar.cmpi .slt v20 c4_i32_11
  let c11_i32_12 : BitVec 32 := 11#32
  let v22 : BitVec 32 := Scalar.subi c11_i32_12 v20
  let v23 : BitVec 32 := Scalar.select v21 v20 v22
  let c1_i32_4783 : BitVec 32 := 1#32
  let v4087 : BitVec 32 := Scalar.muli v23 c1_i32_4783
  let v4088 : BitVec 32 := Scalar.addi c0_i32_4784 v4087
  v4088.toNat
def k0_dev110 (d0 : Dev nD) : Nat :=
  let c0_i32_4821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_13 : BitVec 32 := 4294967295#32
  let v24 : BitVec 32 := Scalar.addi v5 c_m1_i32_13
  let c16_i32_14 : BitVec 32 := 16#32
  let v25 : BitVec 32 := Scalar.addi v24 c16_i32_14
  let c8_i32_15 : BitVec 32 := 8#32
  let v26 : BitVec 32 := Scalar.remsi v25 c8_i32_15
  let c4_i32_16 : BitVec 32 := 4#32
  let v27 : BitVec 1 := Scalar.cmpi .slt v26 c4_i32_16
  let c11_i32_17 : BitVec 32 := 11#32
  let v28 : BitVec 32 := Scalar.subi c11_i32_17 v26
  let v29 : BitVec 32 := Scalar.select v27 v26 v28
  let c1_i32_4820 : BitVec 32 := 1#32
  let v4121 : BitVec 32 := Scalar.muli v29 c1_i32_4820
  let v4122 : BitVec 32 := Scalar.addi c0_i32_4821 v4121
  v4122.toNat
def k0_dev111 (d0 : Dev nD) : Nat :=
  let c0_i32_4858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_18 : BitVec 32 := 1#32
  let v30 : BitVec 32 := Scalar.addi v5 c1_i32_18
  let c16_i32_19 : BitVec 32 := 16#32
  let v31 : BitVec 32 := Scalar.addi v30 c16_i32_19
  let c8_i32_20 : BitVec 32 := 8#32
  let v32 : BitVec 32 := Scalar.remsi v31 c8_i32_20
  let c4_i32_21 : BitVec 32 := 4#32
  let v33 : BitVec 1 := Scalar.cmpi .slt v32 c4_i32_21
  let c11_i32_22 : BitVec 32 := 11#32
  let v34 : BitVec 32 := Scalar.subi c11_i32_22 v32
  let v35 : BitVec 32 := Scalar.select v33 v32 v34
  let c1_i32_4857 : BitVec 32 := 1#32
  let v4155 : BitVec 32 := Scalar.muli v35 c1_i32_4857
  let v4156 : BitVec 32 := Scalar.addi c0_i32_4858 v4155
  v4156.toNat
def k0_dev112 (d0 : Dev nD) : Nat :=
  let c0_i32_4895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_23 : BitVec 32 := 4294967295#32
  let v36 : BitVec 32 := Scalar.addi v5 c_m1_i32_23
  let c16_i32_24 : BitVec 32 := 16#32
  let v37 : BitVec 32 := Scalar.addi v36 c16_i32_24
  let c8_i32_25 : BitVec 32 := 8#32
  let v38 : BitVec 32 := Scalar.remsi v37 c8_i32_25
  let c4_i32_26 : BitVec 32 := 4#32
  let v39 : BitVec 1 := Scalar.cmpi .slt v38 c4_i32_26
  let c11_i32_27 : BitVec 32 := 11#32
  let v40 : BitVec 32 := Scalar.subi c11_i32_27 v38
  let v41 : BitVec 32 := Scalar.select v39 v38 v40
  let c1_i32_4894 : BitVec 32 := 1#32
  let v4189 : BitVec 32 := Scalar.muli v41 c1_i32_4894
  let v4190 : BitVec 32 := Scalar.addi c0_i32_4895 v4189
  v4190.toNat
def k0_dev113 (d0 : Dev nD) : Nat :=
  let c0_i32_4932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_28 : BitVec 32 := 1#32
  let v42 : BitVec 32 := Scalar.addi v5 c1_i32_28
  let c16_i32_29 : BitVec 32 := 16#32
  let v43 : BitVec 32 := Scalar.addi v42 c16_i32_29
  let c8_i32_30 : BitVec 32 := 8#32
  let v44 : BitVec 32 := Scalar.remsi v43 c8_i32_30
  let c4_i32_31 : BitVec 32 := 4#32
  let v45 : BitVec 1 := Scalar.cmpi .slt v44 c4_i32_31
  let c11_i32_32 : BitVec 32 := 11#32
  let v46 : BitVec 32 := Scalar.subi c11_i32_32 v44
  let v47 : BitVec 32 := Scalar.select v45 v44 v46
  let c1_i32_4931 : BitVec 32 := 1#32
  let v4223 : BitVec 32 := Scalar.muli v47 c1_i32_4931
  let v4224 : BitVec 32 := Scalar.addi c0_i32_4932 v4223
  v4224.toNat
def k0_dev114 (d0 : Dev nD) : Nat :=
  let c0_i32_4969 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_33 : BitVec 32 := 4294967295#32
  let v48 : BitVec 32 := Scalar.addi v5 c_m1_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let c1_i32_4968 : BitVec 32 := 1#32
  let v4257 : BitVec 32 := Scalar.muli v53 c1_i32_4968
  let v4258 : BitVec 32 := Scalar.addi c0_i32_4969 v4257
  v4258.toNat
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Unbounded.lean ====
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F] [Named F]

def κ : String → Option EReal := fun
  | "clip_hi" => some ⊤
  | "clip_lo" => some ⊥
  | _ => none

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Steps.lean ====
module

public import proofs.«01_k».proof.Proof.Gen.KernelIdeal
public import proofs.«01_k».proof.Proof.Gen.KernelIdeal.Skeleton

/-! # The kernel's body as a chain of a few kinds of step

The printed body is about two hundred pieces of straight line code. Here the same operations, in the same order, are
written as a chain of seven kinds of step over the memrefs they use: signal a neighbour, wait for the barrier,
multiply a block of rows, start one message, wait for one message (its own half, then the incoming half), add the
landed partial sum to this device's, and finish a band (the last addition and the activation). -/

@[expose] public section

noncomputable section

namespace Cert.Ring

open Cert.KernelIdeal Cert.KernelIdeal.Gen
open Idealize.ShloMosaic Idealize.SL.Sem

variable {F : FTy → Type} [FloatOps F]

/-- A program of the kernel's core. -/
abbrev KProg (F : FTy → Type) : Type 1 := Prog (TpuEff nD τ sig (Elt F) Λ₀ .tc) PUnit

/-- The six buffers: the two inputs, the output, the partial products, the send buffers, the landing slots. -/
abbrev xM : Memref sig .tc .vmem S1024x128 .f32 := Memref.whole cc0_stg0_0
abbrev wM : Memref sig .tc .vmem S128x1024 .f32 := Memref.whole cc0_stg1_0
abbrev oM : Memref sig .tc .vmem S1024x1024 .f32 := Memref.whole cc0_stg2_0
abbrev pM : Memref sig .tc .vmem S1024x1024 .f32 := Memref.whole cc0_scratch0
abbrev bM : Memref sig .tc .vmem S8x16x1024 .f32 := Memref.whole cc0_scratch1
abbrev sM : Memref sig .tc .vmem S8x3x16x1024 .f32 := Memref.whole cc0_scratch2

/-- A band's rows lie in the array. -/
abbrev BandIn (off : Fin 2 → ℕ) : Prop := ∀ a, off a + S16x1024.size a ≤ S1024x1024.size a

theorem sem_in (k : Fin 8) (p : Fin 3) : ∀ a, (![k.val, p.val] : Fin 2 → ℕ) a + S1x1.size a ≤ S8x3.size a := by
  revert k p; decide
theorem slot_in (k : Fin 8) (p : Fin 3) : ∀ a, (![k.val, p.val, 0, 0] : Fin 4 → ℕ) a + S1x1x16x1024.size a ≤ S8x3x16x1024.size a := by
  revert k p; decide
theorem buf_in (k : Fin 8) : ∀ a, (![k.val, 0, 0] : Fin 3 → ℕ) a + S1x16x1024.size a ≤ S8x16x1024.size a := by
  revert k; decide

/-- Sixteen rows of a 1024 by 1024 buffer. -/
def rowV (M : Memref sig .tc .vmem S1024x1024 .f32) (off : Fin 2 → ℕ) (h : BandIn off) : Memref sig .tc .vmem S16x1024 .f32 :=
  M.slice (Rect.unit (s := S1024x1024) off S16x1024.size h) (fun _ => rfl)
/-- Landing slot `p` of stream `k`. -/
def slotV (k : Fin 8) (p : Fin 3) : Memref sig .tc .vmem S16x1024 .f32 :=
  (sM.slice (Rect.unit (s := S8x3x16x1024) ![k.val, p.val, 0, 0] S1x1x16x1024.size (slot_in k p)) (fun _ => rfl)).squeeze S16x1024 squeezes_S1x1x16x1024_S16x1024
/-- The send buffer of stream `k`. -/
def bufV (k : Fin 8) : Memref sig .tc .vmem S16x1024 .f32 :=
  (bM.slice (Rect.unit (s := S8x16x1024) ![k.val, 0, 0] S1x16x1024.size (buf_in k)) (fun _ => rfl)).squeeze S16x1024 squeezes_S1x16x1024_S16x1024

/-- The send and receive semaphores of stream `k`, place `p`. -/
def sendS (k : Fin 8) (p : Fin 3) : DmaSem sig :=
  ((cc0_scratch3.slice (Rect.unit (s := S8x3) ![k.val, p.val] S1x1.size (sem_in k p))).squeeze S_ squeezes_S1x1_S_).sem
def recvS (k : Fin 8) (p : Fin 3) : DmaSem sig :=
  ((cc0_scratch4.slice (Rect.unit (s := S8x3) ![k.val, p.val] S1x1.size (sem_in k p))).squeeze S_ squeezes_S1x1_S_).sem
/-- The barrier semaphore. -/
abbrev barS : Sem sig := (SemArray.scalar (sig.barrier 0 rfl) : Sems sig S_).sem

/-- Whole 32-bit words: what a transfer asks of each side. -/
abbrev Words (M : Memref sig .tc .vmem S16x1024 .f32) : Prop := M.view.WordExact

/-- The product of 64 rows of `x` with `w`; of 128 rows. -/
def prod64 (a : Vec F S64x128 .f32) (b : Vec F S128x1024 .f32) : FVec F S64x1024 .f32 := k0_pay3 a b
def prod128 (a : Vec F S128x128 .f32) (b : Vec F S128x1024 .f32) : FVec F S128x1024 .f32 := k0_pay6 a b
/-- This device's band plus what landed, as a send buffer holds it; -/
def addV (a : Vec F S16x1024 .f32) (b : Vec F S1x1x16x1024 .f32) : FVec F S1x16x1024 .f32 := k0_pay7 a b
/-- and the last sum through the activation. -/
def finV (a : Vec F S16x1024 .f32) (b : Vec F S1x1x16x1024 .f32) : FVec F S16x1024 .f32 := k0_pay69 a b

def signalT (n : Dev nD) (K : KProg F) : KProg F := .op (.semSignal (Dev.tc n) barS (1#32 : BitVec 32).toInt) fun _ => K
def barrierT (K : KProg F) : KProg F := .op (.semWait barS (2#32 : BitVec 32).toInt) fun _ => K

def sendT (k : Fin 8) (p : Fin 3) (src dst : Memref sig .tc .vmem S16x1024 .f32) (hs : Words src) (hd : Words dst) (n : Dev nD) (K : KProg F) : KProg F :=
  .op (.enqueueDma src (.remote (Dev.tc n) dst (.dma (sendS k p))) (.dma (recvS k p)) hs hd ⟨⟨rfl, Or.inl rfl⟩, trivial⟩) fun _ => K
def waitsT (k : Fin 8) (p : Fin 3) (src dst : Memref sig .tc .vmem S16x1024 .f32) (hs : Words src) (hd : Words dst) (K : KProg F) : KProg F :=
  .op (.waitDma2 (sendS k p) dst src hd hs) fun _ => .op (.waitDma2 (recvS k p) src dst hs hd) fun _ => K

def gemm64T (ox : Fin 2 → ℕ) (hx : ∀ a, ox a + S64x128.size a ≤ S1024x128.size a) (op : Fin 2 → ℕ)
    (hp : ∀ a, op a + S64x1024.size a ≤ S1024x1024.size a) (K : KProg F) : KProg F :=
  .op (.load xM (Rect.unit (s := S1024x128) ox S64x128.size hx).toLoadRect (View.loadsAt_vmem h_S64x128)) fun a =>
  .op (.load wM (Rect.unit (s := S128x1024) ![0, 0] S128x1024.size inb_S128x1024_S128x1024_0_0).toLoadRect (View.loadsAt_vmem h_S128x1024)) fun b =>
  .op (.load pM (Rect.unit (s := S1024x1024) op S64x1024.size hp).toLoadRect (View.loadsAt_vmem h_S64x1024)) fun _ =>
  .op (.store pM (Rect.unit (s := S1024x1024) op S64x1024.size hp) (prod64 a b) Finset.univ (View.stores_vmem_bits_univ h_S64x1024 rfl) (.inl rfl)) fun _ => K
def gemm128T (ox : Fin 2 → ℕ) (hx : ∀ a, ox a + S128x128.size a ≤ S1024x128.size a) (op : Fin 2 → ℕ)
    (hp : ∀ a, op a + S128x1024.size a ≤ S1024x1024.size a) (K : KProg F) : KProg F :=
  .op (.load xM (Rect.unit (s := S1024x128) ox S128x128.size hx).toLoadRect (View.loadsAt_vmem h_S128x128)) fun a =>
  .op (.load wM (Rect.unit (s := S128x1024) ![0, 0] S128x1024.size inb_S128x1024_S128x1024_0_0).toLoadRect (View.loadsAt_vmem h_S128x1024)) fun b =>
  .op (.load pM (Rect.unit (s := S1024x1024) op S128x1024.size hp).toLoadRect (View.loadsAt_vmem h_S128x1024)) fun _ =>
  .op (.store pM (Rect.unit (s := S1024x1024) op S128x1024.size hp) (prod128 a b) Finset.univ (View.stores_vmem_bits_univ h_S128x1024 rfl) (.inl rfl)) fun _ => K

def addT (k : Fin 8) (p : Fin 3) (off : Fin 2 → ℕ) (h : BandIn off) (K : KProg F) : KProg F :=
  .op (.load pM (Rect.unit (s := S1024x1024) off S16x1024.size h).toLoadRect (View.loadsAt_vmem h_S16x1024)) fun a =>
  .op (.load sM (Rect.unit (s := S8x3x16x1024) ![k.val, p.val, 0, 0] S1x1x16x1024.size (slot_in k p)).toLoadRect (View.loadsAt_vmem h_S1x1x16x1024)) fun b =>
  .op (.load bM (Rect.unit (s := S8x16x1024) ![k.val, 0, 0] S1x16x1024.size (buf_in k)).toLoadRect (View.loadsAt_vmem h_S1x16x1024)) fun _ =>
  .op (.store bM (Rect.unit (s := S8x16x1024) ![k.val, 0, 0] S1x16x1024.size (buf_in k)) (addV a b) Finset.univ (View.stores_vmem_bits_univ h_S1x16x1024 rfl) (.inl rfl)) fun _ => K
def finishT (k : Fin 8) (p : Fin 3) (off : Fin 2 → ℕ) (h : BandIn off) (oo : Fin 2 → ℕ) (ho : BandIn oo) (K : KProg F) : KProg F :=
  .op (.load pM (Rect.unit (s := S1024x1024) off S16x1024.size h).toLoadRect (View.loadsAt_vmem h_S16x1024)) fun a =>
  .op (.load sM (Rect.unit (s := S8x3x16x1024) ![k.val, p.val, 0, 0] S1x1x16x1024.size (slot_in k p)).toLoadRect (View.loadsAt_vmem h_S1x1x16x1024)) fun b =>
  .op (.load oM (Rect.unit (s := S1024x1024) oo S16x1024.size ho).toLoadRect (View.loadsAt_vmem h_S16x1024)) fun _ =>
  .op (.store oM (Rect.unit (s := S1024x1024) oo S16x1024.size ho) (finV a b) Finset.univ (View.stores_vmem_bits_univ h_S16x1024 rfl) (.inl rfl)) fun _ => K

theorem row_words (M : Memref sig .tc .vmem S1024x1024 .f32) (off : Fin 2 → ℕ) (h : BandIn off) : Words (rowV M off h) := View.wordExact_bits rfl
theorem slot_words (k : Fin 8) (p : Fin 3) : Words (slotV k p) := (View.wordExact_bits rfl).reshape _ _
theorem buf_words (k : Fin 8) : Words (bufV k) := (View.wordExact_bits rfl).reshape _ _

/-- Steps one and two of every stream, then `K`. -/
def part1 (c : Dev nD) (K : KProg F) : KProg F :=
  gemm128T (k0_off6 c 1#32) (k0_off6_inb c 0) (k0_off7 c 1#32) (k0_off7_inb c 0) <|
  gemm128T (k0_off8 c) (k0_off8_inb c) (k0_off9 c) (k0_off9_inb c) <|
  waitsT 0 0 (rowV pM (k0_off3 c 0#32) (k0_off3_inb c 0)) (slotV 0 0) (row_words _ _ _) (slot_words _ _) <|
  addT 0 0 (k0_off10 c 1#32 0#32) (k0_off10_inb c 0) <|
  sendT 0 1 (bufV 0) (slotV 0 1) (buf_words _) (slot_words _ _) ⟨k0_dev11 c, k0_dev11_lt c⟩ <|
  waitsT 1 0 (rowV pM (k0_off3 c 64#32) (k0_off3_inb c 4)) (slotV 1 0) (row_words _ _ _) (slot_words _ _) <|
  addT 1 0 (k0_off10 c 4294967295#32 64#32) (k0_off10_inb c 1) <|
  sendT 1 1 (bufV 1) (slotV 1 1) (buf_words _) (slot_words _ _) ⟨k0_dev12 c, k0_dev12_lt c⟩ <|
  waitsT 2 0 (rowV pM (k0_off3 c 16#32) (k0_off3_inb c 1)) (slotV 2 0) (row_words _ _ _) (slot_words _ _) <|
  addT 2 0 (k0_off10 c 1#32 16#32) (k0_off10_inb c 2) <|
  sendT 2 1 (bufV 2) (slotV 2 1) (buf_words _) (slot_words _ _) ⟨k0_dev13 c, k0_dev13_lt c⟩ <|
  waitsT 3 0 (rowV pM (k0_off3 c 80#32) (k0_off3_inb c 5)) (slotV 3 0) (row_words _ _ _) (slot_words _ _) <|
  addT 3 0 (k0_off10 c 4294967295#32 80#32) (k0_off10_inb c 3) <|
  sendT 3 1 (bufV 3) (slotV 3 1) (buf_words _) (slot_words _ _) ⟨k0_dev14 c, k0_dev14_lt c⟩ <|
  waitsT 4 0 (rowV pM (k0_off3 c 32#32) (k0_off3_inb c 2)) (slotV 4 0) (row_words _ _ _) (slot_words _ _) <|
  addT 4 0 (k0_off10 c 1#32 32#32) (k0_off10_inb c 4) <|
  sendT 4 1 (bufV 4) (slotV 4 1) (buf_words _) (slot_words _ _) ⟨k0_dev15 c, k0_dev15_lt c⟩ <|
  waitsT 5 0 (rowV pM (k0_off3 c 96#32) (k0_off3_inb c 6)) (slotV 5 0) (row_words _ _ _) (slot_words _ _) <|
  addT 5 0 (k0_off10 c 4294967295#32 96#32) (k0_off10_inb c 5) <|
  sendT 5 1 (bufV 5) (slotV 5 1) (buf_words _) (slot_words _ _) ⟨k0_dev16 c, k0_dev16_lt c⟩ <|
  waitsT 6 0 (rowV pM (k0_off3 c 48#32) (k0_off3_inb c 3)) (slotV 6 0) (row_words _ _ _) (slot_words _ _) <|
  addT 6 0 (k0_off10 c 1#32 48#32) (k0_off10_inb c 6) <|
  sendT 6 1 (bufV 6) (slotV 6 1) (buf_words _) (slot_words _ _) ⟨k0_dev17 c, k0_dev17_lt c⟩ <|
  waitsT 7 0 (rowV pM (k0_off3 c 112#32) (k0_off3_inb c 7)) (slotV 7 0) (row_words _ _ _) (slot_words _ _) <|
  addT 7 0 (k0_off10 c 4294967295#32 112#32) (k0_off10_inb c 7) <|
  sendT 7 1 (bufV 7) (slotV 7 1) (buf_words _) (slot_words _ _) ⟨k0_dev18 c, k0_dev18_lt c⟩ <|
  gemm128T (k0_off6 c 2#32) (k0_off6_inb c 1) (k0_off7 c 2#32) (k0_off7_inb c 1) <|
  gemm128T (k0_off6 c 4294967294#32) (k0_off6_inb c 2) (k0_off7 c 4294967294#32) (k0_off7_inb c 2) <|
  waitsT 0 1 (bufV 0) (slotV 0 1) (buf_words _) (slot_words _ _) <|
  addT 0 1 (k0_off10 c 2#32 0#32) (k0_off10_inb c 8) <|
  sendT 0 2 (bufV 0) (slotV 0 2) (buf_words _) (slot_words _ _) ⟨k0_dev19 c, k0_dev19_lt c⟩ <|
  waitsT 1 1 (bufV 1) (slotV 1 1) (buf_words _) (slot_words _ _) <|
  addT 1 1 (k0_off10 c 4294967294#32 64#32) (k0_off10_inb c 9) <|
  sendT 1 2 (bufV 1) (slotV 1 2) (buf_words _) (slot_words _ _) ⟨k0_dev20 c, k0_dev20_lt c⟩ <|
  waitsT 2 1 (bufV 2) (slotV 2 1) (buf_words _) (slot_words _ _) <|
  addT 2 1 (k0_off10 c 2#32 16#32) (k0_off10_inb c 10) <|
  sendT 2 2 (bufV 2) (slotV 2 2) (buf_words _) (slot_words _ _) ⟨k0_dev21 c, k0_dev21_lt c⟩ <|
  waitsT 3 1 (bufV 3) (slotV 3 1) (buf_words _) (slot_words _ _) <|
  addT 3 1 (k0_off10 c 4294967294#32 80#32) (k0_off10_inb c 11) <|
  sendT 3 2 (bufV 3) (slotV 3 2) (buf_words _) (slot_words _ _) ⟨k0_dev22 c, k0_dev22_lt c⟩ <|
  waitsT 4 1 (bufV 4) (slotV 4 1) (buf_words _) (slot_words _ _) <|
  addT 4 1 (k0_off10 c 2#32 32#32) (k0_off10_inb c 12) <|
  sendT 4 2 (bufV 4) (slotV 4 2) (buf_words _) (slot_words _ _) ⟨k0_dev23 c, k0_dev23_lt c⟩ <|
  waitsT 5 1 (bufV 5) (slotV 5 1) (buf_words _) (slot_words _ _) <|
  addT 5 1 (k0_off10 c 4294967294#32 96#32) (k0_off10_inb c 13) <|
  sendT 5 2 (bufV 5) (slotV 5 2) (buf_words _) (slot_words _ _) ⟨k0_dev24 c, k0_dev24_lt c⟩ <|
  waitsT 6 1 (bufV 6) (slotV 6 1) (buf_words _) (slot_words _ _) <|
  addT 6 1 (k0_off10 c 2#32 48#32) (k0_off10_inb c 14) <|
  sendT 6 2 (bufV 6) (slotV 6 2) (buf_words _) (slot_words _ _) ⟨k0_dev25 c, k0_dev25_lt c⟩ <|
  waitsT 7 1 (bufV 7) (slotV 7 1) (buf_words _) (slot_words _ _) <|
  addT 7 1 (k0_off10 c 4294967294#32 112#32) (k0_off10_inb c 15) <|
  sendT 7 2 (bufV 7) (slotV 7 2) (buf_words _) (slot_words _ _) ⟨k0_dev26 c, k0_dev26_lt c⟩ <|
  K

/-- Steps three to six, then `K`. -/
def part2 (c : Dev nD) (K : KProg F) : KProg F :=
  gemm128T (k0_off6 c 3#32) (k0_off6_inb c 3) (k0_off7 c 3#32) (k0_off7_inb c 3) <|
  gemm128T (k0_off6 c 4294967293#32) (k0_off6_inb c 4) (k0_off7 c 4294967293#32) (k0_off7_inb c 4) <|
  waitsT 0 2 (bufV 0) (slotV 0 2) (buf_words _) (slot_words _ _) <|
  addT 0 2 (k0_off10 c 3#32 0#32) (k0_off10_inb c 16) <|
  sendT 0 0 (bufV 0) (slotV 0 0) (buf_words _) (slot_words _ _) ⟨k0_dev27 c, k0_dev27_lt c⟩ <|
  waitsT 1 2 (bufV 1) (slotV 1 2) (buf_words _) (slot_words _ _) <|
  addT 1 2 (k0_off10 c 4294967293#32 64#32) (k0_off10_inb c 17) <|
  sendT 1 0 (bufV 1) (slotV 1 0) (buf_words _) (slot_words _ _) ⟨k0_dev28 c, k0_dev28_lt c⟩ <|
  waitsT 2 2 (bufV 2) (slotV 2 2) (buf_words _) (slot_words _ _) <|
  addT 2 2 (k0_off10 c 3#32 16#32) (k0_off10_inb c 18) <|
  sendT 2 0 (bufV 2) (slotV 2 0) (buf_words _) (slot_words _ _) ⟨k0_dev29 c, k0_dev29_lt c⟩ <|
  waitsT 3 2 (bufV 3) (slotV 3 2) (buf_words _) (slot_words _ _) <|
  addT 3 2 (k0_off10 c 4294967293#32 80#32) (k0_off10_inb c 19) <|
  sendT 3 0 (bufV 3) (slotV 3 0) (buf_words _) (slot_words _ _) ⟨k0_dev30 c, k0_dev30_lt c⟩ <|
  waitsT 4 2 (bufV 4) (slotV 4 2) (buf_words _) (slot_words _ _) <|
  addT 4 2 (k0_off10 c 3#32 32#32) (k0_off10_inb c 20) <|
  sendT 4 0 (bufV 4) (slotV 4 0) (buf_words _) (slot_words _ _) ⟨k0_dev31 c, k0_dev31_lt c⟩ <|
  waitsT 5 2 (bufV 5) (slotV 5 2) (buf_words _) (slot_words _ _) <|
  addT 5 2 (k0_off10 c 4294967293#32 96#32) (k0_off10_inb c 21) <|
  sendT 5 0 (bufV 5) (slotV 5 0) (buf_words _) (slot_words _ _) ⟨k0_dev32 c, k0_dev32_lt c⟩ <|
  waitsT 6 2 (bufV 6) (slotV 6 2) (buf_words _) (slot_words _ _) <|
  addT 6 2 (k0_off10 c 3#32 48#32) (k0_off10_inb c 22) <|
  sendT 6 0 (bufV 6) (slotV 6 0) (buf_words _) (slot_words _ _) ⟨k0_dev33 c, k0_dev33_lt c⟩ <|
  waitsT 7 2 (bufV 7) (slotV 7 2) (buf_words _) (slot_words _ _) <|
  addT 7 2 (k0_off10 c 4294967293#32 112#32) (k0_off10_inb c 23) <|
  sendT 7 0 (bufV 7) (slotV 7 0) (buf_words _) (slot_words _ _) ⟨k0_dev34 c, k0_dev34_lt c⟩ <|
  gemm128T (k0_off6 c 4#32) (k0_off6_inb c 5) (k0_off7 c 4#32) (k0_off7_inb c 5) <|
  waitsT 0 0 (bufV 0) (slotV 0 0) (buf_words _) (slot_words _ _) <|
  addT 0 0 (k0_off10 c 4#32 0#32) (k0_off10_inb c 24) <|
  sendT 0 1 (bufV 0) (slotV 0 1) (buf_words _) (slot_words _ _) ⟨k0_dev35 c, k0_dev35_lt c⟩ <|
  waitsT 1 0 (bufV 1) (slotV 1 0) (buf_words _) (slot_words _ _) <|
  addT 1 0 (k0_off10 c 4294967292#32 64#32) (k0_off10_inb c 25) <|
  sendT 1 1 (bufV 1) (slotV 1 1) (buf_words _) (slot_words _ _) ⟨k0_dev36 c, k0_dev36_lt c⟩ <|
  waitsT 2 0 (bufV 2) (slotV 2 0) (buf_words _) (slot_words _ _) <|
  addT 2 0 (k0_off10 c 4#32 16#32) (k0_off10_inb c 26) <|
  sendT 2 1 (bufV 2) (slotV 2 1) (buf_words _) (slot_words _ _) ⟨k0_dev37 c, k0_dev37_lt c⟩ <|
  waitsT 3 0 (bufV 3) (slotV 3 0) (buf_words _) (slot_words _ _) <|
  addT 3 0 (k0_off10 c 4294967292#32 80#32) (k0_off10_inb c 27) <|
  sendT 3 1 (bufV 3) (slotV 3 1) (buf_words _) (slot_words _ _) ⟨k0_dev38 c, k0_dev38_lt c⟩ <|
  waitsT 4 0 (bufV 4) (slotV 4 0) (buf_words _) (slot_words _ _) <|
  addT 4 0 (k0_off10 c 4#32 32#32) (k0_off10_inb c 28) <|
  sendT 4 1 (bufV 4) (slotV 4 1) (buf_words _) (slot_words _ _) ⟨k0_dev39 c, k0_dev39_lt c⟩ <|
  waitsT 5 0 (bufV 5) (slotV 5 0) (buf_words _) (slot_words _ _) <|
  addT 5 0 (k0_off10 c 4294967292#32 96#32) (k0_off10_inb c 29) <|
  sendT 5 1 (bufV 5) (slotV 5 1) (buf_words _) (slot_words _ _) ⟨k0_dev40 c, k0_dev40_lt c⟩ <|
  waitsT 6 0 (bufV 6) (slotV 6 0) (buf_words _) (slot_words _ _) <|
  addT 6 0 (k0_off10 c 4#32 48#32) (k0_off10_inb c 30) <|
  sendT 6 1 (bufV 6) (slotV 6 1) (buf_words _) (slot_words _ _) ⟨k0_dev41 c, k0_dev41_lt c⟩ <|
  waitsT 7 0 (bufV 7) (slotV 7 0) (buf_words _) (slot_words _ _) <|
  addT 7 0 (k0_off10 c 4294967292#32 112#32) (k0_off10_inb c 31) <|
  sendT 7 1 (bufV 7) (slotV 7 1) (buf_words _) (slot_words _ _) ⟨k0_dev42 c, k0_dev42_lt c⟩ <|
  waitsT 0 1 (bufV 0) (slotV 0 1) (buf_words _) (slot_words _ _) <|
  addT 0 1 (k0_off10 c 5#32 0#32) (k0_off10_inb c 32) <|
  sendT 0 2 (bufV 0) (slotV 0 2) (buf_words _) (slot_words _ _) ⟨k0_dev43 c, k0_dev43_lt c⟩ <|
  waitsT 1 1 (bufV 1) (slotV 1 1) (buf_words _) (slot_words _ _) <|
  addT 1 1 (k0_off10 c 4294967291#32 64#32) (k0_off10_inb c 33) <|
  sendT 1 2 (bufV 1) (slotV 1 2) (buf_words _) (slot_words _ _) ⟨k0_dev44 c, k0_dev44_lt c⟩ <|
  waitsT 2 1 (bufV 2) (slotV 2 1) (buf_words _) (slot_words _ _) <|
  addT 2 1 (k0_off10 c 5#32 16#32) (k0_off10_inb c 34) <|
  sendT 2 2 (bufV 2) (slotV 2 2) (buf_words _) (slot_words _ _) ⟨k0_dev45 c, k0_dev45_lt c⟩ <|
  waitsT 3 1 (bufV 3) (slotV 3 1) (buf_words _) (slot_words _ _) <|
  addT 3 1 (k0_off10 c 4294967291#32 80#32) (k0_off10_inb c 35) <|
  sendT 3 2 (bufV 3) (slotV 3 2) (buf_words _) (slot_words _ _) ⟨k0_dev46 c, k0_dev46_lt c⟩ <|
  waitsT 4 1 (bufV 4) (slotV 4 1) (buf_words _) (slot_words _ _) <|
  addT 4 1 (k0_off10 c 5#32 32#32) (k0_off10_inb c 36) <|
  sendT 4 2 (bufV 4) (slotV 4 2) (buf_words _) (slot_words _ _) ⟨k0_dev47 c, k0_dev47_lt c⟩ <|
  waitsT 5 1 (bufV 5) (slotV 5 1) (buf_words _) (slot_words _ _) <|
  addT 5 1 (k0_off10 c 4294967291#32 96#32) (k0_off10_inb c 37) <|
  sendT 5 2 (bufV 5) (slotV 5 2) (buf_words _) (slot_words _ _) ⟨k0_dev48 c, k0_dev48_lt c⟩ <|
  waitsT 6 1 (bufV 6) (slotV 6 1) (buf_words _) (slot_words _ _) <|
  addT 6 1 (k0_off10 c 5#32 48#32) (k0_off10_inb c 38) <|
  sendT 6 2 (bufV 6) (slotV 6 2) (buf_words _) (slot_words _ _) ⟨k0_dev49 c, k0_dev49_lt c⟩ <|
  waitsT 7 1 (bufV 7) (slotV 7 1) (buf_words _) (slot_words _ _) <|
  addT 7 1 (k0_off10 c 4294967291#32 112#32) (k0_off10_inb c 39) <|
  sendT 7 2 (bufV 7) (slotV 7 2) (buf_words _) (slot_words _ _) ⟨k0_dev50 c, k0_dev50_lt c⟩ <|
  waitsT 0 2 (bufV 0) (slotV 0 2) (buf_words _) (slot_words _ _) <|
  addT 0 2 (k0_off10 c 6#32 0#32) (k0_off10_inb c 40) <|
  sendT 0 0 (bufV 0) (slotV 0 0) (buf_words _) (slot_words _ _) ⟨k0_dev51 c, k0_dev51_lt c⟩ <|
  waitsT 1 2 (bufV 1) (slotV 1 2) (buf_words _) (slot_words _ _) <|
  addT 1 2 (k0_off10 c 4294967290#32 64#32) (k0_off10_inb c 41) <|
  sendT 1 0 (bufV 1) (slotV 1 0) (buf_words _) (slot_words _ _) ⟨k0_dev52 c, k0_dev52_lt c⟩ <|
  waitsT 2 2 (bufV 2) (slotV 2 2) (buf_words _) (slot_words _ _) <|
  addT 2 2 (k0_off10 c 6#32 16#32) (k0_off10_inb c 42) <|
  sendT 2 0 (bufV 2) (slotV 2 0) (buf_words _) (slot_words _ _) ⟨k0_dev53 c, k0_dev53_lt c⟩ <|
  waitsT 3 2 (bufV 3) (slotV 3 2) (buf_words _) (slot_words _ _) <|
  addT 3 2 (k0_off10 c 4294967290#32 80#32) (k0_off10_inb c 43) <|
  sendT 3 0 (bufV 3) (slotV 3 0) (buf_words _) (slot_words _ _) ⟨k0_dev54 c, k0_dev54_lt c⟩ <|
  waitsT 4 2 (bufV 4) (slotV 4 2) (buf_words _) (slot_words _ _) <|
  addT 4 2 (k0_off10 c 6#32 32#32) (k0_off10_inb c 44) <|
  sendT 4 0 (bufV 4) (slotV 4 0) (buf_words _) (slot_words _ _) ⟨k0_dev55 c, k0_dev55_lt c⟩ <|
  waitsT 5 2 (bufV 5) (slotV 5 2) (buf_words _) (slot_words _ _) <|
  addT 5 2 (k0_off10 c 4294967290#32 96#32) (k0_off10_inb c 45) <|
  sendT 5 0 (bufV 5) (slotV 5 0) (buf_words _) (slot_words _ _) ⟨k0_dev56 c, k0_dev56_lt c⟩ <|
  waitsT 6 2 (bufV 6) (slotV 6 2) (buf_words _) (slot_words _ _) <|
  addT 6 2 (k0_off10 c 6#32 48#32) (k0_off10_inb c 46) <|
  sendT 6 0 (bufV 6) (slotV 6 0) (buf_words _) (slot_words _ _) ⟨k0_dev57 c, k0_dev57_lt c⟩ <|
  waitsT 7 2 (bufV 7) (slotV 7 2) (buf_words _) (slot_words _ _) <|
  addT 7 2 (k0_off10 c 4294967290#32 112#32) (k0_off10_inb c 47) <|
  sendT 7 0 (bufV 7) (slotV 7 0) (buf_words _) (slot_words _ _) ⟨k0_dev58 c, k0_dev58_lt c⟩ <|
  K

/-- Steps seven to ten, then `K`. -/
def part3 (c : Dev nD) (K : KProg F) : KProg F :=
  waitsT 0 0 (bufV 0) (slotV 0 0) (buf_words _) (slot_words _ _) <|
  finishT 0 0 (k0_off11 c 1#32 0#32) (k0_off11_inb c 0) (k0_off11 c 1#32 0#32) (k0_off11_inb c 0) <|
  sendT 0 1 (rowV oM (k0_off12 c 1#32 0#32) (k0_off12_inb c 0)) (rowV oM (k0_off12 c 1#32 0#32) (k0_off12_inb c 0)) (row_words _ _ _) (row_words _ _ _) ⟨k0_dev59 c, k0_dev59_lt c⟩ <|
  waitsT 1 0 (bufV 1) (slotV 1 0) (buf_words _) (slot_words _ _) <|
  finishT 1 0 (k0_off11 c 4294967295#32 64#32) (k0_off11_inb c 1) (k0_off11 c 4294967295#32 64#32) (k0_off11_inb c 1) <|
  sendT 1 1 (rowV oM (k0_off12 c 4294967295#32 64#32) (k0_off12_inb c 1)) (rowV oM (k0_off12 c 4294967295#32 64#32) (k0_off12_inb c 1)) (row_words _ _ _) (row_words _ _ _) ⟨k0_dev60 c, k0_dev60_lt c⟩ <|
  waitsT 2 0 (bufV 2) (slotV 2 0) (buf_words _) (slot_words _ _) <|
  finishT 2 0 (k0_off11 c 1#32 16#32) (k0_off11_inb c 2) (k0_off11 c 1#32 16#32) (k0_off11_inb c 2) <|
  sendT 2 1 (rowV oM (k0_off12 c 1#32 16#32) (k0_off12_inb c 2)) (rowV oM (k0_off12 c 1#32 16#32) (k0_off12_inb c 2)) (row_words _ _ _) (row_words _ _ _) ⟨k0_dev61 c, k0_dev61_lt c⟩ <|
  waitsT 3 0 (bufV 3) (slotV 3 0) (buf_words _) (slot_words _ _) <|
  finishT 3 0 (k0_off11 c 4294967295#32 80#32) (k0_off11_inb c 3) (k0_off11 c 4294967295#32 80#32) (k0_off11_inb c 3) <|
  sendT 3 1 (rowV oM (k0_off12 c 4294967295#32 80#32) (k0_off12_inb c 3)) (rowV oM (k0_off12 c 4294967295#32 80#32) (k0_off12_inb c 3)) (row_words _ _ _) (row_words _ _ _) ⟨k0_dev62 c, k0_dev62_lt c⟩ <|
  waitsT 4 0 (bufV 4) (slotV 4 0) (buf_words _) (slot_words _ _) <|
  finishT 4 0 (k0_off11 c 1#32 32#32) (k0_off11_inb c 4) (k0_off11 c 1#32 32#32) (k0_off11_inb c 4) <|
  sendT 4 1 (rowV oM (k0_off12 c 1#32 32#32) (k0_off12_inb c 4)) (rowV oM (k0_off12 c 1#32 32#32) (k0_off12_inb c 4)) (row_words _ _ _) (row_words _ _ _) ⟨k0_dev63 c, k0_dev63_lt c⟩ <|
  waitsT 5 0 (bufV 5) (slotV 5 0) (buf_words _) (slot_words _ _) <|
  finishT 5 0 (k0_off11 c 4294967295#32 96#32) (k0_off11_inb c 5) (k0_off11 c 4294967295#32 96#32) (k0_off11_inb c 5) <|
  sendT 5 1 (rowV oM (k0_off12 c 4294967295#32 96#32) (k0_off12_inb c 5)) (rowV oM (k0_off12 c 4294967295#32 96#32) (k0_off12_inb c 5)) (row_words _ _ _) (row_words _ _ _) ⟨k0_dev64 c, k0_dev64_lt c⟩ <|
  waitsT 6 0 (bufV 6) (slotV 6 0) (buf_words _) (slot_words _ _) <|
  finishT 6 0 (k0_off11 c 1#32 48#32) (k0_off11_inb c 6) (k0_off11 c 1#32 48#32) (k0_off11_inb c 6) <|
  sendT 6 1 (rowV oM (k0_off12 c 1#32 48#32) (k0_off12_inb c 6)) (rowV oM (k0_off12 c 1#32 48#32) (k0_off12_inb c 6)) (row_words _ _ _) (row_words _ _ _) ⟨k0_dev65 c, k0_dev65_lt c⟩ <|
  waitsT 7 0 (bufV 7) (slotV 7 0) (buf_words _) (slot_words _ _) <|
  finishT 7 0 (k0_off11 c 4294967295#32 112#32) (k0_off11_inb c 7) (k0_off11 c 4294967295#32 112#32) (k0_off11_inb c 7) <|
  sendT 7 1 (rowV oM (k0_off12 c 4294967295#32 112#32) (k0_off12_inb c 7)) (rowV oM (k0_off12 c 4294967295#32 112#32) (k0_off12_inb c 7)) (row_words _ _ _) (row_words _ _ _) ⟨k0_dev66 c, k0_dev66_lt c⟩ <|
  waitsT 0 1 (rowV oM (k0_off12 c 1#32 0#32) (k0_off12_inb c 0)) (rowV oM (k0_off12 c 1#32 0#32) (k0_off12_inb c 0)) (row_words _ _ _) (row_words _ _ _) <|
  sendT 0 2 (rowV oM (k0_off12 c 0#32 0#32) (k0_off12_inb c 8)) (rowV oM (k0_off12 c 0#32 0#32) (k0_off12_inb c 8)) (row_words _ _ _) (row_words _ _ _) ⟨k0_dev67 c, k0_dev67_lt c⟩ <|
  waitsT 1 1 (rowV oM (k0_off12 c 4294967295#32 64#32) (k0_off12_inb c 1)) (rowV oM (k0_off12 c 4294967295#32 64#32) (k0_off12_inb c 1)) (row_words _ _ _) (row_words _ _ _) <|
  sendT 1 2 (rowV oM (k0_off12 c 0#32 64#32) (k0_off12_inb c 9)) (rowV oM (k0_off12 c 0#32 64#32) (k0_off12_inb c 9)) (row_words _ _ _) (row_words _ _ _) ⟨k0_dev68 c, k0_dev68_lt c⟩ <|
  waitsT 2 1 (rowV oM (k0_off12 c 1#32 16#32) (k0_off12_inb c 2)) (rowV oM (k0_off12 c 1#32 16#32) (k0_off12_inb c 2)) (row_words _ _ _) (row_words _ _ _) <|
  sendT 2 2 (rowV oM (k0_off12 c 0#32 16#32) (k0_off12_inb c 10)) (rowV oM (k0_off12 c 0#32 16#32) (k0_off12_inb c 10)) (row_words _ _ _) (row_words _ _ _) ⟨k0_dev69 c, k0_dev69_lt c⟩ <|
  waitsT 3 1 (rowV oM (k0_off12 c 4294967295#32 80#32) (k0_off12_inb c 3)) (rowV oM (k0_off12 c 4294967295#32 80#32) (k0_off12_inb c 3)) (row_words _ _ _) (row_words _ _ _) <|
  sendT 3 2 (rowV oM (k0_off12 c 0#32 80#32) (k0_off12_inb c 11)) (rowV oM (k0_off12 c 0#32 80#32) (k0_off12_inb c 11)) (row_words _ _ _) (row_words _ _ _) ⟨k0_dev70 c, k0_dev70_lt c⟩ <|
  waitsT 4 1 (rowV oM (k0_off12 c 1#32 32#32) (k0_off12_inb c 4)) (rowV oM (k0_off12 c 1#32 32#32) (k0_off12_inb c 4)) (row_words _ _ _) (row_words _ _ _) <|
  sendT 4 2 (rowV oM (k0_off12 c 0#32 32#32) (k0_off12_inb c 12)) (rowV oM (k0_off12 c 0#32 32#32) (k0_off12_inb c 12)) (row_words _ _ _) (row_words _ _ _) ⟨k0_dev71 c, k0_dev71_lt c⟩ <|
  waitsT 5 1 (rowV oM (k0_off12 c 4294967295#32 96#32) (k0_off12_inb c 5)) (rowV oM (k0_off12 c 4294967295#32 96#32) (k0_off12_inb c 5)) (row_words _ _ _) (row_words _ _ _) <|
  sendT 5 2 (rowV oM (k0_off12 c 0#32 96#32) (k0_off12_inb c 13)) (rowV oM (k0_off12 c 0#32 96#32) (k0_off12_inb c 13)) (row_words _ _ _) (row_words _ _ _) ⟨k0_dev72 c, k0_dev72_lt c⟩ <|
  waitsT 6 1 (rowV oM (k0_off12 c 1#32 48#32) (k0_off12_inb c 6)) (rowV oM (k0_off12 c 1#32 48#32) (k0_off12_inb c 6)) (row_words _ _ _) (row_words _ _ _) <|
  sendT 6 2 (rowV oM (k0_off12 c 0#32 48#32) (k0_off12_inb c 14)) (rowV oM (k0_off12 c 0#32 48#32) (k0_off12_inb c 14)) (row_words _ _ _) (row_words _ _ _) ⟨k0_dev73 c, k0_dev73_lt c⟩ <|
  waitsT 7 1 (rowV oM (k0_off12 c 4294967295#32 112#32) (k0_off12_inb c 7)) (rowV oM (k0_off12 c 4294967295#32 112#32) (k0_off12_inb c 7)) (row_words _ _ _) (row_words _ _ _) <|
  sendT 7 2 (rowV oM (k0_off12 c 0#32 112#32) (k0_off12_inb c 15)) (rowV oM (k0_off12 c 0#32 112#32) (k0_off12_inb c 15)) (row_words _ _ _) (row_words _ _ _) ⟨k0_dev74 c, k0_dev74_lt c⟩ <|
  waitsT 0 2 (rowV oM (k0_off12 c 0#32 0#32) (k0_off12_inb c 8)) (rowV oM (k0_off12 c 0#32 0#32) (k0_off12_inb c 8)) (row_words _ _ _) (row_words _ _ _) <|
  sendT 0 0 (rowV oM (k0_off12 c 4294967295#32 0#32) (k0_off12_inb c 16)) (rowV oM (k0_off12 c 4294967295#32 0#32) (k0_off12_inb c 16)) (row_words _ _ _) (row_words _ _ _) ⟨k0_dev75 c, k0_dev75_lt c⟩ <|
  waitsT 1 2 (rowV oM (k0_off12 c 0#32 64#32) (k0_off12_inb c 9)) (rowV oM (k0_off12 c 0#32 64#32) (k0_off12_inb c 9)) (row_words _ _ _) (row_words _ _ _) <|
  sendT 1 0 (rowV oM (k0_off12 c 1#32 64#32) (k0_off12_inb c 17)) (rowV oM (k0_off12 c 1#32 64#32) (k0_off12_inb c 17)) (row_words _ _ _) (row_words _ _ _) ⟨k0_dev76 c, k0_dev76_lt c⟩ <|
  waitsT 2 2 (rowV oM (k0_off12 c 0#32 16#32) (k0_off12_inb c 10)) (rowV oM (k0_off12 c 0#32 16#32) (k0_off12_inb c 10)) (row_words _ _ _) (row_words _ _ _) <|
  sendT 2 0 (rowV oM (k0_off12 c 4294967295#32 16#32) (k0_off12_inb c 18)) (rowV oM (k0_off12 c 4294967295#32 16#32) (k0_off12_inb c 18)) (row_words _ _ _) (row_words _ _ _) ⟨k0_dev77 c, k0_dev77_lt c⟩ <|
  waitsT 3 2 (rowV oM (k0_off12 c 0#32 80#32) (k0_off12_inb c 11)) (rowV oM (k0_off12 c 0#32 80#32) (k0_off12_inb c 11)) (row_words _ _ _) (row_words _ _ _) <|
  sendT 3 0 (rowV oM (k0_off12 c 1#32 80#32) (k0_off12_inb c 19)) (rowV oM (k0_off12 c 1#32 80#32) (k0_off12_inb c 19)) (row_words _ _ _) (row_words _ _ _) ⟨k0_dev78 c, k0_dev78_lt c⟩ <|
  waitsT 4 2 (rowV oM (k0_off12 c 0#32 32#32) (k0_off12_inb c 12)) (rowV oM (k0_off12 c 0#32 32#32) (k0_off12_inb c 12)) (row_words _ _ _) (row_words _ _ _) <|
  sendT 4 0 (rowV oM (k0_off12 c 4294967295#32 32#32) (k0_off12_inb c 20)) (rowV oM (k0_off12 c 4294967295#32 32#32) (k0_off12_inb c 20)) (row_words _ _ _) (row_words _ _ _) ⟨k0_dev79 c, k0_dev79_lt c⟩ <|
  waitsT 5 2 (rowV oM (k0_off12 c 0#32 96#32) (k0_off12_inb c 13)) (rowV oM (k0_off12 c 0#32 96#32) (k0_off12_inb c 13)) (row_words _ _ _) (row_words _ _ _) <|
  sendT 5 0 (rowV oM (k0_off12 c 1#32 96#32) (k0_off12_inb c 21)) (rowV oM (k0_off12 c 1#32 96#32) (k0_off12_inb c 21)) (row_words _ _ _) (row_words _ _ _) ⟨k0_dev80 c, k0_dev80_lt c⟩ <|
  waitsT 6 2 (rowV oM (k0_off12 c 0#32 48#32) (k0_off12_inb c 14)) (rowV oM (k0_off12 c 0#32 48#32) (k0_off12_inb c 14)) (row_words _ _ _) (row_words _ _ _) <|
  sendT 6 0 (rowV oM (k0_off12 c 4294967295#32 48#32) (k0_off12_inb c 22)) (rowV oM (k0_off12 c 4294967295#32 48#32) (k0_off12_inb c 22)) (row_words _ _ _) (row_words _ _ _) ⟨k0_dev81 c, k0_dev81_lt c⟩ <|
  waitsT 7 2 (rowV oM (k0_off12 c 0#32 112#32) (k0_off12_inb c 15)) (rowV oM (k0_off12 c 0#32 112#32) (k0_off12_inb c 15)) (row_words _ _ _) (row_words _ _ _) <|
  sendT 7 0 (rowV oM (k0_off12 c 1#32 112#32) (k0_off12_inb c 23)) (rowV oM (k0_off12 c 1#32 112#32) (k0_off12_inb c 23)) (row_words _ _ _) (row_words _ _ _) ⟨k0_dev82 c, k0_dev82_lt c⟩ <|
  waitsT 0 0 (rowV oM (k0_off12 c 4294967295#32 0#32) (k0_off12_inb c 16)) (rowV oM (k0_off12 c 4294967295#32 0#32) (k0_off12_inb c 16)) (row_words _ _ _) (row_words _ _ _) <|
  sendT 0 1 (rowV oM (k0_off12 c 4294967294#32 0#32) (k0_off12_inb c 24)) (rowV oM (k0_off12 c 4294967294#32 0#32) (k0_off12_inb c 24)) (row_words _ _ _) (row_words _ _ _) ⟨k0_dev83 c, k0_dev83_lt c⟩ <|
  waitsT 1 0 (rowV oM (k0_off12 c 1#32 64#32) (k0_off12_inb c 17)) (rowV oM (k0_off12 c 1#32 64#32) (k0_off12_inb c 17)) (row_words _ _ _) (row_words _ _ _) <|
  sendT 1 1 (rowV oM (k0_off12 c 2#32 64#32) (k0_off12_inb c 25)) (rowV oM (k0_off12 c 2#32 64#32) (k0_off12_inb c 25)) (row_words _ _ _) (row_words _ _ _) ⟨k0_dev84 c, k0_dev84_lt c⟩ <|
  waitsT 2 0 (rowV oM (k0_off12 c 4294967295#32 16#32) (k0_off12_inb c 18)) (rowV oM (k0_off12 c 4294967295#32 16#32) (k0_off12_inb c 18)) (row_words _ _ _) (row_words _ _ _) <|
  sendT 2 1 (rowV oM (k0_off12 c 4294967294#32 16#32) (k0_off12_inb c 26)) (rowV oM (k0_off12 c 4294967294#32 16#32) (k0_off12_inb c 26)) (row_words _ _ _) (row_words _ _ _) ⟨k0_dev85 c, k0_dev85_lt c⟩ <|
  waitsT 3 0 (rowV oM (k0_off12 c 1#32 80#32) (k0_off12_inb c 19)) (rowV oM (k0_off12 c 1#32 80#32) (k0_off12_inb c 19)) (row_words _ _ _) (row_words _ _ _) <|
  sendT 3 1 (rowV oM (k0_off12 c 2#32 80#32) (k0_off12_inb c 27)) (rowV oM (k0_off12 c 2#32 80#32) (k0_off12_inb c 27)) (row_words _ _ _) (row_words _ _ _) ⟨k0_dev86 c, k0_dev86_lt c⟩ <|
  waitsT 4 0 (rowV oM (k0_off12 c 4294967295#32 32#32) (k0_off12_inb c 20)) (rowV oM (k0_off12 c 4294967295#32 32#32) (k0_off12_inb c 20)) (row_words _ _ _) (row_words _ _ _) <|
  sendT 4 1 (rowV oM (k0_off12 c 4294967294#32 32#32) (k0_off12_inb c 28)) (rowV oM (k0_off12 c 4294967294#32 32#32) (k0_off12_inb c 28)) (row_words _ _ _) (row_words _ _ _) ⟨k0_dev87 c, k0_dev87_lt c⟩ <|
  waitsT 5 0 (rowV oM (k0_off12 c 1#32 96#32) (k0_off12_inb c 21)) (rowV oM (k0_off12 c 1#32 96#32) (k0_off12_inb c 21)) (row_words _ _ _) (row_words _ _ _) <|
  sendT 5 1 (rowV oM (k0_off12 c 2#32 96#32) (k0_off12_inb c 29)) (rowV oM (k0_off12 c 2#32 96#32) (k0_off12_inb c 29)) (row_words _ _ _) (row_words _ _ _) ⟨k0_dev88 c, k0_dev88_lt c⟩ <|
  waitsT 6 0 (rowV oM (k0_off12 c 4294967295#32 48#32) (k0_off12_inb c 22)) (rowV oM (k0_off12 c 4294967295#32 48#32) (k0_off12_inb c 22)) (row_words _ _ _) (row_words _ _ _) <|
  sendT 6 1 (rowV oM (k0_off12 c 4294967294#32 48#32) (k0_off12_inb c 30)) (rowV oM (k0_off12 c 4294967294#32 48#32) (k0_off12_inb c 30)) (row_words _ _ _) (row_words _ _ _) ⟨k0_dev89 c, k0_dev89_lt c⟩ <|
  waitsT 7 0 (rowV oM (k0_off12 c 1#32 112#32) (k0_off12_inb c 23)) (rowV oM (k0_off12 c 1#32 112#32) (k0_off12_inb c 23)) (row_words _ _ _) (row_words _ _ _) <|
  sendT 7 1 (rowV oM (k0_off12 c 2#32 112#32) (k0_off12_inb c 31)) (rowV oM (k0_off12 c 2#32 112#32) (k0_off12_inb c 31)) (row_words _ _ _) (row_words _ _ _) ⟨k0_dev90 c, k0_dev90_lt c⟩ <|
  K

/-- The last steps and the last waits, then `K`. -/
def part4 (c : Dev nD) (K : KProg F) : KProg F :=
  waitsT 0 1 (rowV oM (k0_off12 c 4294967294#32 0#32) (k0_off12_inb c 24)) (rowV oM (k0_off12 c 4294967294#32 0#32) (k0_off12_inb c 24)) (row_words _ _ _) (row_words _ _ _) <|
  sendT 0 2 (rowV oM (k0_off12 c 4294967293#32 0#32) (k0_off12_inb c 32)) (rowV oM (k0_off12 c 4294967293#32 0#32) (k0_off12_inb c 32)) (row_words _ _ _) (row_words _ _ _) ⟨k0_dev91 c, k0_dev91_lt c⟩ <|
  waitsT 1 1 (rowV oM (k0_off12 c 2#32 64#32) (k0_off12_inb c 25)) (rowV oM (k0_off12 c 2#32 64#32) (k0_off12_inb c 25)) (row_words _ _ _) (row_words _ _ _) <|
  sendT 1 2 (rowV oM (k0_off12 c 3#32 64#32) (k0_off12_inb c 33)) (rowV oM (k0_off12 c 3#32 64#32) (k0_off12_inb c 33)) (row_words _ _ _) (row_words _ _ _) ⟨k0_dev92 c, k0_dev92_lt c⟩ <|
  waitsT 2 1 (rowV oM (k0_off12 c 4294967294#32 16#32) (k0_off12_inb c 26)) (rowV oM (k0_off12 c 4294967294#32 16#32) (k0_off12_inb c 26)) (row_words _ _ _) (row_words _ _ _) <|
  sendT 2 2 (rowV oM (k0_off12 c 4294967293#32 16#32) (k0_off12_inb c 34)) (rowV oM (k0_off12 c 4294967293#32 16#32) (k0_off12_inb c 34)) (row_words _ _ _) (row_words _ _ _) ⟨k0_dev93 c, k0_dev93_lt c⟩ <|
  waitsT 3 1 (rowV oM (k0_off12 c 2#32 80#32) (k0_off12_inb c 27)) (rowV oM (k0_off12 c 2#32 80#32) (k0_off12_inb c 27)) (row_words _ _ _) (row_words _ _ _) <|
  sendT 3 2 (rowV oM (k0_off12 c 3#32 80#32) (k0_off12_inb c 35)) (rowV oM (k0_off12 c 3#32 80#32) (k0_off12_inb c 35)) (row_words _ _ _) (row_words _ _ _) ⟨k0_dev94 c, k0_dev94_lt c⟩ <|
  waitsT 4 1 (rowV oM (k0_off12 c 4294967294#32 32#32) (k0_off12_inb c 28)) (rowV oM (k0_off12 c 4294967294#32 32#32) (k0_off12_inb c 28)) (row_words _ _ _) (row_words _ _ _) <|
  sendT 4 2 (rowV oM (k0_off12 c 4294967293#32 32#32) (k0_off12_inb c 36)) (rowV oM (k0_off12 c 4294967293#32 32#32) (k0_off12_inb c 36)) (row_words _ _ _) (row_words _ _ _) ⟨k0_dev95 c, k0_dev95_lt c⟩ <|
  waitsT 5 1 (rowV oM (k0_off12 c 2#32 96#32) (k0_off12_inb c 29)) (rowV oM (k0_off12 c 2#32 96#32) (k0_off12_inb c 29)) (row_words _ _ _) (row_words _ _ _) <|
  sendT 5 2 (rowV oM (k0_off12 c 3#32 96#32) (k0_off12_inb c 37)) (rowV oM (k0_off12 c 3#32 96#32) (k0_off12_inb c 37)) (row_words _ _ _) (row_words _ _ _) ⟨k0_dev96 c, k0_dev96_lt c⟩ <|
  waitsT 6 1 (rowV oM (k0_off12 c 4294967294#32 48#32) (k0_off12_inb c 30)) (rowV oM (k0_off12 c 4294967294#32 48#32) (k0_off12_inb c 30)) (row_words _ _ _) (row_words _ _ _) <|
  sendT 6 2 (rowV oM (k0_off12 c 4294967293#32 48#32) (k0_off12_inb c 38)) (rowV oM (k0_off12 c 4294967293#32 48#32) (k0_off12_inb c 38)) (row_words _ _ _) (row_words _ _ _) ⟨k0_dev97 c, k0_dev97_lt c⟩ <|
  waitsT 7 1 (rowV oM (k0_off12 c 2#32 112#32) (k0_off12_inb c 31)) (rowV oM (k0_off12 c 2#32 112#32) (k0_off12_inb c 31)) (row_words _ _ _) (row_words _ _ _) <|
  sendT 7 2 (rowV oM (k0_off12 c 3#32 112#32) (k0_off12_inb c 39)) (rowV oM (k0_off12 c 3#32 112#32) (k0_off12_inb c 39)) (row_words _ _ _) (row_words _ _ _) ⟨k0_dev98 c, k0_dev98_lt c⟩ <|
  waitsT 0 2 (rowV oM (k0_off12 c 4294967293#32 0#32) (k0_off12_inb c 32)) (rowV oM (k0_off12 c 4294967293#32 0#32) (k0_off12_inb c 32)) (row_words _ _ _) (row_words _ _ _) <|
  sendT 0 0 (rowV oM (k0_off12 c 4294967292#32 0#32) (k0_off12_inb c 40)) (rowV oM (k0_off12 c 4294967292#32 0#32) (k0_off12_inb c 40)) (row_words _ _ _) (row_words _ _ _) ⟨k0_dev99 c, k0_dev99_lt c⟩ <|
  waitsT 1 2 (rowV oM (k0_off12 c 3#32 64#32) (k0_off12_inb c 33)) (rowV oM (k0_off12 c 3#32 64#32) (k0_off12_inb c 33)) (row_words _ _ _) (row_words _ _ _) <|
  sendT 1 0 (rowV oM (k0_off12 c 4#32 64#32) (k0_off12_inb c 41)) (rowV oM (k0_off12 c 4#32 64#32) (k0_off12_inb c 41)) (row_words _ _ _) (row_words _ _ _) ⟨k0_dev100 c, k0_dev100_lt c⟩ <|
  waitsT 2 2 (rowV oM (k0_off12 c 4294967293#32 16#32) (k0_off12_inb c 34)) (rowV oM (k0_off12 c 4294967293#32 16#32) (k0_off12_inb c 34)) (row_words _ _ _) (row_words _ _ _) <|
  sendT 2 0 (rowV oM (k0_off12 c 4294967292#32 16#32) (k0_off12_inb c 42)) (rowV oM (k0_off12 c 4294967292#32 16#32) (k0_off12_inb c 42)) (row_words _ _ _) (row_words _ _ _) ⟨k0_dev101 c, k0_dev101_lt c⟩ <|
  waitsT 3 2 (rowV oM (k0_off12 c 3#32 80#32) (k0_off12_inb c 35)) (rowV oM (k0_off12 c 3#32 80#32) (k0_off12_inb c 35)) (row_words _ _ _) (row_words _ _ _) <|
  sendT 3 0 (rowV oM (k0_off12 c 4#32 80#32) (k0_off12_inb c 43)) (rowV oM (k0_off12 c 4#32 80#32) (k0_off12_inb c 43)) (row_words _ _ _) (row_words _ _ _) ⟨k0_dev102 c, k0_dev102_lt c⟩ <|
  waitsT 4 2 (rowV oM (k0_off12 c 4294967293#32 32#32) (k0_off12_inb c 36)) (rowV oM (k0_off12 c 4294967293#32 32#32) (k0_off12_inb c 36)) (row_words _ _ _) (row_words _ _ _) <|
  sendT 4 0 (rowV oM (k0_off12 c 4294967292#32 32#32) (k0_off12_inb c 44)) (rowV oM (k0_off12 c 4294967292#32 32#32) (k0_off12_inb c 44)) (row_words _ _ _) (row_words _ _ _) ⟨k0_dev103 c, k0_dev103_lt c⟩ <|
  waitsT 5 2 (rowV oM (k0_off12 c 3#32 96#32) (k0_off12_inb c 37)) (rowV oM (k0_off12 c 3#32 96#32) (k0_off12_inb c 37)) (row_words _ _ _) (row_words _ _ _) <|
  sendT 5 0 (rowV oM (k0_off12 c 4#32 96#32) (k0_off12_inb c 45)) (rowV oM (k0_off12 c 4#32 96#32) (k0_off12_inb c 45)) (row_words _ _ _) (row_words _ _ _) ⟨k0_dev104 c, k0_dev104_lt c⟩ <|
  waitsT 6 2 (rowV oM (k0_off12 c 4294967293#32 48#32) (k0_off12_inb c 38)) (rowV oM (k0_off12 c 4294967293#32 48#32) (k0_off12_inb c 38)) (row_words _ _ _) (row_words _ _ _) <|
  sendT 6 0 (rowV oM (k0_off12 c 4294967292#32 48#32) (k0_off12_inb c 46)) (rowV oM (k0_off12 c 4294967292#32 48#32) (k0_off12_inb c 46)) (row_words _ _ _) (row_words _ _ _) ⟨k0_dev105 c, k0_dev105_lt c⟩ <|
  waitsT 7 2 (rowV oM (k0_off12 c 3#32 112#32) (k0_off12_inb c 39)) (rowV oM (k0_off12 c 3#32 112#32) (k0_off12_inb c 39)) (row_words _ _ _) (row_words _ _ _) <|
  sendT 7 0 (rowV oM (k0_off12 c 4#32 112#32) (k0_off12_inb c 47)) (rowV oM (k0_off12 c 4#32 112#32) (k0_off12_inb c 47)) (row_words _ _ _) (row_words _ _ _) ⟨k0_dev106 c, k0_dev106_lt c⟩ <|
  waitsT 0 0 (rowV oM (k0_off12 c 4294967292#32 0#32) (k0_off12_inb c 40)) (rowV oM (k0_off12 c 4294967292#32 0#32) (k0_off12_inb c 40)) (row_words _ _ _) (row_words _ _ _) <|
  sendT 0 1 (rowV oM (k0_off12 c 4294967291#32 0#32) (k0_off12_inb c 48)) (rowV oM (k0_off12 c 4294967291#32 0#32) (k0_off12_inb c 48)) (row_words _ _ _) (row_words _ _ _) ⟨k0_dev107 c, k0_dev107_lt c⟩ <|
  waitsT 1 0 (rowV oM (k0_off12 c 4#32 64#32) (k0_off12_inb c 41)) (rowV oM (k0_off12 c 4#32 64#32) (k0_off12_inb c 41)) (row_words _ _ _) (row_words _ _ _) <|
  sendT 1 1 (rowV oM (k0_off12 c 5#32 64#32) (k0_off12_inb c 49)) (rowV oM (k0_off12 c 5#32 64#32) (k0_off12_inb c 49)) (row_words _ _ _) (row_words _ _ _) ⟨k0_dev108 c, k0_dev108_lt c⟩ <|
  waitsT 2 0 (rowV oM (k0_off12 c 4294967292#32 16#32) (k0_off12_inb c 42)) (rowV oM (k0_off12 c 4294967292#32 16#32) (k0_off12_inb c 42)) (row_words _ _ _) (row_words _ _ _) <|
  sendT 2 1 (rowV oM (k0_off12 c 4294967291#32 16#32) (k0_off12_inb c 50)) (rowV oM (k0_off12 c 4294967291#32 16#32) (k0_off12_inb c 50)) (row_words _ _ _) (row_words _ _ _) ⟨k0_dev109 c, k0_dev109_lt c⟩ <|
  waitsT 3 0 (rowV oM (k0_off12 c 4#32 80#32) (k0_off12_inb c 43)) (rowV oM (k0_off12 c 4#32 80#32) (k0_off12_inb c 43)) (row_words _ _ _) (row_words _ _ _) <|
  sendT 3 1 (rowV oM (k0_off12 c 5#32 80#32) (k0_off12_inb c 51)) (rowV oM (k0_off12 c 5#32 80#32) (k0_off12_inb c 51)) (row_words _ _ _) (row_words _ _ _) ⟨k0_dev110 c, k0_dev110_lt c⟩ <|
  waitsT 4 0 (rowV oM (k0_off12 c 4294967292#32 32#32) (k0_off12_inb c 44)) (rowV oM (k0_off12 c 4294967292#32 32#32) (k0_off12_inb c 44)) (row_words _ _ _) (row_words _ _ _) <|
  sendT 4 1 (rowV oM (k0_off12 c 4294967291#32 32#32) (k0_off12_inb c 52)) (rowV oM (k0_off12 c 4294967291#32 32#32) (k0_off12_inb c 52)) (row_words _ _ _) (row_words _ _ _) ⟨k0_dev111 c, k0_dev111_lt c⟩ <|
  waitsT 5 0 (rowV oM (k0_off12 c 4#32 96#32) (k0_off12_inb c 45)) (rowV oM (k0_off12 c 4#32 96#32) (k0_off12_inb c 45)) (row_words _ _ _) (row_words _ _ _) <|
  sendT 5 1 (rowV oM (k0_off12 c 5#32 96#32) (k0_off12_inb c 53)) (rowV oM (k0_off12 c 5#32 96#32) (k0_off12_inb c 53)) (row_words _ _ _) (row_words _ _ _) ⟨k0_dev112 c, k0_dev112_lt c⟩ <|
  waitsT 6 0 (rowV oM (k0_off12 c 4294967292#32 48#32) (k0_off12_inb c 46)) (rowV oM (k0_off12 c 4294967292#32 48#32) (k0_off12_inb c 46)) (row_words _ _ _) (row_words _ _ _) <|
  sendT 6 1 (rowV oM (k0_off12 c 4294967291#32 48#32) (k0_off12_inb c 54)) (rowV oM (k0_off12 c 4294967291#32 48#32) (k0_off12_inb c 54)) (row_words _ _ _) (row_words _ _ _) ⟨k0_dev113 c, k0_dev113_lt c⟩ <|
  waitsT 7 0 (rowV oM (k0_off12 c 4#32 112#32) (k0_off12_inb c 47)) (rowV oM (k0_off12 c 4#32 112#32) (k0_off12_inb c 47)) (row_words _ _ _) (row_words _ _ _) <|
  sendT 7 1 (rowV oM (k0_off12 c 5#32 112#32) (k0_off12_inb c 55)) (rowV oM (k0_off12 c 5#32 112#32) (k0_off12_inb c 55)) (row_words _ _ _) (row_words _ _ _) ⟨k0_dev114 c, k0_dev114_lt c⟩ <|
  waitsT 0 1 (rowV oM (k0_off12 c 4294967291#32 0#32) (k0_off12_inb c 48)) (rowV oM (k0_off12 c 4294967291#32 0#32) (k0_off12_inb c 48)) (row_words _ _ _) (row_words _ _ _) <|
  waitsT 1 1 (rowV oM (k0_off12 c 5#32 64#32) (k0_off12_inb c 49)) (rowV oM (k0_off12 c 5#32 64#32) (k0_off12_inb c 49)) (row_words _ _ _) (row_words _ _ _) <|
  waitsT 2 1 (rowV oM (k0_off12 c 4294967291#32 16#32) (k0_off12_inb c 50)) (rowV oM (k0_off12 c 4294967291#32 16#32) (k0_off12_inb c 50)) (row_words _ _ _) (row_words _ _ _) <|
  waitsT 3 1 (rowV oM (k0_off12 c 5#32 80#32) (k0_off12_inb c 51)) (rowV oM (k0_off12 c 5#32 80#32) (k0_off12_inb c 51)) (row_words _ _ _) (row_words _ _ _) <|
  waitsT 4 1 (rowV oM (k0_off12 c 4294967291#32 32#32) (k0_off12_inb c 52)) (rowV oM (k0_off12 c 4294967291#32 32#32) (k0_off12_inb c 52)) (row_words _ _ _) (row_words _ _ _) <|
  waitsT 5 1 (rowV oM (k0_off12 c 5#32 96#32) (k0_off12_inb c 53)) (rowV oM (k0_off12 c 5#32 96#32) (k0_off12_inb c 53)) (row_words _ _ _) (row_words _ _ _) <|
  waitsT 6 1 (rowV oM (k0_off12 c 4294967291#32 48#32) (k0_off12_inb c 54)) (rowV oM (k0_off12 c 4294967291#32 48#32) (k0_off12_inb c 54)) (row_words _ _ _) (row_words _ _ _) <|
  waitsT 7 1 (rowV oM (k0_off12 c 5#32 112#32) (k0_off12_inb c 55)) (rowV oM (k0_off12 c 5#32 112#32) (k0_off12_inb c 55)) (row_words _ _ _) (row_words _ _ _) <|
  K

/-- The whole body as the chain. -/
def chain : KProg F :=
  .op .deviceId fun c =>
  signalT ⟨k0_dev1 c, k0_dev1_lt c⟩ <|
  signalT ⟨k0_dev2 c, k0_dev2_lt c⟩ <|
  gemm64T (k0_off1 c) (k0_off1_inb c) (k0_off2 c) (k0_off2_inb c) <|
  barrierT <|
  sendT 0 0 (rowV pM (k0_off3 c 0#32) (k0_off3_inb c 0)) (slotV 0 0) (row_words _ _ _) (slot_words _ _) ⟨k0_dev3 c, k0_dev3_lt c⟩ <|
  sendT 2 0 (rowV pM (k0_off3 c 16#32) (k0_off3_inb c 1)) (slotV 2 0) (row_words _ _ _) (slot_words _ _) ⟨k0_dev4 c, k0_dev4_lt c⟩ <|
  sendT 4 0 (rowV pM (k0_off3 c 32#32) (k0_off3_inb c 2)) (slotV 4 0) (row_words _ _ _) (slot_words _ _) ⟨k0_dev5 c, k0_dev5_lt c⟩ <|
  sendT 6 0 (rowV pM (k0_off3 c 48#32) (k0_off3_inb c 3)) (slotV 6 0) (row_words _ _ _) (slot_words _ _) ⟨k0_dev6 c, k0_dev6_lt c⟩ <|
  gemm64T (k0_off4 c) (k0_off4_inb c) (k0_off5 c) (k0_off5_inb c) <|
  sendT 1 0 (rowV pM (k0_off3 c 64#32) (k0_off3_inb c 4)) (slotV 1 0) (row_words _ _ _) (slot_words _ _) ⟨k0_dev7 c, k0_dev7_lt c⟩ <|
  sendT 3 0 (rowV pM (k0_off3 c 80#32) (k0_off3_inb c 5)) (slotV 3 0) (row_words _ _ _) (slot_words _ _) ⟨k0_dev8 c, k0_dev8_lt c⟩ <|
  sendT 5 0 (rowV pM (k0_off3 c 96#32) (k0_off3_inb c 6)) (slotV 5 0) (row_words _ _ _) (slot_words _ _) ⟨k0_dev9 c, k0_dev9_lt c⟩ <|
  sendT 7 0 (rowV pM (k0_off3 c 112#32) (k0_off3_inb c 7)) (slotV 7 0) (row_words _ _ _) (slot_words _ _) ⟨k0_dev10 c, k0_dev10_lt c⟩ <|
  part1 c <| part2 c <| part3 c <| part4 c <|
  .ret ⟨⟩

set_option maxRecDepth 65536 in
/-- The printed body is the chain, by unfolding. -/
theorem body_eq_chain : cc0_body (F := F) xM (Memref.isWhole_whole _) wM (Memref.isWhole_whole _) oM (Memref.isWhole_whole _)
    pM (Memref.isWhole_whole _) bM (Memref.isWhole_whole _) sM (Memref.isWhole_whole _) cc0_scratch3 cc0_scratch4 = chain := rfl

end Cert.Ring

end
-- ==== Proof.Places.lean ====
module

public import proofs.«01_k».proof.Proof.Steps

/-! # Who talks to whom, and which places a message uses

The eight devices form a ring: ring position `i` is device `i` for `i < 4` and device `11 - i` above. A device sends 112
messages, numbered in program order of the streams: message `m` is step `m / 8` of stream `m % 8`. Even streams run
forwards round the ring, odd streams backwards. Steps 0 to 6 hand partial sums on (landing in slots), steps 7 to 13 hand
finished bands on (landing in the output). -/

@[expose] public section

noncomputable section

namespace Cert.Ring

open Cert.KernelIdeal Cert.KernelIdeal.Gen
open Idealize.ShloMosaic Idealize.ShloMosaic.TcCoe Idealize.SL.Sem

/-! ## The ring -/

set_option backward.proofsInPublic true in
/-- The device at ring position `i` (taken modulo eight). -/
def devAt (i : ℕ) : Dev nD := ⟨if i % 8 < 4 then i % 8 else 11 - i % 8, by show _ < 8; split <;> omega⟩
/-- A device's ring position. -/
def posOf (c : Dev nD) : ℕ := if c.val < 4 then c.val else 11 - c.val
/-- The device `δ` places further on. -/
def far (c : Dev nD) (δ : ℕ) : Dev nD := devAt (posOf c + δ)
/-- The next device and the previous one. -/
def nxt (c : Dev nD) : Dev nD := far c 1
def prv (c : Dev nD) : Dev nD := far c 7

theorem posOf_devAt (i : ℕ) : posOf (devAt i) = i % 8 := by
  unfold posOf devAt; dsimp only
  by_cases h : i % 8 < 4
  · simp only [if_pos h]
  · simp only [if_neg h, if_neg (show ¬ 11 - i % 8 < 4 by omega)]; omega
theorem far_far (c : Dev nD) (a b : ℕ) : far (far c a) b = far c (a + b) := by
  unfold far; rw [posOf_devAt]; unfold devAt; apply Fin.ext; dsimp only
  rw [show ((posOf c + a) % 8 + b) % 8 = (posOf c + (a + b)) % 8 by omega]
theorem far_mod (c : Dev nD) (a b : ℕ) (h : a % 8 = b % 8) : far c a = far c b := by
  unfold far devAt; apply Fin.ext; dsimp only
  rw [show (posOf c + a) % 8 = (posOf c + b) % 8 by omega]
theorem far_zero (c : Dev nD) : far c 0 = c := by revert c; decide
theorem far_ne (c : Dev nD) (a : ℕ) (h : a % 8 ≠ 0) : far c a ≠ c := by
  rw [far_mod c a (a % 8) (by omega)]
  exact (show ∀ (b : Fin 8) (c : Dev nD), b.val ≠ 0 → far c b.val ≠ c by decide) ⟨a % 8, by omega⟩ c h
theorem nxt_prv (c : Dev nD) : nxt (prv c) = c := by revert c; decide
theorem prv_nxt (c : Dev nD) : prv (nxt c) = c := by revert c; decide
theorem nxt_ne_prv (c : Dev nD) : nxt c ≠ prv c := by revert c; decide

/-! ## Messages -/

/-- Where device `c`'s message `m` goes, and where the message `m` it receives comes from. -/
def tgt (c : Dev nD) (m : ℕ) : Dev nD := if m % 2 = 0 then nxt c else prv c
def src (c : Dev nD) (m : ℕ) : Dev nD := if m % 2 = 0 then prv c else nxt c

theorem src_tgt (c : Dev nD) (m : ℕ) : src (tgt c m) m = c := by
  unfold src tgt; split
  · exact prv_nxt c
  · exact nxt_prv c
theorem tgt_src (c : Dev nD) (m : ℕ) : tgt (src c m) m = c := by
  unfold src tgt; split
  · exact nxt_prv c
  · exact prv_nxt c
theorem tgt_add15 (c : Dev nD) (m : ℕ) : tgt c (m + 15) = src c m := by
  unfold src tgt; by_cases h : m % 2 = 0
  · rw [if_pos h, if_neg (by omega)]
  · rw [if_neg h, if_pos (by omega)]
theorem src_sub8 (c : Dev nD) (m : ℕ) : src c (m + 8) = src c m := by
  unfold src; rw [show (m + 8) % 2 = m % 2 by omega]
theorem tgt_add8 (c : Dev nD) (m : ℕ) : tgt c (m + 8) = tgt c m := by
  unfold tgt; rw [show (m + 8) % 2 = m % 2 by omega]

set_option backward.proofsInPublic true in
/-- The stream and the place (of three) message `m` uses, and the round it is at that place. -/
def kOf (m : ℕ) : Fin 8 := ⟨m % 8, by omega⟩
set_option backward.proofsInPublic true in
def pOf (m : ℕ) : Fin 3 := ⟨m / 8 % 3, by omega⟩
def rd (m : ℕ) : ℕ := m / 24
/-- The message that is round `r` of place `p` of stream `k`. -/
def msg (k : Fin 8) (p : Fin 3) (r : ℕ) : ℕ := 8 * (p.val + 3 * r) + k.val

theorem msg_of (m : ℕ) : msg (kOf m) (pOf m) (rd m) = m := by
  unfold msg kOf pOf rd; dsimp only; omega
theorem kOf_add8 (m : ℕ) : kOf (m + 8) = kOf m := Fin.ext (by unfold kOf; dsimp only; omega)
theorem kOf_add24 (m : ℕ) : kOf (m + 24) = kOf m := Fin.ext (by unfold kOf; dsimp only; omega)
theorem pOf_add24 (m : ℕ) : pOf (m + 24) = pOf m := Fin.ext (by unfold pOf; dsimp only; omega)
theorem rd_add24 (m : ℕ) : rd (m + 24) = rd m + 1 := by unfold rd; omega

/-- The chunk of rows (named by a device) and the band of sixteen of them message `m` of device `c` is about, and the
    band's first row. -/
def hop (m : ℕ) : ℕ := if m % 2 = 0 then 64 - m / 8 else m / 8
def chunkOf (c : Dev nD) (m : ℕ) : Dev nD := far c (hop m)
def bandOf (m : ℕ) : ℕ := m % 8 / 2 + 4 * (m % 2)
def rowOf (c : Dev nD) (m : ℕ) : ℕ := 128 * (chunkOf c m).val + 16 * bandOf m

theorem rowOf_lt (c : Dev nD) (m : ℕ) : rowOf c m + 16 ≤ 1024 := by
  have h : (chunkOf c m).val < 8 := (chunkOf c m).isLt
  unfold rowOf bandOf; omega
theorem row_in (c : Dev nD) (m : ℕ) : BandIn ![rowOf c m, 0] := by
  have := rowOf_lt c m
  intro a; fin_cases a
  · exact this
  · exact Nat.le_refl 1024

/-- Band `m` of a 1024 by 1024 buffer of device `c`. -/
def bandV (M : Memref sig .tc .vmem S1024x1024 .f32) (c : Dev nD) (m : ℕ) : Memref sig .tc .vmem S16x1024 .f32 :=
  rowV M ![rowOf c m, 0] (row_in c m)
/-- The place message `m` is read from on its sender, -/
def srcM (c : Dev nD) (m : ℕ) : Memref sig .tc .vmem S16x1024 .f32 :=
  if m < 8 then bandV pM c m else if m < 56 then bufV (kOf m) else bandV oM c m
/-- and the place it lands in on its receiver `c`. -/
def recvM (c : Dev nD) (m : ℕ) : Memref sig .tc .vmem S16x1024 .f32 :=
  if m < 56 then slotV (kOf m) (pOf m) else bandV oM c (m + 8)

theorem rowV_congr (M : Memref sig .tc .vmem S1024x1024 .f32) {a b : Fin 2 → ℕ} (h : a = b) (ha : BandIn a) (hb : BandIn b) :
    rowV M a ha = rowV M b hb := by subst h; rfl

theorem srcM_lo {c : Dev nD} {m : ℕ} (h : m < 8) : srcM c m = bandV pM c m := if_pos h
theorem srcM_mid {c : Dev nD} {m : ℕ} (h : 8 ≤ m) (h' : m < 56) : srcM c m = bufV (kOf m) := by
  unfold srcM; rw [if_neg (by omega), if_pos h']
theorem srcM_hi {c : Dev nD} {m : ℕ} (h : 56 ≤ m) : srcM c m = bandV oM c m := by
  unfold srcM; rw [if_neg (by omega), if_neg (by omega)]
theorem recvM_lo {c : Dev nD} {m : ℕ} (h : m < 56) : recvM c m = slotV (kOf m) (pOf m) := if_pos h
theorem recvM_hi {c : Dev nD} {m : ℕ} (h : 56 ≤ m) : recvM c m = bandV oM c (m + 8) := if_neg (by omega)

/-- A finished band is at the same rows on its sender and on its receiver. -/
theorem rowOf_tgt (c : Dev nD) (m : ℕ) (h : m < 120) : rowOf (tgt c m) (m + 8) = rowOf c m := by
  unfold rowOf
  rw [show bandOf (m + 8) = bandOf m by unfold bandOf; omega]
  congr 2; congr 1
  unfold chunkOf tgt nxt prv hop
  by_cases he : m % 2 = 0
  · rw [if_pos he, if_pos (by omega), if_pos he, far_far]; exact far_mod _ _ _ (by omega)
  · rw [if_neg he, if_neg (by omega), if_neg he, far_far]; exact far_mod _ _ _ (by omega)
theorem recvM_tgt {c : Dev nD} {m : ℕ} (h : 56 ≤ m) (h' : m < 120) : recvM (tgt c m) m = bandV oM c m := by
  rw [recvM_hi h]; unfold bandV
  exact rowV_congr _ (by rw [rowOf_tgt c m h']) _ _

/-! ## Every message is as long as every other -/

/-- What one message pays each of its two semaphores. -/
def N : ℕ := (slotV 0 0).view.dmaCredit
theorem N_pos : 0 < N := View.dmaCredit_pos _ (by decide)
theorem credit_slot (k : Fin 8) (p : Fin 3) : (slotV k p).view.dmaCredit = N := rfl
theorem credit_buf (k : Fin 8) : (bufV k).view.dmaCredit = N := rfl
theorem credit_row_o (off : Fin 2 → ℕ) (h : BandIn off) : (rowV oM off h).view.dmaCredit = N := rfl
theorem credit_row_p (off : Fin 2 → ℕ) (h : BandIn off) : (rowV pM off h).view.dmaCredit = N := rfl
theorem credit_src (c : Dev nD) (m : ℕ) : (srcM c m).view.dmaCredit = N := by
  unfold srcM; split
  · rfl
  split <;> rfl
theorem credit_recv (c : Dev nD) (m : ℕ) : (recvM c m).view.dmaCredit = N := by
  unfold recvM; split <;> rfl

/-! ## Semaphores -/

/-- The send and the receive semaphore message `m` uses on device `c`; the barrier semaphore. -/
abbrev sendCell (c : Dev nD) (m : ℕ) : GSem nD τ sig := ((c : Thread nD τ), .dma (sendS (kOf m) (pOf m)))
abbrev recvCell (c : Dev nD) (m : ℕ) : GSem nD τ sig := ((c : Thread nD τ), .dma (recvS (kOf m) (pOf m)))
abbrev barCell (c : Dev nD) : GSem nD τ sig := ((c : Thread nD τ), .reg barS)

/-- A device's own semaphores: the barrier, and for each of send and receive one per stream and place. -/
abbrev Own : Type := Option (Bool × Fin 8 × Fin 3)
abbrev csem : Own → SemLoc sig
  | none => .reg barS
  | some (false, k, p) => .dma (sendS k p)
  | some (true, k, p) => .dma (recvS k p)
abbrev kcell (x : Dev nD × Own) : GSem nD τ sig := ((x.1 : Thread nD τ), csem x.2)

theorem sendS_val : ∀ (k : Fin 8) (p : Fin 3), (sendS k p).val = 3 + 3 * k.val + p.val := by decide
theorem recvS_val : ∀ (k : Fin 8) (p : Fin 3), (recvS k p).val = 27 + 3 * k.val + p.val := by decide

theorem csem_injective : Function.Injective csem := by
  have key : ∀ (b b' : Bool) (k k' : Fin 8) (p p' : Fin 3), csem (some (b, k, p)) = csem (some (b', k', p')) → (b, k, p) = (b', k', p') := by
    intro b b' k k' p p' h
    have hk := k.isLt; have hk' := k'.isLt; have hp := p.isLt; have hp' := p'.isLt
    have hv : ∀ (x y : DmaSem sig), SemLoc.dma x = SemLoc.dma y → x.val = y.val := fun x y h => by cases h; rfl
    cases b <;> cases b' <;> have h := hv _ _ h <;>
      simp only [sendS_val, recvS_val] at h
    · rw [show k = k' from Fin.ext (by omega), show p = p' from Fin.ext (by omega)]
    · omega
    · omega
    · rw [show k = k' from Fin.ext (by omega), show p = p' from Fin.ext (by omega)]
  intro x y h
  rcases x with _ | ⟨b, k, p⟩ <;> rcases y with _ | ⟨b', k', p'⟩
  · rfl
  · exfalso; cases b' <;> cases h
  · exfalso; cases b <;> cases h
  · exact congrArg some (key _ _ _ _ _ _ h)
theorem kcell_injective : Function.Injective kcell := by
  rintro ⟨c, x⟩ ⟨c', x'⟩ h
  have h1 : c = c' := by have := congrArg (fun g : GSem nD τ sig => g.1.1) h; exact this
  subst h1
  rw [csem_injective (show csem x = csem x' from congrArg Prod.snd h)]

end Cert.Ring
-- ==== Proof.Protocol.lean ====
module

public import proofs.«01_k».proof.Proof.Places
public import proofs.«01_k».proof.Proof.Gen.KernelIdeal.Launch
public import Idealize.ShloMosaic.Lib.Pipeline.Launch
public import Idealize.ShloMosaic.Lib.Pipeline.Kit
public import Idealize.ShloMosaic.Lib.Pointwise
public import Idealize.ShloMosaic.Lib.Tactic

/-! # What every message carries, and the rounds of every semaphore

Over any float values: the rows a device computes (`partial rows`), the contents of each message (`val`), and the
schedule under which the semaphores hand memory over. A landing hands the receiver the landed band AND the sender's
word that one more place on the sender's side is free again: the place of the message fifteen later in the program
order, which goes the opposite way round the ring. -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore zero, arbitrary generator registers. -/
def s₀ : MemSt nD τ sig (Elt F) := ⟨m, fun _ => 0, ρ⟩

/-! ## Contents -/

/-- Device `c`'s two operands as staged. -/
def xs (c : Dev nD) : Vec F S1024x128 .f32 := (win0_0.blk (0 : Fin 1)).view.read (Elt F) ((s₀ m ρ).mem ((c : Thread nD τ).loc main_arg0))
def ws (c : Dev nD) : Vec F S128x1024 .f32 := (win0_1.blk (0 : Fin 1)).view.read (Elt F) ((s₀ m ρ).mem ((c : Thread nD τ).loc main_arg1))

theorem in64 (d : Dev nD) : ∀ a, (![128 * d.val, 0] : Fin 2 → ℕ) a + S64x128.size a ≤ S1024x128.size a := by revert d; decide
theorem in64' (d : Dev nD) : ∀ a, (![128 * d.val + 64, 0] : Fin 2 → ℕ) a + S64x128.size a ≤ S1024x128.size a := by revert d; decide
theorem in128 (d : Dev nD) : ∀ a, (![128 * d.val, 0] : Fin 2 → ℕ) a + S128x128.size a ≤ S1024x128.size a := by revert d; decide

/-- The upper and lower half of device `c`'s own chunk of rows of its partial product, and chunk `d` in one piece: as
    the kernel computes them. -/
def topP (c : Dev nD) : FVec F S64x1024 .f32 :=
  prod64 ((xM : Memref sig .tc .vmem S1024x128 .f32).view.readAt (Elt F) (Rect.unit (s := S1024x128) ![128 * c.val, 0] S64x128.size (in64 c)).toLoadRect (xs m ρ c)) (ws m ρ c)
def botP (c : Dev nD) : FVec F S64x1024 .f32 :=
  prod64 ((xM : Memref sig .tc .vmem S1024x128 .f32).view.readAt (Elt F) (Rect.unit (s := S1024x128) ![128 * c.val + 64, 0] S64x128.size (in64' c)).toLoadRect (xs m ρ c)) (ws m ρ c)
def chunkP (c d : Dev nD) : FVec F S128x1024 .f32 :=
  prod128 ((xM : Memref sig .tc .vmem S1024x128 .f32).view.readAt (Elt F) (Rect.unit (s := S1024x128) ![128 * d.val, 0] S128x128.size (in128 d)).toLoadRect (xs m ρ c)) (ws m ρ c)

set_option backward.proofsInPublic true in
/-- Device `c`'s whole partial product, row by row. -/
def part (c : Dev nD) : Vec F S1024x1024 .f32 := fun i =>
  if (i 0).val / 128 = c.val then
    if (i 0).val % 128 < 64 then topP m ρ c (ix2 ⟨(i 0).val % 64, Nat.mod_lt _ (by decide)⟩ (i 1))
    else botP m ρ c (ix2 ⟨(i 0).val % 64, Nat.mod_lt _ (by decide)⟩ (i 1))
  else chunkP m ρ c ⟨(i 0).val / 128, Nat.div_lt_of_lt_mul (i 0).isLt⟩ (ix2 ⟨(i 0).val % 128, Nat.mod_lt _ (by decide)⟩ (i 1))

/-- The band of the partial product message `n` is about. -/
def bandP (c : Dev nD) (n : ℕ) : Vec F S16x1024 .f32 := (bandV pM c n).view.read (Elt F) (part m ρ c)

/-- A band as one landing slot holds it (two more axes of size one), and one buffer's slice as a band. -/
def asSlot (v : Vec F S16x1024 .f32) : Vec F S1x1x16x1024 .f32 :=
  fun i => v ((Shape.reshapeEquiv squeezes_S1x1x16x1024_S16x1024.numel_eq).symm i)
def asBand (v : Vec F S1x16x1024 .f32) : Vec F S16x1024 .f32 :=
  fun i => v (Shape.reshapeEquiv squeezes_S1x16x1024_S16x1024.numel_eq i)

/-- What message `n` of device `c` carries. -/
def val (c : Dev nD) (n : ℕ) : Vec F S16x1024 .f32 :=
  if n < 8 then bandP m ρ c n
  else if n < 56 then asBand (addV (bandP m ρ c n) (asSlot (val (src c n) (n - 8))))
  else if n < 64 then finV (bandP m ρ c n) (asSlot (val (src c n) (n - 8)))
  else val (src c n) (n - 8)
termination_by n
decreasing_by all_goals omega

theorem val_lo {c : Dev nD} {n : ℕ} (h : n < 8) : val m ρ c n = bandP m ρ c n := by rw [val, if_pos h]
theorem val_add {c : Dev nD} {n : ℕ} (h : n < 48) :
    val m ρ c (n + 8) = asBand (addV (bandP m ρ c (n + 8)) (asSlot (val m ρ (src c n) n))) := by
  rw [val, if_neg (by omega), if_pos (by omega), src_sub8, Nat.add_sub_cancel]
theorem val_fin {c : Dev nD} {n : ℕ} (h : 48 ≤ n) (h' : n < 56) :
    val m ρ c (n + 8) = finV (bandP m ρ c (n + 8)) (asSlot (val m ρ (src c n) n)) := by
  rw [val, if_neg (by omega), if_neg (by omega), if_pos (by omega), src_sub8, Nat.add_sub_cancel]
theorem val_hi {c : Dev nD} {n : ℕ} (h : 56 ≤ n) : val m ρ c (n + 8) = val m ρ (src c n) n := by
  rw [val, if_neg (by omega), if_neg (by omega), if_neg (by omega), src_sub8, Nat.add_sub_cancel]

/-! ## Assertions about one place -/

/-- Place `M` of device `c` holding the band `v`; holding anything. -/
def Holds (M : Memref sig .tc .vmem S16x1024 .f32) (c : Dev nD) (v : Vec F S16x1024 .f32) : sProp 𝕄 :=
  iprop(∃ f, ⌜M.view.read (Elt F) f = v⌝ ∗ (M.view.loc (c : Thread nD τ) ↦[M.view.set]{fullShare} f))
def Free (M : Memref sig .tc .vmem S16x1024 .f32) (c : Dev nD) : sProp 𝕄 :=
  iprop(∃ f, (M.view.loc (c : Thread nD τ) ↦[M.view.set]{fullShare} f))

omit [FloatOps F] in
instance Holds_storable (M : Memref sig .tc .vmem S16x1024 .f32) (c : Dev nD) (v : Vec F S16x1024 .f32) :
    BI.Storable (upEmb : UEmb _ 𝕄) (Holds (F := F) M c v) := by unfold Holds; infer_instance
omit [FloatOps F] in
instance Free_storable (M : Memref sig .tc .vmem S16x1024 .f32) (c : Dev nD) :
    BI.Storable (upEmb : UEmb _ 𝕄) (Free (F := F) M c) := by unfold Free; infer_instance

omit [FloatOps F] in
theorem Holds_free (M : Memref sig .tc .vmem S16x1024 .f32) (c : Dev nD) (v : Vec F S16x1024 .f32) :
    Holds (F := F) M c v ⊢ Free M c := by
  unfold Holds Free
  iintro ⟨%f, -, H⟩
  iexists f; iexact H

/-! ## The schedule -/

/-- Leave for device `c` to send its message `n`: the place it lands in, and that its receiver is at that round. -/
def Pool (c : Dev nD) (n : ℕ) : sProp 𝕄 :=
  iprop(Free (recvM (tgt c n) n) (tgt c n) ∗ reached ER (recvCell (tgt c n) n) (rd n))
/-- Leave for message `n`, if there is one. -/
def PoolIf (c : Dev nD) (n : ℕ) : sProp 𝕄 := if n < 112 then Pool (F := F) c n else iprop(emp)

def recvPay (c : Dev nD) (n : ℕ) : sProp 𝕄 := iprop(Holds (recvM c n) c (val m ρ (src c n) n) ∗ PoolIf c (n + 15))
def sendPay (c : Dev nD) (n : ℕ) : sProp 𝕄 := Holds (srcM c n) c (val m ρ c n)
/-- What a neighbour's signal hands device `c`: leave for the first messages it sends that neighbour (`nxt c`, the duty
    `true`: the even ones; `prv c`: the odd ones). -/
def barPay (c : Dev nD) (d : Bool) : sProp 𝕄 :=
  bigSep ((Finset.range 15).filter fun n => n % 2 = if d then 0 else 1) fun n => Pool (F := F) c n

omit [FloatOps F] in
instance Pool_storable (c : Dev nD) (n : ℕ) : BI.Storable (upEmb : UEmb _ 𝕄) (Pool (F := F) c n) := by unfold Pool; infer_instance
omit [FloatOps F] in
instance PoolIf_storable (c : Dev nD) (n : ℕ) : BI.Storable (upEmb : UEmb _ 𝕄) (PoolIf (F := F) c n) := by unfold PoolIf; split <;> infer_instance
instance recvPay_storable (c : Dev nD) (n : ℕ) : BI.Storable (upEmb : UEmb _ 𝕄) (recvPay (F := F) m ρ c n) := by unfold recvPay; infer_instance
instance sendPay_storable (c : Dev nD) (n : ℕ) : BI.Storable (upEmb : UEmb _ 𝕄) (sendPay (F := F) m ρ c n) := by unfold sendPay; infer_instance
omit [FloatOps F] in
instance barPay_storable (c : Dev nD) (d : Bool) : BI.Storable (upEmb : UEmb _ 𝕄) (barPay (F := F) c d) := by unfold barPay; infer_instance

/-- The duties, amounts and payloads of one of a device's own semaphores. -/
def dutiesAt (x : Dev nD × Own) (r : ℕ) : Finset Bool :=
  match x.2 with
  | none => if r = 0 then Finset.univ else ∅
  | some (_, k, p) => if msg k p r < 112 then {false} else ∅
def amountAt (x : Dev nD × Own) : ℕ := match x.2 with | none => 1 | some _ => N
def payAt (x : Dev nD × Own) (r : ℕ) (d : Bool) : sProp 𝕄 :=
  match x.2 with
  | none => barPay x.1 d
  | some (false, k, p) => sendPay m ρ x.1 (msg k p r)
  | some (true, k, p) => recvPay m ρ x.1 (msg k p r)

instance payAt_storable (x : Dev nD × Own) (r : ℕ) (d : Bool) : BI.Storable (upEmb : UEmb _ 𝕄) (payAt (F := F) m ρ x r d) := by
  rcases x with ⟨c, _ | ⟨b, k, p⟩⟩
  · show BI.Storable _ (barPay (F := F) c d); infer_instance
  · cases b
    · show BI.Storable _ (sendPay (F := F) m ρ c (msg k p r)); infer_instance
    · show BI.Storable _ (recvPay (F := F) m ρ c (msg k p r)); infer_instance

open Classical in
/-- The schedule. -/
def Rd : Rounds.Schedule (GSem nD τ sig) Bool 𝕄 where
  duties := Function.extend kcell dutiesAt fun _ _ => ∅
  unitless _ := False
  amount g _ _ := Function.extend kcell amountAt (fun _ => 1) g
  payload := Function.extend kcell (payAt m ρ) fun _ _ _ => iprop(emp)
  amount_pos g _ _ _ := by
    by_cases h : ∃ x, kcell x = g
    · obtain ⟨x, rfl⟩ := h
      rw [kcell_injective.extend_apply]
      rcases x with ⟨c, _ | x⟩
      · exact Nat.one_pos
      · exact N_pos
    · rw [Function.extend_apply' _ _ _ h]; exact Nat.one_pos

instance Rd_storable (g : GSem nD τ sig) (r : ℕ) (d : Bool) : BI.Storable (upEmb : UEmb _ 𝕄) ((Rd (F := F) m ρ).payload g r d) := by
  show BI.Storable _ (Function.extend kcell (payAt m ρ) (fun _ _ _ => iprop(emp)) g r d)
  by_cases h : ∃ x, kcell x = g
  · obtain ⟨x, rfl⟩ := h
    rw [kcell_injective.extend_apply]; infer_instance
  · rw [Function.extend_apply' _ _ _ h]; infer_instance

section Sched
variable (c : Dev nD)

theorem duties_at (x : Dev nD × Own) (r : ℕ) : (Rd (F := F) m ρ).duties (kcell x) r = dutiesAt x r := by
  show Function.extend kcell dutiesAt (fun _ _ => ∅) (kcell x) r = _
  rw [kcell_injective.extend_apply]
theorem amount_at (x : Dev nD × Own) (r : ℕ) (d : Bool) : (Rd (F := F) m ρ).amount (kcell x) r d = amountAt x := by
  show Function.extend kcell amountAt (fun _ => 1) (kcell x) = _
  rw [kcell_injective.extend_apply]
theorem payload_at (x : Dev nD × Own) (r : ℕ) (d : Bool) : (Rd (F := F) m ρ).payload (kcell x) r d = payAt m ρ x r d := by
  show Function.extend kcell (payAt m ρ) (fun _ _ _ => iprop(emp)) (kcell x) r d = _
  rw [kcell_injective.extend_apply]

/-- The index of a message's two cells. -/
abbrev sendIx (n : ℕ) : Own := some (false, kOf n, pOf n)
abbrev recvIx (n : ℕ) : Own := some (true, kOf n, pOf n)

theorem duties_send {n : ℕ} (h : n < 112) : (Rd (F := F) m ρ).duties (sendCell c n) (rd n) = {false} := by
  rw [show sendCell c n = kcell (c, sendIx n) from rfl, duties_at]
  show (if msg (kOf n) (pOf n) (rd n) < 112 then ({false} : Finset Bool) else ∅) = _
  rw [msg_of, if_pos h]
theorem duties_recv {n : ℕ} (h : n < 112) : (Rd (F := F) m ρ).duties (recvCell c n) (rd n) = {false} := by
  rw [show recvCell c n = kcell (c, recvIx n) from rfl, duties_at]
  show (if msg (kOf n) (pOf n) (rd n) < 112 then ({false} : Finset Bool) else ∅) = _
  rw [msg_of, if_pos h]
theorem duties_bar : (Rd (F := F) m ρ).duties (barCell c) 0 = Finset.univ := by
  rw [show barCell c = kcell (c, none) from rfl, duties_at]; rfl
theorem amount_send (n r : ℕ) (d : Bool) : (Rd (F := F) m ρ).amount (sendCell c n) r d = N := by
  rw [show sendCell c n = kcell (c, sendIx n) from rfl, amount_at]; rfl
theorem amount_recv (n r : ℕ) (d : Bool) : (Rd (F := F) m ρ).amount (recvCell c n) r d = N := by
  rw [show recvCell c n = kcell (c, recvIx n) from rfl, amount_at]; rfl
theorem amount_bar (d : Bool) : (Rd (F := F) m ρ).amount (barCell c) 0 d = 1 := by
  rw [show barCell c = kcell (c, none) from rfl, amount_at]; rfl
theorem payload_send (n : ℕ) (d : Bool) : (Rd (F := F) m ρ).payload (sendCell c n) (rd n) d = sendPay m ρ c n := by
  rw [show sendCell c n = kcell (c, sendIx n) from rfl, payload_at]
  show sendPay m ρ c (msg (kOf n) (pOf n) (rd n)) = _; rw [msg_of]
theorem payload_recv (n : ℕ) (d : Bool) : (Rd (F := F) m ρ).payload (recvCell c n) (rd n) d = recvPay m ρ c n := by
  rw [show recvCell c n = kcell (c, recvIx n) from rfl, payload_at]
  show recvPay m ρ c (msg (kOf n) (pOf n) (rd n)) = _; rw [msg_of]
theorem payload_bar (d : Bool) : (Rd (F := F) m ρ).payload (barCell c) 0 d = barPay c d := by
  rw [show barCell c = kcell (c, none) from rfl, payload_at]; rfl

theorem expect_send {n : ℕ} (h : n < 112) : (Rd (F := F) m ρ).expect (sendCell c n) (rd n) = N := by
  unfold Schedule.expect Schedule.amountOf; rw [duties_send m ρ c h, Finset.sum_singleton, amount_send]
theorem expect_recv {n : ℕ} (h : n < 112) : (Rd (F := F) m ρ).expect (recvCell c n) (rd n) = N := by
  unfold Schedule.expect Schedule.amountOf; rw [duties_recv m ρ c h, Finset.sum_singleton, amount_recv]
theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]

theorem rest_send {n : ℕ} (h : n < 112) :
    bigSep ((Rd (F := F) m ρ).duties (sendCell c n) (rd n) \ ∅) (fun d => (Rd (F := F) m ρ).payload (sendCell c n) (rd n) d) = sendPay m ρ c n := by
  rw [Finset.sdiff_empty, duties_send m ρ c h, bigSep_singleton, payload_send]
theorem rest_recv {n : ℕ} (h : n < 112) :
    bigSep ((Rd (F := F) m ρ).duties (recvCell c n) (rd n) \ ∅) (fun d => (Rd (F := F) m ρ).payload (recvCell c n) (rd n) d) = recvPay m ρ c n := by
  rw [Finset.sdiff_empty, duties_recv m ρ c h, bigSep_singleton, payload_recv]
theorem rest_bar :
    bigSep ((Rd (F := F) m ρ).duties (barCell c) 0 \ ∅) (fun d => (Rd (F := F) m ρ).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl

theorem duties_send_late {n r : ℕ} (h : 112 ≤ n) (hr : rd n ≤ r) : (Rd (F := F) m ρ).duties (sendCell c n) r = ∅ := by
  rw [show sendCell c n = kcell (c, sendIx n) from rfl, duties_at]
  show (if msg (kOf n) (pOf n) r < 112 then ({false} : Finset Bool) else ∅) = _
  rw [if_neg]; unfold msg kOf pOf; unfold rd at hr; dsimp only; omega
theorem duties_recv_late {n r : ℕ} (h : 112 ≤ n) (hr : rd n ≤ r) : (Rd (F := F) m ρ).duties (recvCell c n) r = ∅ := by
  rw [show recvCell c n = kcell (c, recvIx n) from rfl, duties_at]
  show (if msg (kOf n) (pOf n) r < 112 then ({false} : Finset Bool) else ∅) = _
  rw [if_neg]; unfold msg kOf pOf; unfold rd at hr; dsimp only; omega
theorem duties_bar_late {r : ℕ} (hr : 1 ≤ r) : (Rd (F := F) m ρ).duties (barCell c) r = ∅ := by
  rw [show barCell c = kcell (c, none) from rfl, duties_at]
  show (if r = 0 then (Finset.univ : Finset Bool) else ∅) = _
  rw [if_neg (by omega)]

end Sched

/-! ## Levels, and what a device owes -/

/-- The credit classes of a cell, and their levels: the barrier at 1, a landing of message `n` at `2 + n`, everything
    else at 0. -/
def L (g : GSem nD τ sig) : Finset ℕ := if g.1.2 = .tc then Finset.range 112 else ∅
def lv (g : GSem nD τ sig) (ι : ℕ) : ℕ := match g.2 with | .reg _ => 1 | .dma s => if 27 ≤ s.val then 2 + ι else 0

theorem L_of_ne (g : GSem nD τ sig) (h : g.1.2 ≠ .tc) : L g = ∅ := if_neg h
theorem L_tc (c : Dev nD) (sm : SemLoc sig) : L ((c : Thread nD τ), sm) = Finset.range 112 := if_pos rfl
theorem lv_recv (c : Dev nD) (n ι : ℕ) : lv (recvCell c n) ι = 2 + ι := by
  show (if 27 ≤ (recvS (kOf n) (pOf n)).val then 2 + ι else 0) = _
  rw [recvS_val, if_pos (by omega)]
theorem lv_send (c : Dev nD) (n ι : ℕ) : lv (sendCell c n) ι = 0 := by
  show (if 27 ≤ (sendS (kOf n) (pOf n)).val then 2 + ι else 0) = _
  have := (kOf n).isLt; have := (pOf n).isLt
  rw [sendS_val, if_neg (by omega)]
theorem lv_bar (c : Dev nD) (ι : ℕ) : lv (barCell c) ι = 1 := rfl

/-- What device `c` owes for the messages in `S`. -/
def Owed (c : Dev nD) (S : Finset ℕ) : CellTallies nD τ sig ℕ := ∑ n ∈ S, tallyAt (recvCell (tgt c n) n) n N

theorem Owed_erase (c : Dev nD) {S : Finset ℕ} {n : ℕ} (h : n ∈ S) : Owed c S = Owed c (S.erase n) + tallyAt (recvCell (tgt c n) n) n N := by
  unfold Owed; rw [Finset.sum_erase_add _ _ h]
theorem Owed_pos {c : Dev nD} {S : Finset ℕ} {g : GSem nD τ sig} {u : ℕ} (h : 0 < Owed c S g u) :
    ∃ n ∈ S, g = recvCell (tgt c n) n ∧ u = n := by
  unfold Owed at h
  rw [Finset.sum_apply, Finsupp.finset_sum_apply] at h
  obtain ⟨n, hn, hp⟩ := Finset.exists_ne_zero_of_sum_ne_zero (Nat.pos_iff_ne_zero.mp h)
  refine ⟨n, hn, ?_⟩
  rw [tallyAt_apply] at hp
  by_contra hc
  exact hp (if_neg hc)

/-- A device may wait on a cell of class `ι` and level at most `b` while it owes only messages past `b`. -/
theorem mayWait (c : Dev nD) (sm : SemLoc sig) (ι b : ℕ) (S : Finset ℕ) (hι : ι < 112) (hS : ∀ n ∈ S, b < 2 + n ∧ n < 112)
    (hb : lv ((c : Thread nD τ), sm) ι ≤ b) : (levAts L lv : sProp 𝕄) ⊢ MayWait (c : Thread nD τ) sm ι (Owed c S) :=
  MayOwe.of_cut (L := L) (lev := lv) b (fun p hp => by rw [Finset.mem_singleton.mp hp, L_tc]; exact Finset.mem_range.mpr hι)
    (fun g u hg => by
      obtain ⟨n, hn, rfl, rfl⟩ := Owed_pos hg
      rw [L_tc]; exact Finset.mem_range.mpr (hS _ hn).2)
    (fun p hp => by rw [Finset.mem_singleton.mp hp]; exact hb)
    (fun g u hg => by
      obtain ⟨n, hn, rfl, rfl⟩ := Owed_pos hg
      rw [lv_recv]; exact (hS _ hn).1)

end Cert.Ring
-- ==== Proof.Moves.lean ====
module

public import proofs.«01_k».proof.Proof.Protocol

/-! # Sending a message and waiting for one

`Toks c a S` is everything about semaphores device `c` holds once it has waited for the messages below `a` and still has
those in `S` to send. Two rules move it: a wait for message `a`, and a send of any `n` in `S`. -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- The weakest precondition of a program of device `c`'s core. -/
abbrev WP (c : Dev nD) (p : KProg F) (Q : PUnit → sProp 𝕄) : sProp 𝕄 :=
  wp frame (wpE (defs₀ (F := F)) 𝒱₀ (c : Thread nD τ) none) Set.univ p Q

section Sep
variable {I : Type} [DecidableEq I] {s t : Finset I} {i : I}

omit [FloatOps F] in
/-- One element out of a family of assertions, and back. -/
theorem sep_take (Φ : I → sProp 𝕄) (h : i ∈ s) : bigSep s Φ ⊢ iprop(Φ i ∗ bigSep (s.erase i) Φ) := Entails.of_eq (bigSep_erase h)
omit [FloatOps F] in
theorem sep_split (Φ : I → sProp 𝕄) (h : s = insert i t) (hi : i ∉ t) : bigSep s Φ ⊢ iprop(Φ i ∗ bigSep t Φ) :=
  Entails.of_eq (by subst h; exact bigSep_insert hi)
omit [FloatOps F] in
theorem sep_join (Φ : I → sProp 𝕄) (h : s = insert i t) (hi : i ∉ t) : iprop(Φ i ∗ bigSep t Φ) ⊢ bigSep s Φ :=
  Entails.of_eq (by subst h; exact (bigSep_insert hi).symm)
omit [FloatOps F] in
theorem sep_cut (Φ : I → sProp 𝕄) {u : Finset I} (h : u = s ∪ t) (hd : Disjoint s t) : bigSep u Φ ⊢ iprop(bigSep s Φ ∗ bigSep t Φ) :=
  Entails.of_eq (by subst h; exact bigSep_union hd)
omit [FloatOps F] in
theorem sep_glue (Φ : I → sProp 𝕄) {u : Finset I} (h : u = s ∪ t) (hd : Disjoint s t) : iprop(bigSep s Φ ∗ bigSep t Φ) ⊢ bigSep u Φ :=
  Entails.of_eq (by subst h; exact (bigSep_union hd).symm)
omit [FloatOps F] in
theorem sep_one (Φ : I → sProp 𝕄) (h : i ∈ s) : bigSep s Φ ⊢ Φ i := bigSep_elim h
omit [FloatOps F] in
theorem sep_eq (Φ : I → sProp 𝕄) (h : s = t) : bigSep s Φ ⊢ bigSep t Φ := Entails.of_eq (by rw [h])
end Sep

/-- What everybody knows: every cell's invariant, and the levels. -/
def Recs (K : Dev nD × Own → ℕ) : sProp 𝕄 :=
  iprop((bigSep Finset.univ fun x => cellInv ER (Rd m ρ) (K x) (kcell x)) ∗ levAts L lv)

instance Recs_persistent (K : Dev nD × Own → ℕ) : BI.Persistent (Recs (F := F) m ρ K) := by unfold Recs; infer_instance

theorem Recs_cell (K : Dev nD × Own → ℕ) (x : Dev nD × Own) : Recs m ρ K ⊢ cellInv ER (Rd m ρ) (K x) (kcell x) := by
  unfold Recs
  iintro ⟨H, -⟩
  iapply (sep_one (fun x => cellInv ER (Rd m ρ) (K x) (kcell x)) (Finset.mem_univ x)); iexact H
theorem Recs_lev (K : Dev nD × Own → ℕ) : Recs m ρ K ⊢ (levAts L lv : sProp 𝕄) := by
  unfold Recs
  iintro ⟨-, H⟩
  iexact H

/-- The two signatures still to be used of message `n`. -/
def Tok (c : Dev nD) (n : ℕ) : sProp 𝕄 :=
  iprop(dutyTok ER (sendCell c n) (rd n) false ∗ dutyTok ER (recvCell (tgt c n) n) (rd n) false)
/-- Device `c`'s two positions at the cells of message `n`, and that the rounds are reached. -/
def AtP (c : Dev nD) (n : ℕ) : sProp 𝕄 :=
  iprop((atPos ER (sendCell c n) (rd n) ∅ 0 ∗ atPos ER (recvCell c n) (rd n) ∅ 0)
    ∗ (reached ER (sendCell c n) (rd n) ∗ reached ER (recvCell c n) (rd n)))
def RC (c : Dev nD) (n : ℕ) : sProp 𝕄 := cred (tallyAt (recvCell c n) n N)
def SC (c : Dev nD) (n : ℕ) : sProp 𝕄 := cred (tallyAt (sendCell c n) n N)
def Owes (c : Dev nD) (O : CellTallies nD τ sig ℕ) : sProp 𝕄 := iprop(∃ W, owes (c : Thread nD τ) O W)

def Toks (c : Dev nD) (a : ℕ) (S : Finset ℕ) : sProp 𝕄 :=
  iprop((bigSep (S.filter fun n => n < a + 15) fun n => Pool (F := F) c n) ∗ (bigSep S fun n => Tok (F := F) c n)
    ∗ (bigSep (Finset.Ico a 112) fun n => RC (F := F) c n) ∗ (bigSep (Finset.Ico a 112 \ S) fun n => SC (F := F) c n)
    ∗ (bigSep (Finset.Ico a (a + 24)) fun n => AtP (F := F) c n) ∗ Owes c (Owed c S))

/-- The place of device `c` freed by sending message `n`'s receiver leave for the message fifteen later. -/
def FreeIf (c : Dev nD) (n : ℕ) : sProp 𝕄 := if n + 15 < 112 then Free (F := F) (recvM c (n + 15)) c else iprop(emp)

/-- Both cells of message `n` on device `c` are at its round. -/
def Rch (c : Dev nD) (n : ℕ) : sProp 𝕄 := iprop(reached ER (sendCell c n) (rd n) ∗ reached ER (recvCell c n) (rd n))
instance Rch_persistent (c : Dev nD) (n : ℕ) : BI.Persistent (Rch (F := F) c n) := by unfold Rch; infer_instance

theorem AtP_reached {c : Dev nD} {a n : ℕ} (h : a ≤ n) (h' : n < a + 24) :
    (bigSep (Finset.Ico a (a + 24)) fun n => AtP (F := F) c n) ⊢ Rch c n := by
  refine (sep_one (fun n => AtP (F := F) c n) (Finset.mem_Ico.mpr ⟨h, h'⟩)).trans ?_
  unfold AtP Rch
  iintro ⟨-, H⟩
  iexact H

theorem FreeIf_pos {c : Dev nD} {n : ℕ} (h : n + 15 < 112) : FreeIf (F := F) c n ⊢ Free (F := F) (recvM c (n + 15)) c := Entails.of_eq (if_pos h)
theorem FreeIf_neg {c : Dev nD} {n : ℕ} (h : ¬ n + 15 < 112) : FreeIf (F := F) c n ⊢ iprop(emp) := Entails.of_eq (if_neg h)
theorem PoolIf_pos {c : Dev nD} {n : ℕ} (h : n < 112) : PoolIf (F := F) c n = Pool c n := if_pos h
theorem PoolIf_neg {c : Dev nD} {n : ℕ} (h : ¬ n < 112) : PoolIf (F := F) c n = iprop(emp) := if_neg h
theorem Pool_of (c : Dev nD) (n : ℕ) :
    iprop(Free (F := F) (recvM c (n + 15)) c ∗ reached ER (recvCell c (n + 15)) (rd (n + 15))) ⊢ Pool (F := F) (tgt c n) (n + 15) :=
  Entails.of_eq (by unfold Pool; rw [tgt_add15, src_tgt])

theorem routes_ok (c t : Dev nD) : τ.routes (c : Thread nD τ) (t : Thread nD τ) = true := by routes

theorem erase_pool {S : Finset ℕ} {n a : ℕ} : (S.erase n).filter (fun j => j < a) = (S.filter fun j => j < a).erase n := by
  ext j; simp only [Finset.mem_filter, Finset.mem_erase]; tauto
theorem erase_sent {S : Finset ℕ} {n a : ℕ} (hn : n ∈ S) (ha : a ≤ n) (h : n < 112) :
    Finset.Ico a 112 \ S.erase n = insert n (Finset.Ico a 112 \ S) := by
  ext j; simp only [Finset.mem_sdiff, Finset.mem_erase, Finset.mem_insert, Finset.mem_Ico]
  by_cases hj : j = n
  · subst hj; simp [hn, ha, h]
  · simp [hj]

/-- SEND: message `n`, its band held at its source. -/
theorem send_step (K : Dev nD × Own → ℕ) (c : Dev nD) (a : ℕ) (S : Finset ℕ) (n : ℕ) (hn : n ∈ S) (h : n < 112) (ha : a ≤ n) (ha' : n < a + 9)
    {k : Fin 8} {p : Fin 3} {s d : Memref sig .tc .vmem S16x1024 .f32} {hs : Words s} {hd : Words d} {t : Dev nD} {P : KProg F} {Q : PUnit → sProp 𝕄}
    (hk : k = kOf n) (hp : p = pOf n) (hsrc : s = srcM c n) (ht : t = tgt c n) (hdst : d = recvM t n) :
    iprop(Recs m ρ K ∗ Toks c a S ∗ Holds (srcM c n) c (val m ρ c n) ∗ FreeIf c n ∗ (Toks c a (S.erase n) -∗ WP c P Q))
      ⊢ WP c (sendT k p s d hs hd t P) Q := by
  subst hk hp hsrc ht hdst
  unfold sendT
  unfold Toks
  iintro ⟨#HR, HT, Hsrc, HF, Hk⟩
  unfold Holds
  icases Hsrc with ⟨%fs, %hfs, Hsrc⟩
  icases HT with ⟨HPool, HTok, HRC, HSC, HAt, HO⟩
  ihave HAt := (persistent_entails_left (AtP_reached (c := c) (a := a) (n := n) ha (by omega))) $$ HAt
  icases HAt with ⟨HAt, #HrS⟩
  ihave HAt := (persistent_entails_left (AtP_reached (c := c) (a := a) (n := n + 15) (by omega) (by omega))) $$ HAt
  icases HAt with ⟨HAt, #HrF⟩
  ihave HPool := (sep_take (fun n => Pool (F := F) c n) (show n ∈ S.filter fun j => j < a + 15 from Finset.mem_filter.mpr ⟨hn, by omega⟩)) $$ HPool
  ihave HTok := (sep_take (fun n => Tok (F := F) c n) hn) $$ HTok
  icases HPool with ⟨HP, HPool⟩
  icases HTok with ⟨HK, HTok⟩
  unfold Pool Tok Rch Owes Free
  icases HP with ⟨⟨%fd, Hdst⟩, #HrT⟩
  icases HK with ⟨HtS, HtR⟩
  icases HrS with ⟨#HrS, -⟩
  icases HrF with ⟨-, #HrF⟩
  icases HO with ⟨%W, HO⟩
  iapply (Rounds.wp_send_pointsTo_with 𝒱₀ ER (Rd m ρ) (c : Thread nD τ) none
      (c' := (tgt c n : Thread nD τ)) (hr := routes_ok c (tgt c n)) (sS := .dma (sendS (kOf n) (pOf n))) (sem := .dma (recvS (kOf n) (pOf n))) (src := srcM c n) (dst := recvM (tgt c n) n) (F := PoolIf (F := F) (tgt c n) (n + 15)) (κ₁ := K (c, sendIx n)) (κ₂ := K (tgt c n, recvIx n)) (fs := fs) (fd := fd)
      (r₁ := rd n) (r₂ := rd n) (d₁ := false) (d₂ := false)
      (by rw [duties_send m ρ c h]; exact Finset.mem_singleton_self _) (by rw [duties_recv m ρ (tgt c n) h]; exact Finset.mem_singleton_self _)
      n n N (credit_recv _ _) (amount_send m ρ c n _ _) (amount_recv m ρ (tgt c n) n _ _) (O₀ := Owed c S) (Owed c (S.erase n)) (Owed_erase c hn)
      (by
        rw [payload_send]; unfold sendPay Holds
        iintro H; iexists fs; isplitr; · (ipureintro; exact hfs)
        iexact H)
      (by
        rw [payload_recv]; unfold recvPay Holds
        rw [src_tgt]
        iintro ⟨H, HP⟩
        isplitl [H]
        · iexists ((recvM (tgt c n) n).view.write (Elt F) fd ((srcM c n).view.read (Elt F) fs) Finset.univ); isplitr
          · ipureintro; exact (View.read_write_univ _ _).trans hfs
          iexact H
        · iexact HP)) $$ [Hsrc Hdst HF HO HtS HtR]
  · isplitr; · iapply (Recs_cell m ρ K (c, sendIx n)); iexact HR
    isplitr; · iapply (Recs_cell m ρ K (tgt c n, recvIx n)); iexact HR
    isplitl [Hsrc]; · iexact Hsrc
    isplitl [Hdst HF]
    · isplitl [Hdst]; · iexact Hdst
      by_cases h15 : n + 15 < 112
      · ihave HF := (FreeIf_pos (F := F) h15) $$ HF
        rw [PoolIf_pos h15]
        iapply (Pool_of c n) $$ [HF]
        isplitl [HF]; · iexact HF
        iexact HrF
      · ihave HF := (FreeIf_neg (F := F) h15) $$ HF
        rw [PoolIf_neg h15]; iexact HF
    isplitl [HO]; · iexact HO
    isplitl [HtS]; · iexact HtS
    isplitr; · iexact HrS
    isplitl [HtR]; · iexact HtR
    iexact HrT
  iintro ⟨HC, HO⟩
  iapply Hk
  isplitl [HPool]; · rw [erase_pool]; iexact HPool
  isplitl [HTok]; · iexact HTok
  isplitl [HRC]; · iexact HRC
  isplitl [HC HSC]
  · iapply (sep_join (fun n => SC (F := F) c n) (erase_sent hn ha h) (by simp [hn]))
    isplitl [HC]; · unfold SC; iexact HC
    iexact HSC
  isplitl [HAt]; · iexact HAt
  iexists W; iexact HO

theorem filter_next {S : Finset ℕ} {a : ℕ} (h : a + 15 ∈ S) :
    S.filter (fun j => j < a + 1 + 15) = insert (a + 15) (S.filter fun j => j < a + 15) := by
  ext j; simp only [Finset.mem_filter, Finset.mem_insert]
  by_cases hj : j = a + 15
  · subst hj; simp [h]
  · simp only [hj, false_or, and_congr_right_iff]; intro _; omega
theorem filter_stop {S : Finset ℕ} {a : ℕ} (h : a + 15 ∉ S) :
    S.filter (fun j => j < a + 1 + 15) = S.filter fun j => j < a + 15 := by
  ext j; simp only [Finset.mem_filter]
  by_cases hj : j = a + 15
  · subst hj; simp [h]
  · simp only [and_congr_right_iff]; intro _; omega
theorem sent_next {S : Finset ℕ} {a : ℕ} (h : a ∉ S) (h' : a < 112) :
    Finset.Ico a 112 \ S = insert a (Finset.Ico (a + 1) 112 \ S) := by
  ext j; simp only [Finset.mem_sdiff, Finset.mem_insert, Finset.mem_Ico]
  by_cases hj : j = a
  · subst hj; simp [h, h']
  · simp only [hj, false_or, and_congr_left_iff]; intro _; omega
theorem Ico_next {a b : ℕ} (h : a < b) : Finset.Ico a b = insert a (Finset.Ico (a + 1) b) := by
  ext j; simp only [Finset.mem_insert, Finset.mem_Ico]; omega
theorem Ico_more {a b : ℕ} (h : a ≤ b) : Finset.Ico a (b + 1) = insert b (Finset.Ico a b) := by
  ext j; simp only [Finset.mem_insert, Finset.mem_Ico]; omega

/-- WAIT for message `a`: this device's own send of it, then its arrival. -/
theorem wait_step (K : Dev nD × Own → ℕ) (c : Dev nD) (a : ℕ) (S : Finset ℕ) (h : a < 112) (ha : a ∉ S) (hS : ∀ n ∈ S, a < n ∧ n < 112)
    (h15 : a + 15 < 112 → a + 15 ∈ S)
    {k : Fin 8} {p : Fin 3} {s d : Memref sig .tc .vmem S16x1024 .f32} {hs : Words s} {hd : Words d} {P : KProg F} {Q : PUnit → sProp 𝕄}
    (hk : k = kOf a) (hp : p = pOf a) (hcs : s.view.dmaCredit = N) (hcd : d.view.dmaCredit = N) :
    iprop(Recs m ρ K ∗ Toks c a S
        ∗ ((Holds (srcM c a) c (val m ρ c a) ∗ Holds (recvM c a) c (val m ρ (src c a) a) ∗ Toks c (a + 1) S) -∗ WP c P Q))
      ⊢ WP c (waitsT k p s d hs hd P) Q := by
  subst hk hp
  unfold waitsT
  iintro ⟨#HR, HT, Hk⟩
  unfold Toks
  icases HT with ⟨HPool, HTok, HRC, HSC, HAt, HO⟩
  ihave HRC := (sep_split (fun n => RC (F := F) c n) (Ico_next h) (by simp)) $$ HRC
  ihave HSC := (sep_split (fun n => SC (F := F) c n) (sent_next ha h) (by simp)) $$ HSC
  ihave HAt := (sep_split (fun n => AtP (F := F) c n) (Ico_next (show a < a + 24 by omega)) (by simp)) $$ HAt
  unfold RC SC Owes
  icases HRC with ⟨HcR, HRC⟩
  icases HSC with ⟨HcS, HSC⟩
  icases HAt with ⟨HA, HAt⟩
  icases HO with ⟨%W, HO⟩
  ihave HA := (show AtP (F := F) c a ⊢ iprop((atPos ER (sendCell c a) (rd a) ∅ 0 ∗ atPos ER (recvCell c a) (rd a) ∅ 0)
    ∗ (reached ER (sendCell c a) (rd a) ∗ reached ER (recvCell c a) (rd a))) from .rfl) $$ HA
  icases HA with ⟨⟨HaS, HaR⟩, -⟩
  iapply (Rounds.wp_wait_rest_token 𝒱₀ ER (Rd m ρ) (c : Thread nD τ) none (κ := K (c, sendIx a))
      (wpE_waitDma2_eq 𝒱₀ (c : Thread nD τ) none Set.univ) (Set.mem_univ _) a (O := Owed c S) (W := W) (R := rd a) (m := 0) (T := ∅)
      (by rw [Nat.zero_add, hcs]; exact (expect_send m ρ c h).symm)) $$ [HcS HO HaS]
  · isplitr; · iapply (Recs_cell m ρ K (c, sendIx a)); iexact HR
    isplitl [HcS]; · rw [hcs]; iexact HcS
    isplitl [HO]; · iexact HO
    isplitr
    · iapply (mayWait c (.dma (sendS (kOf a) (pOf a))) a 0 S h (fun n hn => ⟨by omega, (hS n hn).2⟩) (le_of_eq (lv_send c a a)))
      iapply (Recs_lev m ρ K); iexact HR
    iexact HaS
  iintro ⟨HO, HaS, #HrS, Hpay⟩
  ihave HpS := (Entails.of_eq (rest_send m ρ c h)) $$ Hpay
  iapply (Rounds.wp_wait_rest_token 𝒱₀ ER (Rd m ρ) (c : Thread nD τ) none (κ := K (c, recvIx a))
      (wpE_waitDma2_eq 𝒱₀ (c : Thread nD τ) none Set.univ) (Set.mem_univ _) a (O := Owed c S) (R := rd a) (m := 0) (T := ∅)
      (by rw [Nat.zero_add, hcd]; exact (expect_recv m ρ c h).symm)) $$ [HcR HO HaR]
  · isplitr; · iapply (Recs_cell m ρ K (c, recvIx a)); iexact HR
    isplitl [HcR]; · rw [hcd]; iexact HcR
    isplitl [HO]; · iexact HO
    isplitr
    · iapply (mayWait c (.dma (recvS (kOf a) (pOf a))) a (2 + a) S h (fun n hn => ⟨by have := (hS n hn).1; omega, (hS n hn).2⟩) (le_of_eq (lv_recv c a a)))
      iapply (Recs_lev m ρ K); iexact HR
    iexact HaR
  iintro ⟨HO, HaR, #HrR, Hpay⟩
  ihave HpR := (Entails.of_eq (rest_recv m ρ c h)) $$ Hpay
  unfold recvPay sendPay
  icases HpR with ⟨HpR, HPI⟩
  iapply Hk
  isplitl [HpS]; · iexact HpS
  isplitl [HpR]; · iexact HpR
  isplitl [HPool HPI]
  · by_cases h15' : a + 15 < 112
    · ihave HPI := (Entails.of_eq (PoolIf_pos (F := F) h15')) $$ HPI
      iapply (sep_join (fun n => Pool (F := F) c n) (filter_next (h15 h15')) (by simp))
      isplitl [HPI]; · iexact HPI
      iexact HPool
    · rw [filter_stop (fun hc => h15' (hS _ hc).2)]
      iexact HPool
  isplitl [HTok]; · iexact HTok
  isplitl [HRC]; · iexact HRC
  isplitl [HSC]; · iexact HSC
  isplitl [HaS HaR HAt]
  · iapply (sep_join (fun n => AtP (F := F) c n) (show Finset.Ico (a + 1) (a + 1 + 24) = _ from (congrArg (Finset.Ico (a + 1)) (show a + 1 + 24 = a + 24 + 1 by omega)).trans (Ico_more (show a + 1 ≤ a + 24 by omega))) (by simp))
    isplitl [HaS HaR]
    · unfold AtP sendCell recvCell
      rw [kOf_add24, pOf_add24, rd_add24]
      isplitl [HaS HaR]
      · isplitl [HaS] <;> iassumption
      · isplitl <;> iassumption
    · iexact HAt
  iexists _; iexact HO

end Cert.Ring
-- ==== Proof.Rows.lean ====
module

public import proofs.«01_k».proof.Proof.Moves

/-! # Rows of the buffers, in coordinates

A band, a chunk or half a chunk is all elements with rows in an interval; a landing slot and a send buffer are bands
under one or two axes of size one. What the loads read and the stores leave, element by element. -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (ρ : Dev nD → PrngReg)

/-- The elements of a 1024 by 1024 buffer in rows `lo` to `hi` (excluded). -/
def rows (lo hi : ℕ) : Finset S1024x1024.Idx := Finset.univ.filter fun i => lo ≤ (i 0).val ∧ (i 0).val < hi

theorem mem_rows {lo hi : ℕ} {i : S1024x1024.Idx} : i ∈ rows lo hi ↔ lo ≤ (i 0).val ∧ (i 0).val < hi := by
  unfold rows; simp

theorem rect_rows (R : ℕ) (off : Fin 2 → ℕ) (h : ∀ a, off a + (⟨2, ![R, 1024]⟩ : Shape).size a ≤ S1024x1024.size a) :
    (Rect.unit (s := S1024x1024) off (⟨2, ![R, 1024]⟩ : Shape).size h).set = rows (off 0) (off 0 + R) := by
  ext i
  rw [Rect.mem_set_unit, mem_rows]
  have h1 : off 1 + 1024 ≤ 1024 := h 1
  have hi : (i 1).val < 1024 := (i 1).isLt
  constructor
  · intro hh; exact hh 0
  · intro hh a
    fin_cases a
    · exact hh
    · show off 1 ≤ (i 1).val ∧ (i 1).val < off 1 + 1024
      omega

/-- The place of element `j` of rows starting at `off 0`. -/
theorem rect_emb (R : ℕ) (off : Fin 2 → ℕ) (h : ∀ a, off a + (⟨2, ![R, 1024]⟩ : Shape).size a ≤ S1024x1024.size a)
    (j : (⟨2, ![R, 1024]⟩ : Shape).Idx) (i : S1024x1024.Idx) (h0 : (i 0).val = off 0 + (j 0).val) (h1 : (i 1).val = (j 1).val) :
    (Rect.unit (s := S1024x1024) off (⟨2, ![R, 1024]⟩ : Shape).size h).emb j = i := by
  have h1' : off 1 + 1024 ≤ 1024 := h 1
  funext a
  apply Fin.ext
  fin_cases a
  · show off 0 + 1 * (j 0).val = (i 0).val; omega
  · show off 1 + 1 * (j 1).val = (i 1).val; omega

theorem band_set_p (off : Fin 2 → ℕ) (h : BandIn off) : (rowV pM off h).view.set = rows (off 0) (off 0 + 16) :=
  (View.set_slice_whole _ _).trans (rect_rows 16 off h)
theorem band_set_o (off : Fin 2 → ℕ) (h : BandIn off) : (rowV oM off h).view.set = rows (off 0) (off 0 + 16) :=
  (View.set_slice_whole _ _).trans (rect_rows 16 off h)

/-- A store over whole rows leaves, at each element of them, the stored value. -/
theorem store_rows (R : ℕ) (off : Fin 2 → ℕ) (h : ∀ a, off a + (⟨2, ![R, 1024]⟩ : Shape).size a ≤ S1024x1024.size a)
    (f : Vec F S1024x1024 .f32) (w : Vec F (⟨2, ![R, 1024]⟩ : Shape) .f32) (i : S1024x1024.Idx) (j : (⟨2, ![R, 1024]⟩ : Shape).Idx)
    (h0 : (i 0).val = off 0 + (j 0).val) (h1 : (i 1).val = (j 1).val) :
    ((pM : Memref sig .tc .vmem S1024x1024 .f32).access (Rect.unit (s := S1024x1024) off (⟨2, ![R, 1024]⟩ : Shape).size h)).write (Elt F) f w Finset.univ i = w j := by
  rw [← rect_emb R off h j i h0 h1]
  exact View.write_emb_of_mem (v := (pM : Memref sig .tc .vmem S1024x1024 .f32).access (Rect.unit (s := S1024x1024) off (⟨2, ![R, 1024]⟩ : Shape).size h)) f w (x := j) (Finset.mem_univ j)

/-- Device `c`'s operands, staged. -/
def Xp (c : Dev nD) : sProp 𝕄 := (xM.view.loc (c : Thread nD τ) ↦[Finset.univ]{fullShare} xs m ρ c)
def Wp (c : Dev nD) : sProp 𝕄 := (wM.view.loc (c : Thread nD τ) ↦[Finset.univ]{fullShare} ws m ρ c)
/-- Rows of the partial product: with anything in them, and computed. -/
def Blank (c : Dev nD) (lo hi : ℕ) : sProp 𝕄 := iprop(∃ f, (pM.view.loc (c : Thread nD τ) ↦[rows lo hi]{fullShare} f))
def Done (c : Dev nD) (lo hi : ℕ) : sProp 𝕄 := (pM.view.loc (c : Thread nD τ) ↦[rows lo hi]{fullShare} part m ρ c)

theorem w_read (c : Dev nD) : wM.view.readAt (Elt F) (Rect.unit (s := S128x1024) ![0, 0] S128x1024.size inb_S128x1024_S128x1024_0_0).toLoadRect (ws m ρ c) = ws m ρ c :=
  Memref.readAt_unit_zero (Elt F) cc0_stg1_0 (by decide) _ _

theorem part_top (c : Dev nD) (i : S1024x1024.Idx) (h0 : 128 * c.val ≤ (i 0).val) (h1 : (i 0).val < 128 * c.val + 64) :
    part m ρ c i = topP m ρ c (ix2 ⟨(i 0).val - 128 * c.val, by omega⟩ (i 1)) := by
  unfold part
  rw [if_pos (by omega), if_pos (by omega)]
  congr 2; apply Fin.ext; show (i 0).val % 64 = (i 0).val - 128 * c.val; omega
theorem part_bot (c : Dev nD) (i : S1024x1024.Idx) (h0 : 128 * c.val + 64 ≤ (i 0).val) (h1 : (i 0).val < 128 * c.val + 128) :
    part m ρ c i = botP m ρ c (ix2 ⟨(i 0).val - (128 * c.val + 64), by omega⟩ (i 1)) := by
  unfold part
  rw [if_pos (by omega), if_neg (by omega)]
  congr 2; apply Fin.ext; show (i 0).val % 64 = (i 0).val - (128 * c.val + 64); omega
theorem part_chunk (c d : Dev nD) (hd : d ≠ c) (i : S1024x1024.Idx) (h0 : 128 * d.val ≤ (i 0).val) (h1 : (i 0).val < 128 * d.val + 128) :
    part m ρ c i = chunkP m ρ c d (ix2 ⟨(i 0).val - 128 * d.val, by omega⟩ (i 1)) := by
  have hdc : d.val ≠ c.val := fun e => hd (Fin.ext e)
  unfold part
  rw [if_neg (by omega)]
  have hq : (⟨(i 0).val / 128, Nat.div_lt_of_lt_mul (i 0).isLt⟩ : Dev nD) = d := Fin.ext (show (i 0).val / 128 = d.val by omega)
  rw [hq]
  congr 2; apply Fin.ext; show (i 0).val % 128 = (i 0).val - 128 * d.val; omega

end Cert.Ring
-- ==== Proof.Local.lean ====
module

public import proofs.«01_k».proof.Proof.Rows

/-! # The steps of one device alone

Multiplying a block of rows, adding what landed, and finishing a band. -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (ρ : Dev nD → PrngReg)

/-- The upper half of this device's own chunk. -/
theorem gemm_top (c : Dev nD) {ox : Fin 2 → ℕ} {hx : ∀ a, ox a + S64x128.size a ≤ S1024x128.size a} {op : Fin 2 → ℕ}
    {hp : ∀ a, op a + S64x1024.size a ≤ S1024x1024.size a} {P : KProg F} {Q : PUnit → sProp 𝕄}
    (eo : ox = ![128 * c.val, 0]) (ep : op = ![128 * c.val, 0]) :
    iprop((Xp m ρ c ∗ Wp m ρ c) ∗ Blank c (128 * c.val) (128 * c.val + 64)
        ∗ (((Xp m ρ c ∗ Wp m ρ c) ∗ Done m ρ c (128 * c.val) (128 * c.val + 64)) -∗ WP c P Q))
      ⊢ WP c (gemm64T ox hx op hp P) Q := by
  subst eo ep
  unfold gemm64T Xp Wp Blank
  iintro ⟨⟨Hx, Hw⟩, ⟨%f, Hp⟩, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [w_read]
  iapply (wp_load_rect 𝒱₀ (c : Thread nD τ) none Set.univ (m := pM) (r := Rect.unit (s := S1024x1024) ![128 * c.val, 0] S64x1024.size hp)
    (S := rows (128 * c.val) (128 * c.val + 64)) (le_of_eq ((View.set_slice_whole _ _).trans (rect_rows 64 _ hp)))) $$ Hp; iintro Hp
  iapply (wp_store 𝒱₀ (c : Thread nD τ) none Set.univ (m := pM) (r := Rect.unit (s := S1024x1024) ![128 * c.val, 0] S64x1024.size hp) (Mk := Finset.univ)
    (S := rows (128 * c.val) (128 * c.val + 64)) (le_of_eq ((View.set_slice_whole _ _).trans (rect_rows 64 _ hp)))) $$ Hp; iintro Hp
  iapply Hk
  isplitl [Hx Hw]
  · isplitl [Hx] <;> iassumption
  have hc : (pM.view.loc (c : Thread nD τ) ↦[rows (128 * c.val) (128 * c.val + 64)]{fullShare}
      ((pM : Memref sig .tc .vmem S1024x1024 .f32).access (Rect.unit (s := S1024x1024) ![128 * c.val, 0] S64x1024.size hp)).write (Elt F) f
        (prod64 (xM.view.readAt (Elt F) (Rect.unit (s := S1024x128) ![128 * c.val, 0] S64x128.size hx).toLoadRect (xs m ρ c)) (ws m ρ c)) Finset.univ : sProp 𝕄)
      = Done m ρ c (128 * c.val) (128 * c.val + 64) := by
    unfold Done
    refine pointsTo_congr fun i hi => ?_
    have hi' := mem_rows.mp hi
    refine Eq.trans ?_ (part_top m ρ c i hi'.1 (by omega)).symm
    exact store_rows 64 _ hp f _ i _ (show (i 0).val = 128 * c.val + ((i 0).val - (128 * c.val)) by omega) rfl
  iapply (Entails.of_eq hc); iexact Hp

/-- The lower half of it. -/
theorem gemm_bot (c : Dev nD) {ox : Fin 2 → ℕ} {hx : ∀ a, ox a + S64x128.size a ≤ S1024x128.size a} {op : Fin 2 → ℕ}
    {hp : ∀ a, op a + S64x1024.size a ≤ S1024x1024.size a} {P : KProg F} {Q : PUnit → sProp 𝕄}
    (eo : ox = ![128 * c.val + 64, 0]) (ep : op = ![128 * c.val + 64, 0]) :
    iprop((Xp m ρ c ∗ Wp m ρ c) ∗ Blank c (128 * c.val + 64) (128 * c.val + 128)
        ∗ (((Xp m ρ c ∗ Wp m ρ c) ∗ Done m ρ c (128 * c.val + 64) (128 * c.val + 128)) -∗ WP c P Q))
      ⊢ WP c (gemm64T ox hx op hp P) Q := by
  subst eo ep
  unfold gemm64T Xp Wp Blank
  iintro ⟨⟨Hx, Hw⟩, ⟨%f, Hp⟩, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [w_read]
  iapply (wp_load_rect 𝒱₀ (c : Thread nD τ) none Set.univ (m := pM) (r := Rect.unit (s := S1024x1024) ![128 * c.val + 64, 0] S64x1024.size hp)
    (S := rows (128 * c.val + 64) (128 * c.val + 128)) (le_of_eq ((View.set_slice_whole _ _).trans (rect_rows 64 _ hp)))) $$ Hp; iintro Hp
  iapply (wp_store 𝒱₀ (c : Thread nD τ) none Set.univ (m := pM) (r := Rect.unit (s := S1024x1024) ![128 * c.val + 64, 0] S64x1024.size hp) (Mk := Finset.univ)
    (S := rows (128 * c.val + 64) (128 * c.val + 128)) (le_of_eq ((View.set_slice_whole _ _).trans (rect_rows 64 _ hp)))) $$ Hp; iintro Hp
  iapply Hk
  isplitl [Hx Hw]
  · isplitl [Hx] <;> iassumption
  have hc : (pM.view.loc (c : Thread nD τ) ↦[rows (128 * c.val + 64) (128 * c.val + 128)]{fullShare}
      ((pM : Memref sig .tc .vmem S1024x1024 .f32).access (Rect.unit (s := S1024x1024) ![128 * c.val + 64, 0] S64x1024.size hp)).write (Elt F) f
        (prod64 (xM.view.readAt (Elt F) (Rect.unit (s := S1024x128) ![128 * c.val + 64, 0] S64x128.size hx).toLoadRect (xs m ρ c)) (ws m ρ c)) Finset.univ : sProp 𝕄)
      = Done m ρ c (128 * c.val + 64) (128 * c.val + 128) := by
    unfold Done
    refine pointsTo_congr fun i hi => ?_
    have hi' := mem_rows.mp hi
    refine Eq.trans ?_ (part_bot m ρ c i hi'.1 (by omega)).symm
    exact store_rows 64 _ hp f _ i _ (show (i 0).val = 128 * c.val + 64 + ((i 0).val - (128 * c.val + 64)) by omega) rfl
  iapply (Entails.of_eq hc); iexact Hp

/-- Another device's chunk. -/
theorem gemm_chunk (c : Dev nD) (d : Dev nD) (hd : d ≠ c) {ox : Fin 2 → ℕ} {hx : ∀ a, ox a + S128x128.size a ≤ S1024x128.size a} {op : Fin 2 → ℕ}
    {hp : ∀ a, op a + S128x1024.size a ≤ S1024x1024.size a} {P : KProg F} {Q : PUnit → sProp 𝕄}
    (eo : ox = ![128 * d.val, 0]) (ep : op = ![128 * d.val, 0]) :
    iprop((Xp m ρ c ∗ Wp m ρ c) ∗ Blank c (128 * d.val) (128 * d.val + 128)
        ∗ (((Xp m ρ c ∗ Wp m ρ c) ∗ Done m ρ c (128 * d.val) (128 * d.val + 128)) -∗ WP c P Q))
      ⊢ WP c (gemm128T ox hx op hp P) Q := by
  subst eo ep
  unfold gemm128T Xp Wp Blank
  iintro ⟨⟨Hx, Hw⟩, ⟨%f, Hp⟩, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [w_read]
  iapply (wp_load_rect 𝒱₀ (c : Thread nD τ) none Set.univ (m := pM) (r := Rect.unit (s := S1024x1024) ![128 * d.val, 0] S128x1024.size hp)
    (S := rows (128 * d.val) (128 * d.val + 128)) (le_of_eq ((View.set_slice_whole _ _).trans (rect_rows 128 _ hp)))) $$ Hp; iintro Hp
  iapply (wp_store 𝒱₀ (c : Thread nD τ) none Set.univ (m := pM) (r := Rect.unit (s := S1024x1024) ![128 * d.val, 0] S128x1024.size hp) (Mk := Finset.univ)
    (S := rows (128 * d.val) (128 * d.val + 128)) (le_of_eq ((View.set_slice_whole _ _).trans (rect_rows 128 _ hp)))) $$ Hp; iintro Hp
  iapply Hk
  isplitl [Hx Hw]
  · isplitl [Hx] <;> iassumption
  have hc : (pM.view.loc (c : Thread nD τ) ↦[rows (128 * d.val) (128 * d.val + 128)]{fullShare}
      ((pM : Memref sig .tc .vmem S1024x1024 .f32).access (Rect.unit (s := S1024x1024) ![128 * d.val, 0] S128x1024.size hp)).write (Elt F) f
        (prod128 (xM.view.readAt (Elt F) (Rect.unit (s := S1024x128) ![128 * d.val, 0] S128x128.size hx).toLoadRect (xs m ρ c)) (ws m ρ c)) Finset.univ : sProp 𝕄)
      = Done m ρ c (128 * d.val) (128 * d.val + 128) := by
    unfold Done
    refine pointsTo_congr fun i hi => ?_
    have hi' := mem_rows.mp hi
    refine Eq.trans ?_ (part_chunk m ρ c d hd i hi'.1 (by omega)).symm
    exact store_rows 128 _ hp f _ i _ (show (i 0).val = 128 * d.val + ((i 0).val - (128 * d.val)) by omega) rfl
  iapply (Entails.of_eq hc); iexact Hp

/-! ## Slots and send buffers -/

/-- What a load of a whole slot or send buffer reads of the band the slot or buffer holds. -/
theorem slot_read (k : Fin 8) (p : Fin 3) (f : Vec F S8x3x16x1024 .f32) (v : Vec F S16x1024 .f32) (h : (slotV k p).view.read (Elt F) f = v) :
    ((sM : Memref sig .tc .vmem S8x3x16x1024 .f32).access (Rect.unit (s := S8x3x16x1024) ![k.val, p.val, 0, 0] S1x1x16x1024.size (slot_in k p))).read (Elt F) f = asSlot v := by
  subst h
  funext i
  show _ = (slotV k p).view.read (Elt F) f ((Shape.reshapeEquiv squeezes_S1x1x16x1024_S16x1024.numel_eq).symm i)
  have e : ∀ j, (slotV k p).view.read (Elt F) f j =
      ((sM : Memref sig .tc .vmem S8x3x16x1024 .f32).access (Rect.unit (s := S8x3x16x1024) ![k.val, p.val, 0, 0] S1x1x16x1024.size (slot_in k p))).read (Elt F) f
        (Shape.reshapeEquiv squeezes_S1x1x16x1024_S16x1024.numel_eq j) := fun j => rfl
  rw [e, Equiv.apply_symm_apply]
theorem buf_write (k : Fin 8) (f : Vec F S8x16x1024 .f32) (w : Vec F S1x16x1024 .f32) :
    (bufV k).view.read (Elt F) (((bM : Memref sig .tc .vmem S8x16x1024 .f32).access (Rect.unit (s := S8x16x1024) ![k.val, 0, 0] S1x16x1024.size (buf_in k))).write (Elt F) f w Finset.univ)
      = asBand w := by
  funext j
  have e : ∀ g, (bufV k).view.read (Elt F) g j =
      ((bM : Memref sig .tc .vmem S8x16x1024 .f32).access (Rect.unit (s := S8x16x1024) ![k.val, 0, 0] S1x16x1024.size (buf_in k))).read (Elt F) g
        (Shape.reshapeEquiv squeezes_S1x16x1024_S16x1024.numel_eq j) := fun g => rfl
  refine (e _).trans ?_
  exact congrFun (View.read_write_univ (v := (bM : Memref sig .tc .vmem S8x16x1024 .f32).access (Rect.unit (s := S8x16x1024) ![k.val, 0, 0] S1x16x1024.size (buf_in k))) f w) _
theorem slot_set (k : Fin 8) (p : Fin 3) :
    ((sM : Memref sig .tc .vmem S8x3x16x1024 .f32).access (Rect.unit (s := S8x3x16x1024) ![k.val, p.val, 0, 0] S1x1x16x1024.size (slot_in k p))).set = (slotV k p).view.set :=
  (View.set_reshape _ _).symm
theorem buf_set (k : Fin 8) :
    ((bM : Memref sig .tc .vmem S8x16x1024 .f32).access (Rect.unit (s := S8x16x1024) ![k.val, 0, 0] S1x16x1024.size (buf_in k))).set = (bufV k).view.set :=
  (View.set_reshape _ _).symm

/-- One slot, or one send buffer, held through the kernel's own access to it. -/
theorem slot_pts (k : Fin 8) (p : Fin 3) (c : Dev nD) (f : Vec F S8x3x16x1024 .f32) :
    ((slotV k p).view.loc (c : Thread nD τ) ↦[(slotV k p).view.set]{fullShare} f : sProp 𝕄)
      = (((sM : Memref sig .tc .vmem S8x3x16x1024 .f32).access (Rect.unit (s := S8x3x16x1024) ![k.val, p.val, 0, 0] S1x1x16x1024.size (slot_in k p))).loc (c : Thread nD τ)
        ↦[((sM : Memref sig .tc .vmem S8x3x16x1024 .f32).access (Rect.unit (s := S8x3x16x1024) ![k.val, p.val, 0, 0] S1x1x16x1024.size (slot_in k p))).set]{fullShare} f) := by
  rw [slot_set]; rfl
theorem buf_pts (k : Fin 8) (c : Dev nD) (f : Vec F S8x16x1024 .f32) :
    ((bufV k).view.loc (c : Thread nD τ) ↦[(bufV k).view.set]{fullShare} f : sProp 𝕄)
      = (((bM : Memref sig .tc .vmem S8x16x1024 .f32).access (Rect.unit (s := S8x16x1024) ![k.val, 0, 0] S1x16x1024.size (buf_in k))).loc (c : Thread nD τ)
        ↦[((bM : Memref sig .tc .vmem S8x16x1024 .f32).access (Rect.unit (s := S8x16x1024) ![k.val, 0, 0] S1x16x1024.size (buf_in k))).set]{fullShare} f) := by
  rw [buf_set]; rfl

theorem band_pts (c : Dev nD) (n : ℕ) (h : BandIn ![rowOf c n, 0]) (f : Vec F S1024x1024 .f32) :
    ((bandV oM c n).view.loc (c : Thread nD τ) ↦[(bandV oM c n).view.set]{fullShare} f : sProp 𝕄)
      = (((oM : Memref sig .tc .vmem S1024x1024 .f32).access (Rect.unit (s := S1024x1024) ![rowOf c n, 0] S16x1024.size h)).loc (c : Thread nD τ)
        ↦[((oM : Memref sig .tc .vmem S1024x1024 .f32).access (Rect.unit (s := S1024x1024) ![rowOf c n, 0] S16x1024.size h)).set]{fullShare} f) := rfl

theorem rows_mono {a b a' b' : ℕ} (h : a' ≤ a) (h' : b ≤ b') : rows a b ⊆ rows a' b' := by
  intro i hi; rw [mem_rows] at hi ⊢; omega
theorem band_in_chunk (c : Dev nD) (n : ℕ) : rows (rowOf c n) (rowOf c n + 16) ⊆ rows (128 * (chunkOf c n).val) (128 * (chunkOf c n).val + 128) := by
  apply rows_mono <;> (unfold rowOf bandOf; omega)

/-- ADD: this device's band plus what landed, into the send buffer. -/
theorem add_local (c : Dev nD) (q : ℕ) (hq : q < 48) {k : Fin 8} {p : Fin 3} {off : Fin 2 → ℕ} {h : BandIn off} {P : KProg F} {Q : PUnit → sProp 𝕄}
    (hk : k = kOf q) (hp : p = pOf q) (ho : off = ![rowOf c (q + 8), 0]) :
    iprop(Done m ρ c (128 * (chunkOf c (q + 8)).val) (128 * (chunkOf c (q + 8)).val + 128) ∗ Holds (recvM c q) c (val m ρ (src c q) q) ∗ Free (F := F) (bufV (kOf q)) c
        ∗ ((Done m ρ c (128 * (chunkOf c (q + 8)).val) (128 * (chunkOf c (q + 8)).val + 128) ∗ Free (F := F) (recvM c q) c ∗ Holds (srcM c (q + 8)) c (val m ρ c (q + 8))) -∗ WP c P Q))
      ⊢ WP c (addT k p off h P) Q := by
  subst hk hp ho
  rw [recvM_lo (show q < 56 by omega), srcM_mid (show 8 ≤ q + 8 by omega) (show q + 8 < 56 by omega), kOf_add8]
  unfold addT Done Holds Free
  iintro ⟨Hp, ⟨%fs, %hfs, Hs⟩, ⟨%fb, Hb⟩, Hk⟩
  ihave Hs := (Entails.of_eq (slot_pts (kOf q) (pOf q) c fs)) $$ Hs
  ihave Hb := (Entails.of_eq (buf_pts (kOf q) c fb)) $$ Hb
  iapply (wp_load_rect 𝒱₀ (c : Thread nD τ) none Set.univ (m := pM) (r := Rect.unit (s := S1024x1024) ![rowOf c (q + 8), 0] S16x1024.size h)
    (S := rows (128 * (chunkOf c (q + 8)).val) (128 * (chunkOf c (q + 8)).val + 128))
    ((le_of_eq ((View.set_slice_whole _ _).trans (rect_rows 16 _ h))).trans (band_in_chunk c (q + 8)))) $$ Hp; iintro Hp
  iapply (wp_load_rect 𝒱₀ (c : Thread nD τ) none Set.univ (m := sM) (r := Rect.unit (s := S8x3x16x1024) ![(kOf q).val, (pOf q).val, 0, 0] S1x1x16x1024.size (slot_in (kOf q) (pOf q))) (f := (fs : Vec F S8x3x16x1024 .f32))
    subset_rfl) $$ Hs; iintro Hs
  rw [slot_read _ _ fs _ hfs]
  iapply (wp_load_rect 𝒱₀ (c : Thread nD τ) none Set.univ (m := bM) (r := Rect.unit (s := S8x16x1024) ![(kOf q).val, 0, 0] S1x16x1024.size (buf_in (kOf q))) (f := (fb : Vec F S8x16x1024 .f32))
    subset_rfl) $$ Hb; iintro Hb
  iapply (wp_store 𝒱₀ (c : Thread nD τ) none Set.univ (m := bM) (r := Rect.unit (s := S8x16x1024) ![(kOf q).val, 0, 0] S1x16x1024.size (buf_in (kOf q))) (Mk := Finset.univ) (f := (fb : Vec F S8x16x1024 .f32))
    (le_of_eq (View.setOn_univ _))) $$ Hb; iintro Hb
  ihave Hb := (Entails.of_eq (buf_pts (kOf q) c _).symm) $$ Hb
  iapply Hk
  isplitl [Hp]; · iexact Hp
  isplitl [Hs]; · iexists fs; iapply (Entails.of_eq (slot_pts (kOf q) (pOf q) c fs).symm); iexact Hs
  iexists (((bM : Memref sig .tc .vmem S8x16x1024 .f32).access (Rect.unit (s := S8x16x1024) ![(kOf q).val, 0, 0] S1x16x1024.size (buf_in (kOf q)))).write (Elt F) fb
    (addV (bandP m ρ c (q + 8)) (asSlot (val m ρ (src c q) q))) Finset.univ)
  isplitr
  · ipureintro; exact (buf_write _ fb _).trans (val_add m ρ hq).symm
  iexact Hb

/-- FINISH: the last addition and the activation, into the output's band. -/
theorem finish_local (c : Dev nD) (q : ℕ) (hq : 48 ≤ q) (hq' : q < 56) {k : Fin 8} {p : Fin 3} {off oo : Fin 2 → ℕ} {h : BandIn off} {hoo : BandIn oo}
    {P : KProg F} {Q : PUnit → sProp 𝕄}
    (hk : k = kOf q) (hp : p = pOf q) (ho : off = ![rowOf c (q + 8), 0]) (ho' : oo = ![rowOf c (q + 8), 0]) :
    iprop(Done m ρ c (128 * (chunkOf c (q + 8)).val) (128 * (chunkOf c (q + 8)).val + 128) ∗ Holds (recvM c q) c (val m ρ (src c q) q) ∗ Free (F := F) (bandV oM c (q + 8)) c
        ∗ ((Done m ρ c (128 * (chunkOf c (q + 8)).val) (128 * (chunkOf c (q + 8)).val + 128) ∗ Free (F := F) (recvM c q) c ∗ Holds (srcM c (q + 8)) c (val m ρ c (q + 8))) -∗ WP c P Q))
      ⊢ WP c (finishT k p off h oo hoo P) Q := by
  subst hk hp ho ho'
  rw [recvM_lo hq', srcM_hi (show 56 ≤ q + 8 by omega)]
  unfold finishT Done Holds Free
  iintro ⟨Hp, ⟨%fs, %hfs, Hs⟩, ⟨%fb, Hb⟩, Hk⟩
  ihave Hs := (Entails.of_eq (slot_pts (kOf q) (pOf q) c fs)) $$ Hs
  ihave Hb := (Entails.of_eq (band_pts c (q + 8) hoo fb)) $$ Hb
  iapply (wp_load_rect 𝒱₀ (c : Thread nD τ) none Set.univ (m := pM) (r := Rect.unit (s := S1024x1024) ![rowOf c (q + 8), 0] S16x1024.size h)
    (S := rows (128 * (chunkOf c (q + 8)).val) (128 * (chunkOf c (q + 8)).val + 128))
    ((le_of_eq ((View.set_slice_whole _ _).trans (rect_rows 16 _ h))).trans (band_in_chunk c (q + 8)))) $$ Hp; iintro Hp
  iapply (wp_load_rect 𝒱₀ (c : Thread nD τ) none Set.univ (m := sM) (r := Rect.unit (s := S8x3x16x1024) ![(kOf q).val, (pOf q).val, 0, 0] S1x1x16x1024.size (slot_in (kOf q) (pOf q))) (f := (fs : Vec F S8x3x16x1024 .f32))
    subset_rfl) $$ Hs; iintro Hs
  rw [slot_read _ _ fs _ hfs]
  iapply (wp_load_rect 𝒱₀ (c : Thread nD τ) none Set.univ (m := oM) (r := Rect.unit (s := S1024x1024) ![rowOf c (q + 8), 0] S16x1024.size hoo)
    (f := (fb : Vec F S1024x1024 .f32)) subset_rfl) $$ Hb; iintro Hb
  iapply (wp_store 𝒱₀ (c : Thread nD τ) none Set.univ (m := oM) (r := Rect.unit (s := S1024x1024) ![rowOf c (q + 8), 0] S16x1024.size hoo) (Mk := Finset.univ)
    (f := (fb : Vec F S1024x1024 .f32)) (le_of_eq (View.setOn_univ _))) $$ Hb; iintro Hb
  ihave Hb := (Entails.of_eq (band_pts c (q + 8) hoo _).symm) $$ Hb
  iapply Hk
  isplitl [Hp]; · iexact Hp
  isplitl [Hs]; · iexists fs; iapply (Entails.of_eq (slot_pts (kOf q) (pOf q) c fs).symm); iexact Hs
  iexists (((oM : Memref sig .tc .vmem S1024x1024 .f32).access (Rect.unit (s := S1024x1024) ![rowOf c (q + 8), 0] S16x1024.size hoo)).write (Elt F) fb
    (finV (bandP m ρ c (q + 8)) (asSlot (val m ρ (src c q) q))) Finset.univ)
  isplitr
  · ipureintro; rw [val_fin m ρ hq hq']
    exact View.read_write_univ (v := (oM : Memref sig .tc .vmem S1024x1024 .f32).access (Rect.unit (s := S1024x1024) ![rowOf c (q + 8), 0] S16x1024.size hoo)) _ _
  iexact Hb

end Cert.Ring
-- ==== Proof.State.lean ====
module

public import proofs.«01_k».proof.Proof.Local

/-! # One device's state between two steps, and the steps

`St c q D` is what device `c` holds before it waits for message `q`, having sent all below `q + 8` and multiplied the
chunks `D` places on. The families `A1 q` to `A6 q` say which places it holds and how. Every step of the body is a wait
for `q`, then some local work, then the send of `q + 8`. -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (ρ : Dev nD → PrngReg)

/-- Landing places still to be offered; slots kept for good; own output bands not yet finished; output bands held for
    good; send buffers at rest; own bands of the partial product back from their transfers. -/
def A1 (q : ℕ) : Finset ℕ := (Finset.range 112).filter fun j => q + 23 ≤ j ∧ (j = q + 23 ∨ 56 ≤ j)
def A2 (q : ℕ) : Finset ℕ := (Finset.Ico 32 56).filter fun j => j < q
def A3 (q : ℕ) : Finset ℕ := (Finset.Ico 56 64).filter fun j => q + 8 ≤ j
def A4 (q : ℕ) : Finset ℕ := (Finset.Ico 56 120).filter fun j => j < q ∨ (112 ≤ j ∧ j < q + 8)
def A5 (q : ℕ) : Finset ℕ := (Finset.Ico 8 56).filter fun j => (j < 16 ∧ q + 8 ≤ j) ∨ (48 ≤ j ∧ j < q)
def A6 (q : ℕ) : Finset ℕ := (Finset.range 8).filter fun j => j < q

section Sets
variable {q : ℕ}
theorem a1_mem (h : q < 89) : q + 23 ∈ A1 q := Finset.mem_filter.mpr ⟨Finset.mem_range.mpr (by omega), by omega, .inl rfl⟩
theorem a1_next (h : q + 24 < 56) : A1 (q + 1) = insert (q + 24) ((A1 q).erase (q + 23)) := by ext j; simp only [A1, A2, A3, A4, A5, A6, Finset.mem_filter, Finset.mem_insert, Finset.mem_erase, Finset.mem_range, Finset.mem_Ico]; omega
theorem a1_new (h : q + 24 < 56) : q + 24 ∉ (A1 q).erase (q + 23) := by simp only [A1, A2, A3, A4, A5, A6, Finset.mem_filter, Finset.mem_insert, Finset.mem_erase, Finset.mem_range, Finset.mem_Ico]; omega
theorem a1_drop (h : 56 ≤ q + 24) : A1 (q + 1) = (A1 q).erase (q + 23) := by ext j; simp only [A1, A2, A3, A4, A5, A6, Finset.mem_filter, Finset.mem_insert, Finset.mem_erase, Finset.mem_range, Finset.mem_Ico]; omega
theorem a1_same (h : 89 ≤ q) : A1 (q + 1) = A1 q := by ext j; simp only [A1, A2, A3, A4, A5, A6, Finset.mem_filter, Finset.mem_insert, Finset.mem_erase, Finset.mem_range, Finset.mem_Ico]; omega
theorem a2_next (h : 32 ≤ q) (h' : q < 56) : A2 (q + 1) = insert q (A2 q) := by ext j; simp only [A1, A2, A3, A4, A5, A6, Finset.mem_filter, Finset.mem_insert, Finset.mem_erase, Finset.mem_range, Finset.mem_Ico]; omega
theorem a2_new : q ∉ A2 q := by simp only [A1, A2, A3, A4, A5, A6, Finset.mem_filter, Finset.mem_insert, Finset.mem_erase, Finset.mem_range, Finset.mem_Ico]; omega
theorem a2_same (h : q < 32 ∨ 56 ≤ q) : A2 (q + 1) = A2 q := by ext j; simp only [A1, A2, A3, A4, A5, A6, Finset.mem_filter, Finset.mem_insert, Finset.mem_erase, Finset.mem_range, Finset.mem_Ico]; omega
theorem a3_mem (h : 48 ≤ q) (h' : q < 56) : q + 8 ∈ A3 q := by simp only [A1, A2, A3, A4, A5, A6, Finset.mem_filter, Finset.mem_insert, Finset.mem_erase, Finset.mem_range, Finset.mem_Ico]; omega
theorem a3_drop (h : 48 ≤ q) : A3 (q + 1) = (A3 q).erase (q + 8) := by ext j; simp only [A1, A2, A3, A4, A5, A6, Finset.mem_filter, Finset.mem_insert, Finset.mem_erase, Finset.mem_range, Finset.mem_Ico]; omega
theorem a3_same (h : q < 48 ∨ 56 ≤ q) : A3 (q + 1) = A3 q := by ext j; simp only [A1, A2, A3, A4, A5, A6, Finset.mem_filter, Finset.mem_insert, Finset.mem_erase, Finset.mem_range, Finset.mem_Ico]; omega
theorem a4_same (h : q < 56) : A4 (q + 1) = A4 q := by ext j; simp only [A1, A2, A3, A4, A5, A6, Finset.mem_filter, Finset.mem_insert, Finset.mem_erase, Finset.mem_range, Finset.mem_Ico]; omega
theorem a4_next (h : 56 ≤ q) (h' : q < 104) : A4 (q + 1) = insert q (A4 q) := by ext j; simp only [A1, A2, A3, A4, A5, A6, Finset.mem_filter, Finset.mem_insert, Finset.mem_erase, Finset.mem_range, Finset.mem_Ico]; omega
theorem a4_new (h : q < 112) : q ∉ A4 q := by simp only [A1, A2, A3, A4, A5, A6, Finset.mem_filter, Finset.mem_insert, Finset.mem_erase, Finset.mem_range, Finset.mem_Ico]; omega
theorem a4_last (h : 104 ≤ q) (h' : q < 112) : A4 (q + 1) = insert (q + 8) (insert q (A4 q)) := by ext j; simp only [A1, A2, A3, A4, A5, A6, Finset.mem_filter, Finset.mem_insert, Finset.mem_erase, Finset.mem_range, Finset.mem_Ico]; omega
theorem a4_new' : q + 8 ∉ insert q (A4 q) := by simp only [A1, A2, A3, A4, A5, A6, Finset.mem_filter, Finset.mem_insert, Finset.mem_erase, Finset.mem_range, Finset.mem_Ico]; omega
theorem a5_mem (h : q < 8) : q + 8 ∈ A5 q := by simp only [A1, A2, A3, A4, A5, A6, Finset.mem_filter, Finset.mem_insert, Finset.mem_erase, Finset.mem_range, Finset.mem_Ico]; omega
theorem a5_drop (h : q < 8) : A5 (q + 1) = (A5 q).erase (q + 8) := by ext j; simp only [A1, A2, A3, A4, A5, A6, Finset.mem_filter, Finset.mem_insert, Finset.mem_erase, Finset.mem_range, Finset.mem_Ico]; omega
theorem a5_same (h : 8 ≤ q ∧ q < 48 ∨ 56 ≤ q) : A5 (q + 1) = A5 q := by ext j; simp only [A1, A2, A3, A4, A5, A6, Finset.mem_filter, Finset.mem_insert, Finset.mem_erase, Finset.mem_range, Finset.mem_Ico]; omega
theorem a5_next (h : 48 ≤ q) (h' : q < 56) : A5 (q + 1) = insert q (A5 q) := by ext j; simp only [A1, A2, A3, A4, A5, A6, Finset.mem_filter, Finset.mem_insert, Finset.mem_erase, Finset.mem_range, Finset.mem_Ico]; omega
theorem a5_new (h : 48 ≤ q) : q ∉ A5 q := by simp only [A1, A2, A3, A4, A5, A6, Finset.mem_filter, Finset.mem_insert, Finset.mem_erase, Finset.mem_range, Finset.mem_Ico]; omega
theorem a6_next (h : q < 8) : A6 (q + 1) = insert q (A6 q) := by ext j; simp only [A1, A2, A3, A4, A5, A6, Finset.mem_filter, Finset.mem_insert, Finset.mem_erase, Finset.mem_range, Finset.mem_Ico]; omega
theorem a6_new : q ∉ A6 q := by simp only [A1, A2, A3, A4, A5, A6, Finset.mem_filter, Finset.mem_insert, Finset.mem_erase, Finset.mem_range, Finset.mem_Ico]; omega
theorem a6_same (h : 8 ≤ q) : A6 (q + 1) = A6 q := by ext j; simp only [A1, A2, A3, A4, A5, A6, Finset.mem_filter, Finset.mem_insert, Finset.mem_erase, Finset.mem_range, Finset.mem_Ico]; omega
end Sets

section
variable (c : Dev nD) (q : ℕ)
def B1 : sProp 𝕄 := bigSep (A1 q) fun j => Free (F := F) (recvM c j) c
def B2 : sProp 𝕄 := bigSep (A2 q) fun j => Free (F := F) (recvM c j) c
def B3 : sProp 𝕄 := bigSep (A3 q) fun j => Free (F := F) (bandV oM c j) c
def B4 : sProp 𝕄 := bigSep (A4 q) fun j => Holds (bandV oM c j) c (val m ρ c j)
def B5 : sProp 𝕄 := bigSep (A5 q) fun j => Free (F := F) (bufV (kOf j)) c
def B6 : sProp 𝕄 := bigSep (A6 q) fun j => Free (F := F) (bandV pM c j) c
def B1r : sProp 𝕄 := bigSep ((A1 q).erase (q + 23)) fun j => Free (F := F) (recvM c j) c
variable {q}
theorem b2_same (h : q < 32 ∨ 56 ≤ q) : B2 (F := F) c q ⊢ B2 (F := F) c (q + 1) := by
  unfold B2; exact sep_eq (fun j => Free (F := F) (recvM c j) c) (a2_same h).symm
theorem b3_same (h : q < 48 ∨ 56 ≤ q) : B3 (F := F) c q ⊢ B3 (F := F) c (q + 1) := by
  unfold B3; exact sep_eq (fun j => Free (F := F) (bandV oM c j) c) (a3_same h).symm
theorem b4_same (h : q < 56) : B4 m ρ c q ⊢ B4 m ρ c (q + 1) := by
  unfold B4; exact sep_eq (fun j => Holds (bandV oM c j) c (val m ρ c j)) (a4_same h).symm
theorem b5_same (h : 8 ≤ q ∧ q < 48 ∨ 56 ≤ q) : B5 (F := F) c q ⊢ B5 (F := F) c (q + 1) := by
  unfold B5; exact sep_eq (fun j => Free (F := F) (bufV (kOf j)) c) (a5_same h).symm
theorem b6_same (h : 8 ≤ q) : B6 (F := F) c q ⊢ B6 (F := F) c (q + 1) := by
  unfold B6; exact sep_eq (fun j => Free (F := F) (bandV pM c j) c) (a6_same h).symm
theorem b1_same (h : 89 ≤ q) : B1 (F := F) c q ⊢ B1 (F := F) c (q + 1) := by
  unfold B1; exact sep_eq (fun j => Free (F := F) (recvM c j) c) (a1_same h).symm
theorem b1_take (h : q < 89) : B1 (F := F) c q ⊢ iprop(Free (F := F) (recvM c (q + 23)) c ∗ B1r (F := F) c q) := by
  unfold B1 B1r; exact sep_take (fun j => Free (F := F) (recvM c j) c) (a1_mem h)
theorem b1_drop (h : 56 ≤ q + 24) : B1r (F := F) c q ⊢ B1 (F := F) c (q + 1) := by
  unfold B1 B1r; exact sep_eq (fun j => Free (F := F) (recvM c j) c) (a1_drop h).symm
theorem b3_take (h : 48 ≤ q) (h' : q < 56) : B3 (F := F) c q ⊢ iprop(Free (F := F) (bandV oM c (q + 8)) c ∗ B3 (F := F) c (q + 1)) := by
  unfold B3; rw [a3_drop h]; exact sep_take (fun j => Free (F := F) (bandV oM c j) c) (a3_mem h h')
theorem b5_take (h : q < 8) : B5 (F := F) c q ⊢ iprop(Free (F := F) (bufV (kOf (q + 8))) c ∗ B5 (F := F) c (q + 1)) := by
  unfold B5; rw [a5_drop h]; exact sep_take (fun j => Free (F := F) (bufV (kOf j)) c) (a5_mem h)
theorem b5_put (h : 48 ≤ q) (h' : q < 56) : iprop(Free (F := F) (bufV (kOf q)) c ∗ B5 (F := F) c q) ⊢ B5 (F := F) c (q + 1) := by
  unfold B5; exact sep_join (fun j => Free (F := F) (bufV (kOf j)) c) (a5_next h h') (a5_new h)
theorem b6_put (h : q < 8) : iprop(Free (F := F) (bandV pM c q) c ∗ B6 (F := F) c q) ⊢ B6 (F := F) c (q + 1) := by
  unfold B6; exact sep_join (fun j => Free (F := F) (bandV pM c j) c) (a6_next h) a6_new
theorem b2_put (h : 32 ≤ q) (h' : q < 56) : iprop(Free (F := F) (recvM c q) c ∗ B2 (F := F) c q) ⊢ B2 (F := F) c (q + 1) := by
  unfold B2; exact sep_join (fun j => Free (F := F) (recvM c j) c) (a2_next h h') a2_new
theorem b1_put (h : q < 32) : iprop(Free (F := F) (recvM c q) c ∗ B1r (F := F) c q) ⊢ B1 (F := F) c (q + 1) := by
  have e : recvM c (q + 24) = recvM c q := by rw [recvM_lo (show q + 24 < 56 by omega), recvM_lo (show q < 56 by omega), kOf_add24, pOf_add24]
  unfold B1 B1r; rw [← e]; exact sep_join (fun j => Free (F := F) (recvM c j) c) (a1_next (by omega)) (a1_new (by omega))
theorem b4_put (h : 56 ≤ q) (h' : q < 104) : iprop(Holds (bandV oM c q) c (val m ρ c q) ∗ B4 m ρ c q) ⊢ B4 m ρ c (q + 1) := by
  unfold B4; exact sep_join (fun j => Holds (bandV oM c j) c (val m ρ c j)) (a4_next h h') (a4_new (by omega))
theorem b4_last (h : 104 ≤ q) (h' : q < 112) :
    iprop(Holds (bandV oM c (q + 8)) c (val m ρ c (q + 8)) ∗ Holds (bandV oM c q) c (val m ρ c q) ∗ B4 m ρ c q) ⊢ B4 m ρ c (q + 1) := by
  unfold B4
  exact (sep_mono_right (sep_join (fun j => Holds (bandV oM c j) c (val m ρ c j)) rfl (a4_new h'))).trans (sep_join (fun j => Holds (bandV oM c j) c (val m ρ c j)) (a4_last h h') a4_new')

theorem FreeIf_of {c : Dev nD} {n : ℕ} (h : n + 15 < 112) : Free (F := F) (recvM c (n + 15)) c ⊢ FreeIf (F := F) c n := Entails.of_eq (if_pos h).symm
theorem FreeIf_emp {c : Dev nD} {n : ℕ} (h : ¬ n + 15 < 112) : iprop(emp) ⊢ FreeIf (F := F) c n := Entails.of_eq (if_neg h).symm
/-- The place offered with message `q + 8`, if any, out of the places still to be offered. -/
theorem b1_lend (h : 32 ≤ q) : B1 (F := F) c q ⊢ iprop(FreeIf (F := F) c (q + 8) ∗ B1 (F := F) c (q + 1)) := by
  by_cases h' : q < 89
  · iintro H
    ihave H := (b1_take c h') $$ H
    icases H with ⟨HF, H⟩
    isplitl [HF]
    · iapply (FreeIf_of (F := F) (c := c) (n := q + 8) (by omega)); iexact HF
    · iapply (b1_drop c (by omega)); iexact H
  · iintro H
    isplitr
    · iapply (FreeIf_emp (F := F) (c := c) (n := q + 8) (by omega)); iempintro
    · iapply (b1_same c (by omega)); iexact H

/-- The slot a step read: offered again for the message three steps on, or kept. -/
theorem slot_back (h : q < 56) : iprop(Free (F := F) (recvM c q) c ∗ B1r (F := F) c q ∗ B2 (F := F) c q) ⊢ iprop(B1 (F := F) c (q + 1) ∗ B2 (F := F) c (q + 1)) := by
  iintro ⟨HF, H1, H2⟩
  by_cases h32 : q < 32
  · isplitl [HF H1]
    · iapply (b1_put c h32); isplitl [HF] <;> iassumption
    · iapply (b2_same c (.inl h32)); iexact H2
  · isplitl [H1]
    · iapply (b1_drop c (by omega)); iexact H1
    · iapply (b2_put c (by omega) h); isplitl [HF] <;> iassumption
/-- A send buffer for an addition: one at rest, or the one whose transfer has just been waited for. -/
theorem buf_for (h : q < 48) : iprop(Holds (srcM c q) c (val m ρ c q) ∗ B5 (F := F) c q ∗ B6 (F := F) c q)
    ⊢ iprop(Free (F := F) (bufV (kOf q)) c ∗ B5 (F := F) c (q + 1) ∗ B6 (F := F) c (q + 1)) := by
  refine (sep_mono_left (Holds_free _ _ _)).trans ?_
  by_cases h8 : q < 8
  · rw [srcM_lo h8, ← kOf_add8 q]
    iintro ⟨HF, H5, H6⟩
    ihave H5 := (b5_take c h8) $$ H5
    icases H5 with ⟨HB, H5⟩
    isplitl [HB]; · iexact HB
    isplitl [H5]; · iexact H5
    iapply (b6_put c h8); isplitl [HF] <;> iassumption
  · rw [srcM_mid (show 8 ≤ q by omega) (show q < 56 by omega)]
    iintro ⟨HF, H5, H6⟩
    isplitl [HF]; · iexact HF
    isplitl [H5]
    · iapply (b5_same c (.inl ⟨by omega, h⟩)); iexact H5
    · iapply (b6_same c (by omega)); iexact H6
end

/-- The other devices' chunks of the partial product: those still blank and those done, by how many places on. -/
def Chunks (c : Dev nD) (D : Finset ℕ) : sProp 𝕄 :=
  iprop((bigSep (Finset.Ico 1 8 \ D) fun δ => Blank (F := F) c (128 * (far c δ).val) (128 * (far c δ).val + 128))
    ∗ bigSep D fun δ => Done m ρ c (128 * (far c δ).val) (128 * (far c δ).val + 128))

def St (c : Dev nD) (q : ℕ) (D : Finset ℕ) : sProp 𝕄 :=
  iprop(Toks (F := F) c q (Finset.Ico (q + 8) 112) ∗ (Xp m ρ c ∗ Wp m ρ c) ∗ Chunks m ρ c D
    ∗ B1 (F := F) c q ∗ B2 (F := F) c q ∗ B3 (F := F) c q ∗ B4 m ρ c q ∗ B5 (F := F) c q ∗ B6 (F := F) c q)

theorem chunk_at (c : Dev nD) (n : ℕ) : chunkOf c n = far c (hop n % 8) := far_mod c _ _ (by omega)

/-- A done chunk, lent out for a step. -/
theorem chunk_lend (c : Dev nD) (D : Finset ℕ) (n : ℕ) (h : hop n % 8 ∈ D) :
    Chunks m ρ c D ⊢ iprop(Done m ρ c (128 * (chunkOf c n).val) (128 * (chunkOf c n).val + 128)
      ∗ (Done m ρ c (128 * (chunkOf c n).val) (128 * (chunkOf c n).val + 128) -∗ Chunks m ρ c D)) := by
  rw [chunk_at]; unfold Chunks
  iintro ⟨H1, H2⟩
  ihave H2 := (sep_take (fun δ => Done m ρ c (128 * (far c δ).val) (128 * (far c δ).val + 128)) h) $$ H2
  icases H2 with ⟨H, H2⟩
  isplitl [H]; · iexact H
  iintro H
  isplitl [H1]; · iexact H1
  iapply (sep_join (fun δ => Done m ρ c (128 * (far c δ).val) (128 * (far c δ).val + 128)) (Finset.insert_erase h).symm (Finset.notMem_erase _ _))
  isplitl [H] <;> iassumption

theorem sent_erase (q : ℕ) : (Finset.Ico (q + 8) 112).erase (q + 8) = Finset.Ico (q + 1 + 8) 112 := by
  ext j; simp only [Finset.mem_erase, Finset.mem_Ico]; omega

section Steps
variable (K : Dev nD × Own → ℕ) (c : Dev nD) {q : ℕ} (D : Finset ℕ)
  {k k₁ k₂ : Fin 8} {p p₁ p₂ : Fin 3} {s d s₂ d₂ : Memref sig .tc .vmem S16x1024 .f32} {hs : Words s} {hd : Words d} {hs₂ : Words s₂} {hd₂ : Words d₂}
  {off oo : Fin 2 → ℕ} {h : BandIn off} {hoo : BandIn oo} {t : Dev nD} {P : KProg F} {Q : PUnit → sProp (MT nD τ sig ℕ (Elt F) ℕ UU ℕ)} {R : sProp (MT nD τ sig ℕ (Elt F) ℕ UU ℕ)}

/-- The multiplication of the chunk `δ` places on. -/
theorem gemm_step (δ : ℕ) (h1 : 1 ≤ δ) (h8 : δ < 8) (hD : δ ∉ D)
    {ox op : Fin 2 → ℕ} {hx : ∀ a, ox a + S128x128.size a ≤ S1024x128.size a} {hp : ∀ a, op a + S128x1024.size a ≤ S1024x1024.size a}
    (eo : ox = ![128 * (far c δ).val, 0]) (ep : op = ![128 * (far c δ).val, 0])
    (hnext : iprop(Recs m ρ K ∗ St m ρ c q (insert δ D) ∗ R) ⊢ WP c P Q) :
    iprop(Recs m ρ K ∗ St m ρ c q D ∗ R) ⊢ WP c (gemm128T ox hx op hp P) Q := by
  unfold St Chunks
  iintro ⟨#HR, ⟨HT, HXW, ⟨HC1, HC2⟩, HB⟩, HRest⟩
  have e : Finset.Ico 1 8 \ D = insert δ (Finset.Ico 1 8 \ insert δ D) := by
    ext j; simp only [Finset.mem_sdiff, Finset.mem_insert, Finset.mem_Ico]
    by_cases hj : j = δ
    · subst hj; simp [hD, h1, h8]
    · simp [hj]
  ihave HC1 := (sep_split (fun δ => Blank (F := F) c (128 * (far c δ).val) (128 * (far c δ).val + 128)) e (by simp)) $$ HC1
  icases HC1 with ⟨HCb, HC1⟩
  iapply (gemm_chunk m ρ c (far c δ) (far_ne c δ (by omega)) eo ep)
  isplitl [HXW]; · iexact HXW
  isplitl [HCb]; · iexact HCb
  iintro ⟨HXW, HCd⟩
  iapply hnext
  isplitr; · iexact HR
  isplitr [HRest]
  · unfold St Chunks
    isplitl [HT]; · iexact HT
    isplitl [HXW]; · iexact HXW
    isplitl [HC1 HC2 HCd]
    · isplitl [HC1]; · iexact HC1
      iapply (sep_join (fun δ => Done m ρ c (128 * (far c δ).val) (128 * (far c δ).val + 128)) rfl hD)
      isplitl [HCd] <;> iassumption
    · iexact HB
  · iexact HRest

/-- A step of the reduction: wait for `q`, add, send `q + 8`. -/
theorem add_step (hq : q < 48) (hD : hop (q + 8) % 8 ∈ D) (hk : k = kOf q) (hp : p = pOf q) (hcs : s.view.dmaCredit = N) (hcd : d.view.dmaCredit = N)
    (hk₁ : k₁ = kOf q) (hp₁ : p₁ = pOf q) (ho : off = ![rowOf c (q + 8), 0])
    (hk₂ : k₂ = kOf (q + 8)) (hp₂ : p₂ = pOf (q + 8)) (hs' : s₂ = srcM c (q + 8)) (ht : t = tgt c (q + 8)) (hd' : d₂ = recvM t (q + 8))
    (hnext : iprop(Recs m ρ K ∗ St m ρ c (q + 1) D ∗ R) ⊢ WP c P Q) :
    iprop(Recs m ρ K ∗ St m ρ c q D ∗ R) ⊢ WP c (waitsT k p s d hs hd <| addT k₁ p₁ off h <| sendT k₂ p₂ s₂ d₂ hs₂ hd₂ t P) Q := by
  unfold St
  iintro ⟨#HR, ⟨HT, HXW, HC, H1, H2, H3, H4, H5, H6⟩, HRest⟩
  iapply (wait_step m ρ K c q (Finset.Ico (q + 8) 112) (by omega) (by simp) (fun n hn => by rw [Finset.mem_Ico] at hn; omega)
    (fun _ => by rw [Finset.mem_Ico]; omega) hk hp hcs hcd)
  isplitr; · iexact HR
  isplitl [HT]; · iexact HT
  iintro ⟨HS, HV, HT⟩
  ihave HS := (buf_for m ρ c hq) $$ [HS H5 H6]
  · isplitl [HS]; · iexact HS
    isplitl [H5] <;> iassumption
  icases HS with ⟨HB, H5, H6⟩
  ihave HC := (chunk_lend m ρ c D (q + 8) hD) $$ HC
  icases HC with ⟨HD, HC⟩
  iapply (add_local m ρ c q hq hk₁ hp₁ ho)
  isplitl [HD]; · iexact HD
  isplitl [HV]; · iexact HV
  isplitl [HB]; · iexact HB
  iintro ⟨HD, HV, HB⟩
  ihave H1 := (b1_take c (by omega)) $$ H1
  icases H1 with ⟨HF, H1⟩
  iapply (send_step m ρ K c (q + 1) (Finset.Ico (q + 8) 112) (q + 8) (by simp; omega) (by omega) (by omega) (by omega) hk₂ hp₂ hs' ht hd')
  isplitr; · iexact HR
  isplitl [HT]; · iexact HT
  isplitl [HB]; · iexact HB
  isplitl [HF]; · iapply (FreeIf_of (F := F) (c := c) (n := q + 8) (by omega)); iexact HF
  iintro HT
  ihave H12 := (slot_back c (show q < 56 by omega)) $$ [HV H1 H2]
  · isplitl [HV]; · iexact HV
    isplitl [H1] <;> iassumption
  icases H12 with ⟨H1, H2⟩
  iapply hnext
  isplitr; · iexact HR
  isplitr [HRest]
  · unfold St
    isplitl [HT]; · rw [← sent_erase]; iexact HT
    isplitl [HXW]; · iexact HXW
    isplitl [HC HD]; · iapply HC; iexact HD
    isplitl [H1]; · iexact H1
    isplitl [H2]; · iexact H2
    isplitl [H3]; · iapply (b3_same c (.inl hq)); iexact H3
    isplitl [H4]; · iapply (b4_same m ρ c (by omega)); iexact H4
    isplitl [H5] <;> iassumption
  · iexact HRest

/-- The last step of the reduction: wait for `q`, finish the band, send it on. -/
theorem finish_step (hq : 48 ≤ q) (hq' : q < 56) (hD : hop (q + 8) % 8 ∈ D) (hk : k = kOf q) (hp : p = pOf q) (hcs : s.view.dmaCredit = N) (hcd : d.view.dmaCredit = N)
    (hk₁ : k₁ = kOf q) (hp₁ : p₁ = pOf q) (ho : off = ![rowOf c (q + 8), 0]) (ho' : oo = ![rowOf c (q + 8), 0])
    (hk₂ : k₂ = kOf (q + 8)) (hp₂ : p₂ = pOf (q + 8)) (hs' : s₂ = srcM c (q + 8)) (ht : t = tgt c (q + 8)) (hd' : d₂ = recvM t (q + 8))
    (hnext : iprop(Recs m ρ K ∗ St m ρ c (q + 1) D ∗ R) ⊢ WP c P Q) :
    iprop(Recs m ρ K ∗ St m ρ c q D ∗ R) ⊢ WP c (waitsT k p s d hs hd <| finishT k₁ p₁ off h oo hoo <| sendT k₂ p₂ s₂ d₂ hs₂ hd₂ t P) Q := by
  unfold St
  iintro ⟨#HR, ⟨HT, HXW, HC, H1, H2, H3, H4, H5, H6⟩, HRest⟩
  iapply (wait_step m ρ K c q (Finset.Ico (q + 8) 112) (by omega) (by simp) (fun n hn => by rw [Finset.mem_Ico] at hn; omega)
    (fun _ => by rw [Finset.mem_Ico]; omega) hk hp hcs hcd)
  isplitr; · iexact HR
  isplitl [HT]; · iexact HT
  iintro ⟨HS, HV, HT⟩
  ihave HS := ((Holds_free _ _ _).trans (Entails.of_eq (congrArg (fun M => Free (F := F) M c) (srcM_mid (c := c) (show 8 ≤ q by omega) hq')))) $$ HS
  ihave H3 := (b3_take c hq hq') $$ H3
  icases H3 with ⟨HB, H3⟩
  ihave HC := (chunk_lend m ρ c D (q + 8) hD) $$ HC
  icases HC with ⟨HD, HC⟩
  iapply (finish_local m ρ c q hq hq' hk₁ hp₁ ho ho')
  isplitl [HD]; · iexact HD
  isplitl [HV]; · iexact HV
  isplitl [HB]; · iexact HB
  iintro ⟨HD, HV, HB⟩
  ihave H1 := (b1_take c (by omega)) $$ H1
  icases H1 with ⟨HF, H1⟩
  iapply (send_step m ρ K c (q + 1) (Finset.Ico (q + 8) 112) (q + 8) (by simp; omega) (by omega) (by omega) (by omega) hk₂ hp₂ hs' ht hd')
  isplitr; · iexact HR
  isplitl [HT]; · iexact HT
  isplitl [HB]; · iexact HB
  isplitl [HF]; · iapply (FreeIf_of (F := F) (c := c) (n := q + 8) (by omega)); iexact HF
  iintro HT
  ihave H12 := (slot_back c hq') $$ [HV H1 H2]
  · isplitl [HV]; · iexact HV
    isplitl [H1] <;> iassumption
  icases H12 with ⟨H1, H2⟩
  iapply hnext
  isplitr; · iexact HR
  isplitr [HRest]
  · unfold St
    isplitl [HT]; · rw [← sent_erase]; iexact HT
    isplitl [HXW]; · iexact HXW
    isplitl [HC HD]; · iapply HC; iexact HD
    isplitl [H1]; · iexact H1
    isplitl [H2]; · iexact H2
    isplitl [H3]; · iexact H3
    isplitl [H4]; · iapply (b4_same m ρ c hq'); iexact H4
    isplitl [HS H5]; · iapply (b5_put c hq hq'); isplitl [HS] <;> iassumption
    iapply (b6_same c (by omega)); iexact H6
  · iexact HRest

/-- What a landed finished band is: the next message's source, holding its contents. -/
theorem landed (hq : 56 ≤ q) : Holds (recvM c q) c (val m ρ (src c q) q) ⊢ Holds (bandV oM c (q + 8)) c (val m ρ c (q + 8)) :=
  Entails.of_eq (by rw [recvM_hi hq, val_hi m ρ hq])

/-- A relaying step: wait for `q`, send what landed on. -/
theorem relay_step (hq : 56 ≤ q) (hq' : q < 104) (hk : k = kOf q) (hp : p = pOf q) (hcs : s.view.dmaCredit = N) (hcd : d.view.dmaCredit = N)
    (hk₂ : k₂ = kOf (q + 8)) (hp₂ : p₂ = pOf (q + 8)) (hs' : s₂ = srcM c (q + 8)) (ht : t = tgt c (q + 8)) (hd' : d₂ = recvM t (q + 8))
    (hnext : iprop(Recs m ρ K ∗ St m ρ c (q + 1) D ∗ R) ⊢ WP c P Q) :
    iprop(Recs m ρ K ∗ St m ρ c q D ∗ R) ⊢ WP c (waitsT k p s d hs hd <| sendT k₂ p₂ s₂ d₂ hs₂ hd₂ t P) Q := by
  unfold St
  iintro ⟨#HR, ⟨HT, HXW, HC, H1, H2, H3, H4, H5, H6⟩, HRest⟩
  iapply (wait_step m ρ K c q (Finset.Ico (q + 8) 112) (by omega) (by simp) (fun n hn => by rw [Finset.mem_Ico] at hn; omega)
    (fun _ => by rw [Finset.mem_Ico]; omega) hk hp hcs hcd)
  isplitr; · iexact HR
  isplitl [HT]; · iexact HT
  iintro ⟨HS, HV, HT⟩
  ihave HS := (Entails.of_eq (congrArg (fun M => Holds (F := F) M c (val m ρ c q)) (srcM_hi (c := c) hq))) $$ HS
  ihave HV := ((landed m ρ c hq).trans (Entails.of_eq (congrArg (fun M => Holds (F := F) M c (val m ρ c (q + 8))) (srcM_hi (c := c) (show 56 ≤ q + 8 by omega)).symm))) $$ HV
  ihave H1 := (b1_lend c (q := q) (by omega)) $$ H1
  icases H1 with ⟨HF, H1⟩
  iapply (send_step m ρ K c (q + 1) (Finset.Ico (q + 8) 112) (q + 8) (by simp; omega) (by omega) (by omega) (by omega) hk₂ hp₂ hs' ht hd')
  isplitr; · iexact HR
  isplitl [HT]; · iexact HT
  isplitl [HV]; · iexact HV
  isplitl [HF]; · iexact HF
  iintro HT
  iapply hnext
  isplitr; · iexact HR
  isplitr [HRest]
  · unfold St
    isplitl [HT]; · rw [← sent_erase]; iexact HT
    isplitl [HXW]; · iexact HXW
    isplitl [HC]; · iexact HC
    isplitl [H1]; · iexact H1
    isplitl [H2]; · iapply (b2_same c (.inr hq)); iexact H2
    isplitl [H3]; · iapply (b3_same c (.inr hq)); iexact H3
    isplitl [HS H4]; · iapply (b4_put m ρ c hq hq'); isplitl [HS] <;> iassumption
    isplitl [H5]; · iapply (b5_same c (.inr hq)); iexact H5
    iapply (b6_same c (by omega)); iexact H6
  · iexact HRest

/-- A last wait. -/
theorem last_step (hq : 104 ≤ q) (hq' : q < 112) (hk : k = kOf q) (hp : p = pOf q) (hcs : s.view.dmaCredit = N) (hcd : d.view.dmaCredit = N)
    (hnext : iprop(Recs m ρ K ∗ St m ρ c (q + 1) D ∗ R) ⊢ WP c P Q) :
    iprop(Recs m ρ K ∗ St m ρ c q D ∗ R) ⊢ WP c (waitsT k p s d hs hd P) Q := by
  unfold St
  iintro ⟨#HR, ⟨HT, HXW, HC, H1, H2, H3, H4, H5, H6⟩, HRest⟩
  iapply (wait_step m ρ K c q (Finset.Ico (q + 8) 112) (by omega) (by simp) (fun n hn => by rw [Finset.mem_Ico] at hn; omega)
    (fun hc => by omega) hk hp hcs hcd)
  isplitr; · iexact HR
  isplitl [HT]; · iexact HT
  iintro ⟨HS, HV, HT⟩
  ihave HS := (Entails.of_eq (congrArg (fun M => Holds (F := F) M c (val m ρ c q)) (srcM_hi (c := c) (show 56 ≤ q by omega)))) $$ HS
  ihave HV := (landed m ρ c (show 56 ≤ q by omega)) $$ HV
  iapply hnext
  isplitr; · iexact HR
  isplitr [HRest]
  · unfold St
    isplitl [HT]; · rw [show Finset.Ico (q + 1 + 8) 112 = Finset.Ico (q + 8) 112 by rw [Finset.Ico_eq_empty (by omega), Finset.Ico_eq_empty (by omega)]]; iexact HT
    isplitl [HXW]; · iexact HXW
    isplitl [HC]; · iexact HC
    isplitl [H1]; · iapply (b1_same c (by omega)); iexact H1
    isplitl [H2]; · iapply (b2_same c (.inr (by omega))); iexact H2
    isplitl [H3]; · iapply (b3_same c (.inr (by omega))); iexact H3
    isplitl [HS HV H4]
    · iapply (b4_last m ρ c hq hq')
      isplitl [HV]; · iexact HV
      isplitl [HS] <;> iassumption
    isplitl [H5]; · iapply (b5_same c (.inr (by omega))); iexact H5
    iapply (b6_same c (by omega)); iexact H6
  · iexact HRest
end Steps

/-- Rows named by an offset are the band a finished message is read from and lands in. -/
theorem row_src {c : Dev nD} {n : ℕ} {off : Fin 2 → ℕ} {h : BandIn off} (hn : 56 ≤ n) (ho : off = ![rowOf c n, 0]) : rowV oM off h = srcM c n :=
  (rowV_congr oM ho _ _).trans (srcM_hi hn).symm
theorem row_recv {c t : Dev nD} {n : ℕ} {off : Fin 2 → ℕ} {h : BandIn off} (hn : 56 ≤ n) (hn' : n < 120) (ht : t = tgt c n)
    (ho : off = ![rowOf c n, 0]) : rowV oM off h = recvM t n := by
  subst ht; exact (rowV_congr oM ho _ _).trans (recvM_tgt hn hn').symm

theorem buf_src {c : Dev nD} {n : ℕ} {k : Fin 8} (h : 8 ≤ n) (h' : n < 56) (hk : k = kOf n) : bufV k = srcM c n := by
  subst hk; exact (srcM_mid h h').symm
theorem slot_recv {t : Dev nD} {n : ℕ} {k : Fin 8} {p : Fin 3} (h : n < 56) (hk : k = kOf n) (hp : p = pOf n) : slotV k p = recvM t n := by
  subst hk hp; exact (recvM_lo h).symm

end Cert.Ring
-- ==== Proof.Start.lean ====
module

public import proofs.«01_k».proof.Proof.State

/-! # From the launch to the first eight messages

A device signals its two neighbours, handing each the landing places of the first messages that neighbour sends it,
multiplies the upper half of its own chunk, waits for both neighbours' signals, sends the four forward messages,
multiplies the lower half and sends the four backward ones. -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × Own → ℕ) (c : Dev nD)

/-- What device `c` has at launch about the barrier: its own position, and leave to signal each neighbour. -/
def BarG : sProp 𝕄 :=
  iprop(atPos ER (barCell c) 0 ∅ 0 ∗ (reached ER (barCell (nxt c)) 0 ∗ reached ER (barCell (prv c)) 0)
    ∗ (dutyTok ER (barCell (nxt c)) 0 false ∗ dutyTok ER (barCell (prv c)) 0 true))
/-- Everything about semaphores device `c` has at launch. -/
def Lin : sProp 𝕄 :=
  iprop(BarG (F := F) c ∗ (bigSep (Finset.range 112) fun n => Tok (F := F) c n) ∗ (bigSep (Finset.Ico 0 24) fun n => AtP (F := F) c n)
    ∗ cred (tallyAt (barCell c) 0 2) ∗ (bigSep (Finset.Ico 0 112) fun n => RC (F := F) c n))
/-- What it owes at launch: a signal to each neighbour and every message. -/
def O₀ : CellTallies nD τ sig ℕ := Owed c (Finset.range 112) + tallyAt (barCell (prv c)) 0 1 + tallyAt (barCell (nxt c)) 0 1
/-- The landing places at launch: fifteen to hand out with the signals, eight for the first sends, and the rest. -/
def Slots : sProp 𝕄 :=
  iprop((bigSep (Finset.range 15) fun n => Free (F := F) (recvM c n) c) ∗ (bigSep (Finset.range 8) fun n => FreeIf (F := F) c n) ∗ B1 (F := F) c 0)

/-- The messages below fifteen that run one way. -/
abbrev way (d : Bool) : Finset ℕ := (Finset.range 15).filter fun n => n % 2 = if d then 0 else 1
theorem way_union : Finset.range 15 = way false ∪ way true := by decide
theorem way_disj : Disjoint (way false) (way true) := by decide

theorem reach_all : (bigSep (Finset.Ico 0 24) fun n => AtP (F := F) c n)
    ⊢ iprop((bigSep (Finset.Ico 0 24) fun n => AtP (F := F) c n) ∗ bigSep (Finset.Ico 0 24) fun n => Rch (F := F) c n) := by
  rw [← bigSep_sep']
  refine bigSep_mono fun n _ => ?_
  show AtP (F := F) c n ⊢ iprop(AtP (F := F) c n ∗ Rch (F := F) c n)
  unfold AtP Rch
  iintro ⟨HA, #HR⟩
  isplitl [HA]
  · isplitl [HA]; · iexact HA
    iexact HR
  · iexact HR

/-- The landing places of one way, as the neighbour's leave to send. -/
theorem barPay_of (t : Dev nD) (d : Bool) (ht : ∀ n ∈ way d, tgt t n = c) :
    iprop((bigSep (Finset.Ico 0 24) fun n => Rch (F := F) c n) ∗ bigSep (way d) fun n => Free (F := F) (recvM c n) c) ⊢ barPay t d := by
  unfold barPay
  refine bigSep_with_persistent fun n hn => ?_
  unfold Pool
  rw [ht n hn]
  iintro ⟨HR, HF⟩
  isplitl [HF]; · iexact HF
  have hn' := Finset.mem_range.mp (Finset.mem_filter.mp hn).1
  ihave HR := (sep_one (fun n => Rch (F := F) c n) (show n ∈ Finset.Ico 0 24 from Finset.mem_Ico.mpr ⟨by omega, by omega⟩)) $$ HR
  unfold Rch
  icases HR with ⟨-, HR⟩
  iexact HR

theorem tgt_nxt : ∀ n ∈ way false, tgt (nxt c) n = c := by revert c; decide +kernel
theorem tgt_prv : ∀ n ∈ way true, tgt (prv c) n = c := by revert c; decide +kernel

theorem signal_step {t : Dev nD} (d : Bool) (O : CellTallies nD τ sig ℕ) {n : Dev nD} (hn : n = t) {P : KProg F} {Q : PUnit → sProp 𝕄} :
    iprop(Recs m ρ K ∗ Owes c (O + tallyAt (barCell t) 0 1) ∗ dutyTok ER (barCell t) 0 d ∗ reached ER (barCell t) 0 ∗ barPay t d
        ∗ (Owes c O -∗ WP c P Q)) ⊢ WP c (signalT n P) Q := by
  subst hn
  unfold signalT Owes
  iintro ⟨#HR, ⟨%W, HO⟩, HT, Hr, HP, Hk⟩
  iapply (Rounds.wp_signal 𝒱₀ ER (Rd m ρ) (c : Thread nD τ) none (dst := (n : Thread nD τ)) (κ := K (n, none)) (d := d)
      (by rw [duties_bar]; exact Finset.mem_univ _) ((amount_bar m ρ n d).trans (by decide)) 0 O rfl) $$ [HO HT HP Hr]
  · isplitr; · iapply (Recs_cell m ρ K (n, none)); iexact HR
    isplitl [HO]; · iexact HO
    isplitl [HT]; · iexact HT
    isplitl [HP]; · rw [payload_bar]; iexact HP
    iexact Hr
  iintro HO
  iapply Hk
  iexists W; iexact HO

theorem barrier_step {P : KProg F} {Q : PUnit → sProp 𝕄} :
    iprop(Recs m ρ K ∗ Owes c (Owed c (Finset.range 112)) ∗ cred (tallyAt (barCell c) 0 2) ∗ atPos ER (barCell c) 0 ∅ 0
        ∗ ((Owes c (Owed c (Finset.range 112)) ∗ atPos ER (barCell c) 1 ∅ 0
            ∗ bigSep ((Finset.range 112).filter fun n => n < 0 + 15) fun n => Pool (F := F) c n) -∗ WP c P Q)) ⊢ WP c (barrierT P) Q := by
  unfold barrierT Owes
  iintro ⟨#HR, ⟨%W, HO⟩, HC, HA, Hk⟩
  iapply (Rounds.wp_wait_rest_token 𝒱₀ ER (Rd m ρ) (c : Thread nD τ) none (κ := K (c, none))
      (wpE_semWait_eq 𝒱₀ (c : Thread nD τ) none Set.univ) (Set.mem_univ _) 0 (O := Owed c (Finset.range 112)) (W := W) (R := 0) (m := 0) (T := ∅)
      (by rw [expect_bar]; decide)) $$ [HC HO HA]
  · isplitr; · iapply (Recs_cell m ρ K (c, none)); iexact HR
    isplitl [HC]; · iexact HC
    isplitl [HO]; · iexact HO
    isplitr
    · iapply (mayWait c (.reg barS) 0 1 (Finset.range 112) (by decide) (fun n hn => ⟨by omega, Finset.mem_range.mp hn⟩) (le_of_eq (lv_bar c 0)))
      iapply (Recs_lev m ρ K); iexact HR
    iexact HA
  iintro ⟨HO, HA, -, HP⟩
  ihave HP := (Entails.of_eq (rest_bar m ρ c)) $$ HP
  iapply Hk
  isplitl [HO]; · iexists _; iexact HO
  isplitl [HA]; · iexact HA
  iapply (sep_glue (fun n => Pool (F := F) c n) (show (Finset.range 112).filter (fun n => n < 0 + 15) = way false ∪ way true from by decide +kernel) way_disj)
  unfold barPay
  iexact HP

/-! ## The own chunk in bands -/

theorem rows_union {a b d : ℕ} (h : a ≤ b) (h' : b ≤ d) : rows a d = rows a b ∪ rows b d := by
  ext i; simp only [Finset.mem_union, mem_rows]; omega
theorem rows_disj {a b d : ℕ} : Disjoint (rows a b) (rows b d) := by
  rw [Finset.disjoint_left]; intro i; simp only [mem_rows]; omega
theorem Done_split {a b d : ℕ} (h : a ≤ b) (h' : b ≤ d) : Done m ρ c a d ⊢ iprop(Done m ρ c a b ∗ Done m ρ c b d) := by
  unfold Done; rw [rows_union h h']; exact (pointsTo_union rows_disj).1

theorem own_row {n : ℕ} (h : n < 8) : rowOf c n = 128 * c.val + 16 * bandOf n := by
  unfold rowOf chunkOf
  rw [far_mod c (hop n) 0 (by unfold hop; split <;> omega), far_zero]
theorem band_holds {n : ℕ} (h : n < 8) {a b : ℕ} (ha : a = 128 * c.val + 16 * bandOf n) (hb : b = 128 * c.val + 16 * bandOf n + 16) :
    Done m ρ c a b ⊢ Holds (srcM c n) c (val m ρ c n) := by
  subst ha hb
  rw [srcM_lo h, val_lo m ρ h]
  unfold Done Holds
  iintro H
  iexists (part m ρ c)
  isplitr; · ipureintro; rfl
  have e : (bandV pM c n).view.set = rows (128 * c.val + 16 * bandOf n) (128 * c.val + 16 * bandOf n + 16) := by
    unfold bandV; rw [band_set_p]; show rows (rowOf c n) (rowOf c n + 16) = _; rw [own_row c h]
  rw [e]; iexact H
theorem bands_of {n₁ n₂ n₃ n₄ : ℕ} {a b : ℕ} (h₁ : n₁ < 8) (h₂ : n₂ < 8) (h₃ : n₃ < 8) (h₄ : n₄ < 8)
    (e₁ : a = 128 * c.val + 16 * bandOf n₁) (e₂ : bandOf n₂ = bandOf n₁ + 1) (e₃ : bandOf n₃ = bandOf n₁ + 2) (e₄ : bandOf n₄ = bandOf n₁ + 3)
    (hb : b = a + 64) :
    Done m ρ c a b ⊢ iprop(Holds (srcM c n₁) c (val m ρ c n₁) ∗ Holds (srcM c n₂) c (val m ρ c n₂)
      ∗ Holds (srcM c n₃) c (val m ρ c n₃) ∗ Holds (srcM c n₄) c (val m ρ c n₄)) := by
  subst hb
  iintro H
  ihave H := (Done_split m ρ c (show a ≤ a + 16 by omega) (show a + 16 ≤ a + 64 by omega)) $$ H
  icases H with ⟨H1, H⟩
  ihave H := (Done_split m ρ c (show a + 16 ≤ a + 32 by omega) (show a + 32 ≤ a + 64 by omega)) $$ H
  icases H with ⟨H2, H⟩
  ihave H := (Done_split m ρ c (show a + 32 ≤ a + 48 by omega) (show a + 48 ≤ a + 64 by omega)) $$ H
  icases H with ⟨H3, H4⟩
  isplitl [H1]; · iapply (band_holds m ρ c h₁ (a := a) (b := a + 16) e₁ (by omega)); iexact H1
  isplitl [H2]; · iapply (band_holds m ρ c h₂ (a := a + 16) (b := a + 32) (by omega) (by omega)); iexact H2
  isplitl [H3]; · iapply (band_holds m ρ c h₃ (a := a + 32) (b := a + 48) (by omega) (by omega)); iexact H3
  iapply (band_holds m ρ c h₄ (a := a + 48) (b := a + 64) (by omega) (by omega)); iexact H4

/-- A first send. -/
theorem first_send {S : Finset ℕ} (n : ℕ) (hn : n ∈ S) (h : n < 8) {k : Fin 8} {p : Fin 3} {off : Fin 2 → ℕ} {ho : BandIn off}
    {hs : Words (rowV pM off ho)} {hd : Words (slotV k p)} {t : Dev nD} {P : KProg F} {Q : PUnit → sProp 𝕄}
    (hk : k = kOf n) (hp : p = pOf n) (e : off = ![rowOf c n, 0]) (ht : t = tgt c n) :
    iprop(Recs m ρ K ∗ Toks c 0 S ∗ Holds (srcM c n) c (val m ρ c n) ∗ FreeIf c n ∗ (Toks c 0 (S.erase n) -∗ WP c P Q))
      ⊢ WP c (sendT k p (rowV pM off ho) (slotV k p) hs hd t P) Q :=
  send_step m ρ K c 0 S n hn (by omega) (by omega) (by omega) hk hp ((rowV_congr pM e _ _).trans (srcM_lo h).symm) ht (slot_recv (by omega) hk hp)

/-! ## All of it -/

omit [FloatOps F] in
theorem sep_range8 (Φ : ℕ → sProp 𝕄) : bigSep (Finset.range 8) Φ ⊢ iprop(Φ 0 ∗ Φ 1 ∗ Φ 2 ∗ Φ 3 ∗ Φ 4 ∗ Φ 5 ∗ Φ 6 ∗ Φ 7) := by
  have e : Finset.range 8 = {0, 1, 2, 3, 4, 5, 6, 7} := by decide
  refine (sep_split Φ e (by decide)).trans (sep_mono_right ?_)
  refine (sep_split Φ rfl (by decide)).trans (sep_mono_right ?_)
  refine (sep_split Φ rfl (by decide)).trans (sep_mono_right ?_)
  refine (sep_split Φ rfl (by decide)).trans (sep_mono_right ?_)
  refine (sep_split Φ rfl (by decide)).trans (sep_mono_right ?_)
  refine (sep_split Φ rfl (by decide)).trans (sep_mono_right ?_)
  refine (sep_split Φ rfl (by decide)).trans (sep_mono_right ?_)
  exact Entails.of_eq bigSep_singleton

/-- The start of the body, before `P`. -/
def startT (P : KProg F) : KProg F :=
  signalT ⟨k0_dev1 c, k0_dev1_lt c⟩ <|
  signalT ⟨k0_dev2 c, k0_dev2_lt c⟩ <|
  gemm64T (k0_off1 c) (k0_off1_inb c) (k0_off2 c) (k0_off2_inb c) <|
  barrierT <|
  sendT 0 0 (rowV pM (k0_off3 c 0#32) (k0_off3_inb c 0)) (slotV 0 0) (row_words _ _ _) (slot_words _ _) ⟨k0_dev3 c, k0_dev3_lt c⟩ <|
  sendT 2 0 (rowV pM (k0_off3 c 16#32) (k0_off3_inb c 1)) (slotV 2 0) (row_words _ _ _) (slot_words _ _) ⟨k0_dev4 c, k0_dev4_lt c⟩ <|
  sendT 4 0 (rowV pM (k0_off3 c 32#32) (k0_off3_inb c 2)) (slotV 4 0) (row_words _ _ _) (slot_words _ _) ⟨k0_dev5 c, k0_dev5_lt c⟩ <|
  sendT 6 0 (rowV pM (k0_off3 c 48#32) (k0_off3_inb c 3)) (slotV 6 0) (row_words _ _ _) (slot_words _ _) ⟨k0_dev6 c, k0_dev6_lt c⟩ <|
  gemm64T (k0_off4 c) (k0_off4_inb c) (k0_off5 c) (k0_off5_inb c) <|
  sendT 1 0 (rowV pM (k0_off3 c 64#32) (k0_off3_inb c 4)) (slotV 1 0) (row_words _ _ _) (slot_words _ _) ⟨k0_dev7 c, k0_dev7_lt c⟩ <|
  sendT 3 0 (rowV pM (k0_off3 c 80#32) (k0_off3_inb c 5)) (slotV 3 0) (row_words _ _ _) (slot_words _ _) ⟨k0_dev8 c, k0_dev8_lt c⟩ <|
  sendT 5 0 (rowV pM (k0_off3 c 96#32) (k0_off3_inb c 6)) (slotV 5 0) (row_words _ _ _) (slot_words _ _) ⟨k0_dev9 c, k0_dev9_lt c⟩ <|
  sendT 7 0 (rowV pM (k0_off3 c 112#32) (k0_off3_inb c 7)) (slotV 7 0) (row_words _ _ _) (slot_words _ _) ⟨k0_dev10 c, k0_dev10_lt c⟩ <|
  P

private theorem e_1 : ∀ c : Dev nD, (⟨k0_dev1 c, k0_dev1_lt c⟩ : Dev nD) = nxt c := by decide +kernel
private theorem e_2 : ∀ c : Dev nD, (⟨k0_dev2 c, k0_dev2_lt c⟩ : Dev nD) = prv c := by decide +kernel
private theorem x_top : ∀ c : Dev nD, k0_off1 c = ![128 * c.val, 0] := by decide +kernel
private theorem p_top : ∀ c : Dev nD, k0_off2 c = ![128 * c.val, 0] := by decide +kernel
private theorem x_bot : ∀ c : Dev nD, k0_off4 c = ![128 * c.val + 64, 0] := by decide +kernel
private theorem p_bot : ∀ c : Dev nD, k0_off5 c = ![128 * c.val + 64, 0] := by decide +kernel
private theorem o_0 : ∀ c : Dev nD, k0_off3 c 0#32 = ![rowOf c 0, 0] := by decide +kernel
private theorem t_0 : ∀ c : Dev nD, (⟨k0_dev3 c, k0_dev3_lt c⟩ : Dev nD) = tgt c 0 := by decide +kernel
private theorem o_2 : ∀ c : Dev nD, k0_off3 c 16#32 = ![rowOf c 2, 0] := by decide +kernel
private theorem t_2 : ∀ c : Dev nD, (⟨k0_dev4 c, k0_dev4_lt c⟩ : Dev nD) = tgt c 2 := by decide +kernel
private theorem o_4 : ∀ c : Dev nD, k0_off3 c 32#32 = ![rowOf c 4, 0] := by decide +kernel
private theorem t_4 : ∀ c : Dev nD, (⟨k0_dev5 c, k0_dev5_lt c⟩ : Dev nD) = tgt c 4 := by decide +kernel
private theorem o_6 : ∀ c : Dev nD, k0_off3 c 48#32 = ![rowOf c 6, 0] := by decide +kernel
private theorem t_6 : ∀ c : Dev nD, (⟨k0_dev6 c, k0_dev6_lt c⟩ : Dev nD) = tgt c 6 := by decide +kernel
private theorem o_1 : ∀ c : Dev nD, k0_off3 c 64#32 = ![rowOf c 1, 0] := by decide +kernel
private theorem t_1 : ∀ c : Dev nD, (⟨k0_dev7 c, k0_dev7_lt c⟩ : Dev nD) = tgt c 1 := by decide +kernel
private theorem o_3 : ∀ c : Dev nD, k0_off3 c 80#32 = ![rowOf c 3, 0] := by decide +kernel
private theorem t_3 : ∀ c : Dev nD, (⟨k0_dev8 c, k0_dev8_lt c⟩ : Dev nD) = tgt c 3 := by decide +kernel
private theorem o_5 : ∀ c : Dev nD, k0_off3 c 96#32 = ![rowOf c 5, 0] := by decide +kernel
private theorem t_5 : ∀ c : Dev nD, (⟨k0_dev9 c, k0_dev9_lt c⟩ : Dev nD) = tgt c 5 := by decide +kernel
private theorem o_7 : ∀ c : Dev nD, k0_off3 c 112#32 = ![rowOf c 7, 0] := by decide +kernel
private theorem t_7 : ∀ c : Dev nD, (⟨k0_dev10 c, k0_dev10_lt c⟩ : Dev nD) = tgt c 7 := by decide +kernel

/-- What the start is given of memory. -/
def Mem : sProp 𝕄 :=
  iprop((Xp m ρ c ∗ Wp m ρ c) ∗ Slots (F := F) c ∗ Blank (F := F) c (128 * c.val) (128 * c.val + 64) ∗ Blank (F := F) c (128 * c.val + 64) (128 * c.val + 128)
    ∗ Chunks m ρ c ∅ ∗ B3 (F := F) c 0 ∗ B5 (F := F) c 0)

theorem run_start {P : KProg F} {Q : PUnit → sProp 𝕄} {R : sProp 𝕄}
    (hnext : iprop(Recs m ρ K ∗ St m ρ c 0 ∅ ∗ (R ∗ atPos ER (barCell c) 1 ∅ 0)) ⊢ WP c P Q) :
    iprop(Recs m ρ K ∗ (Lin c ∗ Owes c (O₀ c) ∗ Mem m ρ c) ∗ R) ⊢ WP c (startT c P) Q := by
  unfold startT Lin Mem BarG Slots O₀
  iintro ⟨#HR, ⟨⟨⟨HA, ⟨#Hr1, #Hr2⟩, ⟨Ht1, Ht2⟩⟩, HTok, HAt, HC, HRC⟩, HO, ⟨HXW, ⟨HS15, HS8, H1⟩, HT, HBt, HCh, H3, H5⟩⟩, HRest⟩
  ihave HAt := (reach_all c) $$ HAt
  icases HAt with ⟨HAt, #HRch⟩
  ihave HS15 := (sep_cut (fun n => Free (F := F) (recvM c n) c) way_union way_disj) $$ HS15
  icases HS15 with ⟨HSo, HSe⟩
  iapply (signal_step m ρ K c (t := nxt c) false (Owed c (Finset.range 112) + tallyAt (barCell (prv c)) 0 1) (e_1 c))
  isplitr; · iexact HR
  isplitl [HO]; · iexact HO
  isplitl [Ht1]; · iexact Ht1
  isplitr; · iexact Hr1
  isplitl [HSo]
  · iapply (barPay_of c (nxt c) false (tgt_nxt c))
    isplitr; · iexact HRch
    iexact HSo
  iintro HO
  iapply (signal_step m ρ K c (t := prv c) true (Owed c (Finset.range 112)) (e_2 c))
  isplitr; · iexact HR
  isplitl [HO]; · iexact HO
  isplitl [Ht2]; · iexact Ht2
  isplitr; · iexact Hr2
  isplitl [HSe]
  · iapply (barPay_of c (prv c) true (tgt_prv c))
    isplitr; · iexact HRch
    iexact HSe
  iintro HO
  iapply (gemm_top m ρ c (x_top c) (p_top c))
  isplitl [HXW]; · iexact HXW
  isplitl [HT]; · iexact HT
  iintro ⟨HXW, HT⟩
  iapply (barrier_step m ρ K c)
  isplitr; · iexact HR
  isplitl [HO]; · iexact HO
  isplitl [HC]; · iexact HC
  isplitl [HA]; · iexact HA
  iintro ⟨HO, HA, HP⟩
  ihave HT := (bands_of m ρ c (n₁ := 0) (n₂ := 2) (n₃ := 4) (n₄ := 6) (by decide) (by decide) (by decide) (by decide) (by unfold bandOf; omega) rfl rfl rfl rfl) $$ HT
  icases HT with ⟨Hb0, Hb2, Hb4, Hb6⟩
  ihave HS8 := (sep_range8 fun n => FreeIf (F := F) c n) $$ HS8
  icases HS8 with ⟨Hf0, Hf1, Hf2, Hf3, Hf4, Hf5, Hf6, Hf7⟩
  iapply (first_send m ρ K c (S := Finset.range 112) 0 (by decide) (by decide) rfl rfl (o_0 c) (t_0 c))
  isplitr; · iexact HR
  isplitl [HP HTok HRC HAt HO]
  · unfold Toks
    isplitl [HP]; · iexact HP
    isplitl [HTok]; · iexact HTok
    isplitl [HRC]; · iexact HRC
    isplitr; · rw [show Finset.Ico 0 112 \ Finset.range 112 = ∅ from by decide +kernel, bigSep_empty]; iempintro
    isplitl [HAt]; · iexact HAt
    iexact HO
  isplitl [Hb0]; · iexact Hb0
  isplitl [Hf0]; · iexact Hf0
  iintro HTk
  iapply (first_send m ρ K c (S := (Finset.range 112).erase 0) 2 (by decide) (by decide) rfl rfl (o_2 c) (t_2 c))
  isplitr; · iexact HR
  isplitl [HTk]
  · iexact HTk
  isplitl [Hb2]; · iexact Hb2
  isplitl [Hf2]; · iexact Hf2
  iintro HTk
  iapply (first_send m ρ K c (S := (((Finset.range 112).erase 0).erase 2)) 4 (by decide) (by decide) rfl rfl (o_4 c) (t_4 c))
  isplitr; · iexact HR
  isplitl [HTk]
  · iexact HTk
  isplitl [Hb4]; · iexact Hb4
  isplitl [Hf4]; · iexact Hf4
  iintro HTk
  iapply (first_send m ρ K c (S := ((((Finset.range 112).erase 0).erase 2).erase 4)) 6 (by decide) (by decide) rfl rfl (o_6 c) (t_6 c))
  isplitr; · iexact HR
  isplitl [HTk]
  · iexact HTk
  isplitl [Hb6]; · iexact Hb6
  isplitl [Hf6]; · iexact Hf6
  iintro HTk
  iapply (gemm_bot m ρ c (x_bot c) (p_bot c))
  isplitl [HXW]; · iexact HXW
  isplitl [HBt]; · iexact HBt
  iintro ⟨HXW, HBt⟩
  ihave HBt := (bands_of m ρ c (n₁ := 1) (n₂ := 3) (n₃ := 5) (n₄ := 7) (by decide) (by decide) (by decide) (by decide) (by unfold bandOf; omega) rfl rfl rfl rfl) $$ HBt
  icases HBt with ⟨Hb1, Hb3, Hb5, Hb7⟩
  iapply (first_send m ρ K c (S := (((((Finset.range 112).erase 0).erase 2).erase 4).erase 6)) 1 (by decide) (by decide) rfl rfl (o_1 c) (t_1 c))
  isplitr; · iexact HR
  isplitl [HTk]
  · iexact HTk
  isplitl [Hb1]; · iexact Hb1
  isplitl [Hf1]; · iexact Hf1
  iintro HTk
  iapply (first_send m ρ K c (S := ((((((Finset.range 112).erase 0).erase 2).erase 4).erase 6).erase 1)) 3 (by decide) (by decide) rfl rfl (o_3 c) (t_3 c))
  isplitr; · iexact HR
  isplitl [HTk]
  · iexact HTk
  isplitl [Hb3]; · iexact Hb3
  isplitl [Hf3]; · iexact Hf3
  iintro HTk
  iapply (first_send m ρ K c (S := (((((((Finset.range 112).erase 0).erase 2).erase 4).erase 6).erase 1).erase 3)) 5 (by decide) (by decide) rfl rfl (o_5 c) (t_5 c))
  isplitr; · iexact HR
  isplitl [HTk]
  · iexact HTk
  isplitl [Hb5]; · iexact Hb5
  isplitl [Hf5]; · iexact Hf5
  iintro HTk
  iapply (first_send m ρ K c (S := ((((((((Finset.range 112).erase 0).erase 2).erase 4).erase 6).erase 1).erase 3).erase 5)) 7 (by decide) (by decide) rfl rfl (o_7 c) (t_7 c))
  isplitr; · iexact HR
  isplitl [HTk]
  · iexact HTk
  isplitl [Hb7]; · iexact Hb7
  isplitl [Hf7]; · iexact Hf7
  iintro HTk
  iapply hnext
  isplitr; · iexact HR
  isplitr [HRest HA]
  · unfold St
    isplitl [HTk]; · rw [show Finset.Ico (0 + 8) 112 = (((((((((Finset.range 112).erase 0).erase 2).erase 4).erase 6).erase 1).erase 3).erase 5).erase 7) from by decide +kernel]; iexact HTk
    isplitl [HXW]; · iexact HXW
    isplitl [HCh]; · iexact HCh
    isplitl [H1]; · iexact H1
    isplitr; · unfold B2; rw [show A2 0 = ∅ from by decide +kernel, bigSep_empty]; iempintro
    isplitl [H3]; · iexact H3
    isplitr; · unfold B4; rw [show A4 0 = ∅ from by decide +kernel, bigSep_empty]; iempintro
    isplitl [H5]; · iexact H5
    unfold B6; rw [show A6 0 = ∅ from by decide +kernel, bigSep_empty]; iempintro
  · isplitl [HRest]; · iexact HRest
    iexact HA

end Cert.Ring
-- ==== Proof.Split.lean ====
module

public import proofs.«01_k».proof.Proof.Start

/-! # Whole buffers in pieces, and back

Each buffer is cut once, at the start, into the pieces the messages use, and put together again at the end. The output
comes back with every band at what was written there. -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## Pieces in general -/

section Pieces
variable {ℓ : Loc nD τ sig} {U : Finset (Idx ℓ)} (S : Finset ℕ) (Kp : ℕ → Finset (Idx ℓ))

omit [FloatOps F] in
theorem pieces_cut (hd : ∀ t ∈ S, ∀ t' ∈ S, t ≠ t' → Disjoint (Kp t) (Kp t')) (hu : U = S.biUnion Kp) (f : Buf (Elt F) ℓ) :
    (ℓ ↦[U]{fullShare} f : sProp 𝕄) ⊢ bigSep S fun t => iprop(∃ g, ℓ ↦[Kp t]{fullShare} g) := by
  rw [hu, pointsTo_biUnion S Kp hd]
  have key : ∀ t, (ℓ ↦[Kp t]{fullShare} f : sProp 𝕄) ⊢ iprop(∃ g, ℓ ↦[Kp t]{fullShare} g) := by
    intro t
    iintro H
    iexists f; iexact H
  exact bigSep_mono fun t _ => key t

omit [FloatOps F] in
theorem pieces_join (hd : ∀ t ∈ S, ∀ t' ∈ S, t ≠ t' → Disjoint (Kp t) (Kp t')) (hu : U = S.biUnion Kp) (φ : ℕ → Buf (Elt F) ℓ → Prop)
    [Nonempty (Buf (Elt F) ℓ)] :
    (bigSep S fun t => iprop(∃ g, ⌜φ t g⌝ ∗ (ℓ ↦[Kp t]{fullShare} g)) : sProp 𝕄)
      ⊢ iprop(∃ g, ⌜∀ t ∈ S, ∃ f, φ t f ∧ ∀ i ∈ Kp t, g i = f i⌝ ∗ (ℓ ↦[U]{fullShare} g)) := by
  subst hu
  classical
  refine (bigSep_exists_pi S (fun t (g : Buf (Elt F) ℓ) => iprop(⌜φ t g⌝ ∗ (ℓ ↦[Kp t]{fullShare} g)))).trans ?_
  iintro ⟨%fs, H⟩
  ihave H := (bigSep_pure_sep S (fun t => φ t (fs t)) (fun t => iprop(ℓ ↦[Kp t]{fullShare} fs t))) $$ H
  icases H with ⟨%h, H2⟩
  ihave H2 := (pointsTo_biUnion_join S Kp fs (Classical.choice inferInstance) hd) $$ H2
  icases H2 with ⟨%g, %hg, H2⟩
  iexists g
  isplitr
  · ipureintro; exact fun t ht => ⟨fs t, h t ht, hg t ht⟩
  · iexact H2
end Pieces

/-! ## Slots -/

/-- The elements of one slot and of one send buffer. -/
def slotS (k : Fin 8) (p : Fin 3) : Finset S8x3x16x1024.Idx := Finset.univ.filter fun i => (i 0).val = k.val ∧ (i 1).val = p.val
def bufS (k : Fin 8) : Finset S8x16x1024.Idx := Finset.univ.filter fun i => (i 0).val = k.val
theorem slotS_mem {k : Fin 8} {p : Fin 3} {i : S8x3x16x1024.Idx} : i ∈ slotS k p ↔ (i 0).val = k.val ∧ (i 1).val = p.val := by unfold slotS; simp
theorem bufS_mem {k : Fin 8} {i : S8x16x1024.Idx} : i ∈ bufS k ↔ (i 0).val = k.val := by unfold bufS; simp
theorem slot_elems (k : Fin 8) (p : Fin 3) : (slotV k p).view.set = slotS k p := by
  refine (slot_set k p).symm.trans ((View.set_slice_whole _ _).trans (Finset.ext fun i => Iff.trans ?_ slotS_mem.symm))
  rw [Rect.mem_set_unit]
  have h2 : (i 2).val < 16 := (i 2).isLt
  have h3 : (i 3).val < 1024 := (i 3).isLt
  constructor
  · intro h
    have h0 : k.val ≤ (i 0).val ∧ (i 0).val < k.val + 1 := h 0
    have h1 : p.val ≤ (i 1).val ∧ (i 1).val < p.val + 1 := h 1
    omega
  · rintro ⟨h0, h1⟩ a
    fin_cases a
    · show k.val ≤ (i 0).val ∧ (i 0).val < k.val + 1; omega
    · show p.val ≤ (i 1).val ∧ (i 1).val < p.val + 1; omega
    · show 0 ≤ (i 2).val ∧ (i 2).val < 0 + 16; omega
    · show 0 ≤ (i 3).val ∧ (i 3).val < 0 + 1024; omega
theorem buf_elems (k : Fin 8) : (bufV k).view.set = bufS k := by
  refine (buf_set k).symm.trans ((View.set_slice_whole _ _).trans (Finset.ext fun i => Iff.trans ?_ bufS_mem.symm))
  rw [Rect.mem_set_unit]
  have h2 : (i 1).val < 16 := (i 1).isLt
  have h3 : (i 2).val < 1024 := (i 2).isLt
  constructor
  · intro h
    have h0 : k.val ≤ (i 0).val ∧ (i 0).val < k.val + 1 := h 0
    omega
  · intro h0 a
    fin_cases a
    · show k.val ≤ (i 0).val ∧ (i 0).val < k.val + 1; omega
    · show 0 ≤ (i 1).val ∧ (i 1).val < 0 + 16; omega
    · show 0 ≤ (i 2).val ∧ (i 2).val < 0 + 1024; omega

/-- Twenty-four messages in a row use every slot once. -/
theorem slots_disj (a : ℕ) : ∀ t ∈ Finset.Ico a (a + 24), ∀ t' ∈ Finset.Ico a (a + 24), t ≠ t' →
    Disjoint (slotS (kOf t) (pOf t)) (slotS (kOf t') (pOf t')) := by
  intro t ht t' ht' hne
  rw [Finset.mem_Ico] at ht ht'
  rw [Finset.disjoint_left]; intro i hi hi'
  rw [slotS_mem] at hi hi'
  unfold kOf pOf at hi hi'; dsimp only at hi hi'
  omega
theorem slots_all (a : ℕ) : (Finset.univ : Finset S8x3x16x1024.Idx) = (Finset.Ico a (a + 24)).biUnion fun t => slotS (kOf t) (pOf t) := by
  refine Finset.ext fun i => ⟨fun _ => ?_, fun _ => Finset.mem_univ _⟩
  have h0 : (i 0).val < 8 := (i 0).isLt
  have h1 : (i 1).val < 3 := (i 1).isLt
  refine Finset.mem_biUnion.mpr ⟨a + (8 * (i 1).val + (i 0).val + 24 * a - a) % 24, Finset.mem_Ico.mpr ⟨by omega, by omega⟩, slotS_mem.mpr ?_⟩
  unfold kOf pOf; dsimp only
  omega
theorem bufs_disj (a : ℕ) : ∀ t ∈ Finset.Ico a (a + 8), ∀ t' ∈ Finset.Ico a (a + 8), t ≠ t' → Disjoint (bufS (kOf t)) (bufS (kOf t')) := by
  intro t ht t' ht' hne
  rw [Finset.mem_Ico] at ht ht'
  rw [Finset.disjoint_left]; intro i hi hi'
  rw [bufS_mem] at hi hi'
  unfold kOf at hi hi'; dsimp only at hi hi'
  omega
theorem bufs_all (a : ℕ) : (Finset.univ : Finset S8x16x1024.Idx) = (Finset.Ico a (a + 8)).biUnion fun t => bufS (kOf t) := by
  refine Finset.ext fun i => ⟨fun _ => ?_, fun _ => Finset.mem_univ _⟩
  have h0 : (i 0).val < 8 := (i 0).isLt
  refine Finset.mem_biUnion.mpr ⟨a + ((i 0).val + 8 * a - a) % 8, Finset.mem_Ico.mpr ⟨by omega, by omega⟩, bufS_mem.mpr ?_⟩
  unfold kOf; dsimp only
  omega

/-! ## Bands of the output -/

/-- The message of device `c` whose band is band `b` of chunk `d`, among 56 to 119. -/
def outMsg (c d : Dev nD) (b : ℕ) : ℕ :=
  if b < 4 then 8 * (7 + (9 + posOf c - posOf d + 8) % 8) + 2 * b else 8 * (7 + (posOf d + 8 - posOf c + 1) % 8) + (2 * (b - 4) + 1)
theorem outMsg_ok : ∀ (c d : Dev nD) (b : Fin 8), 56 ≤ outMsg c d b.val ∧ outMsg c d b.val < 120 ∧ rowOf c (outMsg c d b.val) = 128 * d.val + 16 * b.val := by
  decide +kernel
theorem rowOf_inj : ∀ (c : Dev nD) (j j' : Fin 64), rowOf c (56 + j.val) = rowOf c (56 + j'.val) → j = j' := by
  decide +kernel

theorem out_set (n : ℕ) : (bandV oM c n).view.set = rows (rowOf c n) (rowOf c n + 16) := by unfold bandV; exact band_set_o _ _
theorem bands_disj : ∀ t ∈ Finset.Ico 56 120, ∀ t' ∈ Finset.Ico 56 120, t ≠ t' →
    Disjoint (rows (rowOf c t) (rowOf c t + 16)) (rows (rowOf c t') (rowOf c t' + 16)) := by
  intro t ht t' ht' hne
  rw [Finset.mem_Ico] at ht ht'
  rw [Finset.disjoint_left]; intro i hi hi'
  rw [mem_rows] at hi hi'
  have key := rowOf_inj c ⟨t - 56, by omega⟩ ⟨t' - 56, by omega⟩
  dsimp only at key
  rw [show 56 + (t - 56) = t by omega, show 56 + (t' - 56) = t' by omega] at key
  have : rowOf c t = rowOf c t' := by unfold rowOf at hi hi' ⊢; omega
  have := congrArg Fin.val (key this)
  dsimp only at this
  omega
/-- The message whose band holds element `i` of the output. -/
def outAt (i : S1024x1024.Idx) : ℕ := outMsg c ⟨(i 0).val / 128, Nat.div_lt_of_lt_mul (i 0).isLt⟩ ((i 0).val % 128 / 16)
theorem outAt_ok (i : S1024x1024.Idx) : 56 ≤ outAt c i ∧ outAt c i < 120 ∧ rowOf c (outAt c i) = 16 * ((i 0).val / 16) := by
  have h : (i 0).val < 1024 := (i 0).isLt
  obtain ⟨h1, h2, h3⟩ := outMsg_ok c ⟨(i 0).val / 128, Nat.div_lt_of_lt_mul (i 0).isLt⟩ ⟨(i 0).val % 128 / 16, by omega⟩
  refine ⟨h1, h2, h3.trans ?_⟩
  show 128 * ((i 0).val / 128) + 16 * ((i 0).val % 128 / 16) = _
  omega
theorem bands_all : (Finset.univ : Finset S1024x1024.Idx) = (Finset.Ico 56 120).biUnion fun t => rows (rowOf c t) (rowOf c t + 16) := by
  refine Finset.ext fun i => ⟨fun _ => ?_, fun _ => Finset.mem_univ _⟩
  obtain ⟨h1, h2, h3⟩ := outAt_ok c i
  exact Finset.mem_biUnion.mpr ⟨outAt c i, Finset.mem_Ico.mpr ⟨h1, h2⟩, mem_rows.mpr (by rw [h3]; omega)⟩

set_option backward.proofsInPublic true in
/-- The output device `c` ends with, element by element: the finished band that element is in. -/
def OutF : Vec F S1024x1024 .f32 := fun i => val m ρ c (outAt c i) (ix2 ⟨(i 0).val % 16, Nat.mod_lt _ (by decide)⟩ (i 1))

/-! ## Chunks of the partial product -/

theorem far_all : ∀ c d : Dev nD, ∃ δ < 8, far c δ = d := by decide +kernel
theorem far_inj : ∀ (c : Dev nD) (a b : Fin 8), far c a.val = far c b.val → a = b := by decide +kernel
theorem chunks_disj : ∀ t ∈ Finset.range 8, ∀ t' ∈ Finset.range 8, t ≠ t' →
    Disjoint (rows (128 * (far c t).val) (128 * (far c t).val + 128)) (rows (128 * (far c t').val) (128 * (far c t').val + 128)) := by
  intro t ht t' ht' hne
  rw [Finset.mem_range] at ht ht'
  rw [Finset.disjoint_left]; intro i hi hi'
  rw [mem_rows] at hi hi'
  have := congrArg Fin.val (far_inj c ⟨t, ht⟩ ⟨t', ht'⟩ (Fin.ext (show (far c t).val = (far c t').val by omega)))
  exact hne this
theorem chunks_all : (Finset.univ : Finset S1024x1024.Idx) = (Finset.range 8).biUnion fun t => rows (128 * (far c t).val) (128 * (far c t).val + 128) := by
  ext i
  have h : (i 0).val < 1024 := (i 0).isLt
  simp only [Finset.mem_univ, true_iff, Finset.mem_biUnion, Finset.mem_range]
  obtain ⟨δ, hδ, e⟩ := far_all c ⟨(i 0).val / 128, Nat.div_lt_of_lt_mul (i 0).isLt⟩
  refine ⟨δ, hδ, ?_⟩
  rw [mem_rows, e]; dsimp only; omega
/-- The own chunk in its eight bands. -/
theorem own_set (t : ℕ) : (bandV pM c t).view.set = rows (rowOf c t) (rowOf c t + 16) := by unfold bandV; exact band_set_p _ _
theorem own_disj : ∀ t ∈ Finset.range 8, ∀ t' ∈ Finset.range 8, t ≠ t' →
    Disjoint (rows (rowOf c t) (rowOf c t + 16)) (rows (rowOf c t') (rowOf c t' + 16)) := by
  intro t ht t' ht' hne
  rw [Finset.mem_range] at ht ht'
  rw [own_row c ht, own_row c ht', Finset.disjoint_left]; intro i hi hi'
  rw [mem_rows] at hi hi'
  have e : bandOf t = bandOf t' := by omega
  exact hne (congrArg Fin.val ((show ∀ a b : Fin 8, bandOf a.val = bandOf b.val → a = b by decide) ⟨t, ht⟩ ⟨t', ht'⟩ e))
theorem own_all : rows (128 * c.val) (128 * c.val + 128) = (Finset.range 8).biUnion fun t => rows (rowOf c t) (rowOf c t + 16) := by
  ext i
  have key : ∀ t, t < 8 → (i ∈ rows (rowOf c t) (rowOf c t + 16) ↔ 128 * c.val + 16 * bandOf t ≤ (i 0).val ∧ (i 0).val < 128 * c.val + 16 * bandOf t + 16) := by
    intro t ht
    rw [mem_rows, ← own_row c ht]
  rw [Finset.mem_biUnion, mem_rows]
  constructor
  · rintro ⟨h1, h2⟩
    obtain ⟨b, hb⟩ : ∃ b, b = ((i 0).val - 128 * c.val) / 16 := ⟨_, rfl⟩
    have hb8 : b < 8 := by omega
    have hlo : 128 * c.val + 16 * b ≤ (i 0).val := by omega
    have hhi : (i 0).val < 128 * c.val + 16 * b + 16 := by omega
    clear hb
    by_cases hb : b < 4
    · have e : bandOf (2 * b) = b := by unfold bandOf; omega
      exact ⟨2 * b, Finset.mem_range.mpr (by omega), (key _ (by omega)).mpr (by rw [e]; exact ⟨hlo, hhi⟩)⟩
    · have e : bandOf (2 * (b - 4) + 1) = b := by unfold bandOf; omega
      exact ⟨2 * (b - 4) + 1, Finset.mem_range.mpr (by omega), (key _ (by omega)).mpr (by rw [e]; exact ⟨hlo, hhi⟩)⟩
  · rintro ⟨t, ht, h⟩
    have ht := Finset.mem_range.mp ht
    have := (key t ht).mp h
    unfold bandOf at this; omega

end Cert.Ring
-- ==== Proof.Ends.lean ====
module

public import proofs.«01_k».proof.Proof.Split

/-! # The state at the start out of whole buffers, and whole buffers out of the state at the end -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## The start -/

omit [FloatOps F] in
theorem free_slot (k : Fin 8) (p : Fin 3) : iprop(∃ g, sM.view.loc (c : Thread nD τ) ↦[slotS k p]{fullShare} g) ⊢ (Free (slotV k p) c : sProp 𝕄) := by
  unfold Free; rw [← slot_elems]; exact .rfl
omit [FloatOps F] in
theorem free_buf (k : Fin 8) : iprop(∃ g, bM.view.loc (c : Thread nD τ) ↦[bufS k]{fullShare} g) ⊢ (Free (bufV k) c : sProp 𝕄) := by
  unfold Free; rw [← buf_elems]; exact .rfl
omit [FloatOps F] in
theorem free_band (n : ℕ) : iprop(∃ g, oM.view.loc (c : Thread nD τ) ↦[rows (rowOf c n) (rowOf c n + 16)]{fullShare} g) ⊢ (Free (bandV oM c n) c : sProp 𝕄) := by
  unfold Free; rw [← out_set]; exact .rfl

/-- A family over shifted messages. -/
theorem sep_shift (Φ : ℕ → sProp 𝕄) (a b k : ℕ) : bigSep (Finset.Ico (a + k) (b + k)) Φ = bigSep (Finset.Ico a b) fun n => Φ (n + k) := by
  have e : Finset.Ico (a + k) (b + k) = (Finset.Ico a b).map (addRightEmbedding k) := (Finset.map_add_right_Ico a b k).symm
  rw [e, bigSep_map]; rfl

theorem start_slots (f : Vec F S8x3x16x1024 .f32) :
    (sM.view.loc (c : Thread nD τ) ↦[Finset.univ]{fullShare} f : sProp 𝕄)
      ⊢ iprop((bigSep (Finset.range 15) fun n => Free (F := F) (recvM c n) c) ∗ (bigSep (Finset.range 8) fun n => FreeIf (F := F) c n)
        ∗ Free (F := F) (recvM c 23) c) := by
  have h1 : (sM.view.loc (c : Thread nD τ) ↦[Finset.univ]{fullShare} f : sProp 𝕄) ⊢ bigSep (Finset.Ico 0 24) fun n => Free (F := F) (recvM c n) c :=
    (pieces_cut (ℓ := sM.view.loc (c : Thread nD τ)) (Finset.Ico 0 24) (fun t => slotS (kOf t) (pOf t)) (slots_disj 0) (slots_all 0) f).trans
      (bigSep_mono fun n hn => by
        have := Finset.mem_Ico.mp hn
        rw [recvM_lo (show n < 56 by omega)]; exact free_slot c _ _)
  refine h1.trans ((sep_cut _ (show Finset.Ico 0 24 = Finset.range 15 ∪ Finset.Ico 15 24 by decide) (by decide)).trans (sep_mono_right ?_))
  refine (sep_cut _ (show Finset.Ico 15 24 = Finset.Ico (0 + 15) (8 + 15) ∪ {23} by decide) (by decide)).trans ?_
  iintro ⟨H1, H2⟩
  isplitl [H1]
  · ihave H1 := (Entails.of_eq (sep_shift (fun n => Free (F := F) (recvM c n) c) 0 8 15)) $$ H1
    iapply (show (bigSep (Finset.Ico 0 8) fun n => Free (F := F) (recvM c (n + 15)) c) ⊢ bigSep (Finset.range 8) fun n => FreeIf (F := F) c n from by
      rw [show Finset.Ico 0 8 = Finset.range 8 by decide]
      exact bigSep_mono fun n hn => FreeIf_of (by have := Finset.mem_range.mp hn; omega))
    iexact H1
  · iapply (sep_one (fun n => Free (F := F) (recvM c n) c) (Finset.mem_singleton_self 23)); iexact H2

theorem start_out (f : Vec F S1024x1024 .f32) :
    (oM.view.loc (c : Thread nD τ) ↦[Finset.univ]{fullShare} f : sProp 𝕄)
      ⊢ iprop(B3 (F := F) c 0 ∗ bigSep (Finset.Ico 56 112) fun n => Free (F := F) (recvM c n) c) := by
  have h1 : (oM.view.loc (c : Thread nD τ) ↦[Finset.univ]{fullShare} f : sProp 𝕄) ⊢ bigSep (Finset.Ico 56 120) fun n => Free (F := F) (bandV oM c n) c :=
    (pieces_cut (ℓ := oM.view.loc (c : Thread nD τ)) (Finset.Ico 56 120) (fun t => rows (rowOf c t) (rowOf c t + 16)) (bands_disj c) (bands_all c) f).trans
      (bigSep_mono fun n hn => free_band c n)
  refine h1.trans ((sep_cut _ (show Finset.Ico 56 120 = A3 0 ∪ Finset.Ico (56 + 8) (112 + 8) by decide) (by decide)).trans ?_)
  unfold B3
  refine sep_mono_right ?_
  rw [sep_shift]
  have key : ∀ n, 56 ≤ n → (Free (F := F) (bandV oM c (n + 8)) c ⊢ Free (F := F) (recvM c n) c) := by
    intro n h; rw [recvM_hi h]
  exact bigSep_mono fun n hn => key n (Finset.mem_Ico.mp hn).1

theorem start_bufs (f : Vec F S8x16x1024 .f32) :
    (bM.view.loc (c : Thread nD τ) ↦[Finset.univ]{fullShare} f : sProp 𝕄) ⊢ B5 (F := F) c 0 := by
  unfold B5
  rw [show A5 0 = Finset.Ico 8 (8 + 8) by decide]
  exact (pieces_cut (ℓ := bM.view.loc (c : Thread nD τ)) (Finset.Ico 8 (8 + 8)) (fun t => bufS (kOf t)) (bufs_disj 8) (bufs_all 8) f).trans
    (bigSep_mono fun n hn => free_buf c _)

theorem start_part (f : Vec F S1024x1024 .f32) :
    (pM.view.loc (c : Thread nD τ) ↦[Finset.univ]{fullShare} f : sProp 𝕄)
      ⊢ iprop(Blank (F := F) c (128 * c.val) (128 * c.val + 64) ∗ Blank (F := F) c (128 * c.val + 64) (128 * c.val + 128) ∗ Chunks m ρ c ∅) := by
  have h1 := pieces_cut (F := F) (ℓ := pM.view.loc (c : Thread nD τ)) (Finset.range 8) (fun t => rows (128 * (far c t).val) (128 * (far c t).val + 128)) (chunks_disj c) (chunks_all c) f
  refine h1.trans ((sep_split _ (show Finset.range 8 = insert 0 (Finset.Ico 1 8) by decide) (by decide)).trans ?_)
  rw [far_zero]
  unfold Chunks Blank
  rw [Finset.sdiff_empty, bigSep_empty]
  iintro ⟨⟨%g, H0⟩, H1⟩
  ihave H0 := (show (pM.view.loc (c : Thread nD τ) ↦[rows (128 * c.val) (128 * c.val + 128)]{fullShare} g : sProp 𝕄)
      ⊢ iprop((pM.view.loc (c : Thread nD τ) ↦[rows (128 * c.val) (128 * c.val + 64)]{fullShare} g)
        ∗ (pM.view.loc (c : Thread nD τ) ↦[rows (128 * c.val + 64) (128 * c.val + 128)]{fullShare} g)) from by
    rw [rows_union (show 128 * c.val ≤ 128 * c.val + 64 by omega) (show 128 * c.val + 64 ≤ 128 * c.val + 128 by omega)]; exact (pointsTo_union rows_disj).1) $$ H0
  icases H0 with ⟨Ha, Hb⟩
  isplitl [Ha]; · iexists g; iexact Ha
  isplitl [Hb]; · iexists g; iexact Hb
  isplitl [H1]; · iexact H1
  iempintro

/-- All of memory, as the start wants it. -/
theorem start_mem (fo : Vec F S1024x1024 .f32) (fp : Vec F S1024x1024 .f32) (fb : Vec F S8x16x1024 .f32) (fs : Vec F S8x3x16x1024 .f32) :
    iprop((Xp m ρ c ∗ Wp m ρ c) ∗ (oM.view.loc (c : Thread nD τ) ↦[Finset.univ]{fullShare} fo) ∗ (pM.view.loc (c : Thread nD τ) ↦[Finset.univ]{fullShare} fp)
        ∗ (bM.view.loc (c : Thread nD τ) ↦[Finset.univ]{fullShare} fb) ∗ (sM.view.loc (c : Thread nD τ) ↦[Finset.univ]{fullShare} fs))
      ⊢ Mem m ρ c := by
  unfold Mem Slots
  iintro ⟨HXW, Ho, Hp, Hb, Hs⟩
  ihave Ho := (start_out c fo) $$ Ho
  icases Ho with ⟨H3, Ho⟩
  ihave Hp := (start_part m ρ c fp) $$ Hp
  icases Hp with ⟨Ht, Hbt, Hc⟩
  ihave Hb := (start_bufs c fb) $$ Hb
  ihave Hs := (start_slots c fs) $$ Hs
  icases Hs with ⟨H15, H8, H23⟩
  isplitl [HXW]; · iexact HXW
  isplitl [H15 H8 H23 Ho]
  · isplitl [H15]; · iexact H15
    isplitl [H8]; · iexact H8
    unfold B1
    iapply (sep_join (fun j => Free (F := F) (recvM c j) c) (show A1 0 = insert 23 (Finset.Ico 56 112) by decide +kernel) (by decide))
    isplitl [H23] <;> iassumption
  isplitl [Ht]; · iexact Ht
  isplitl [Hbt]; · iexact Hbt
  isplitl [Hc]; · iexact Hc
  isplitl [H3] <;> iassumption

/-! ## The end -/

/-- Some element. -/
def anyElt : Elt F .f32 := OutF m ρ c (ix2 ⟨0, by omega⟩ ⟨0, by omega⟩)

/-- A whole buffer out of its pieces, whatever they hold. -/
theorem whole_any {ℓ : Loc nD τ sig} (x : Buf (Elt F) ℓ) (S : Finset ℕ) (Kp : ℕ → Finset (Idx ℓ))
    (hd : ∀ s ∈ S, ∀ t ∈ S, s ≠ t → Disjoint (Kp s) (Kp t)) (hu : Finset.univ = S.biUnion Kp) :
    (bigSep S fun t => iprop(∃ g, ℓ ↦[Kp t]{fullShare} g) : sProp 𝕄) ⊢ iprop(∃ g, ℓ ↦[Finset.univ]{fullShare} g) := by
  haveI : Nonempty (Buf (Elt F) ℓ) := ⟨x⟩
  have key : ∀ t, (iprop(∃ g, ℓ ↦[Kp t]{fullShare} g) : sProp 𝕄) ⊢ iprop(∃ g, ⌜True⌝ ∗ (ℓ ↦[Kp t]{fullShare} g)) := by
    intro t; iintro ⟨%g, H⟩; iexists g; isplitr; · ipureintro; trivial
    iexact H
  refine (bigSep_mono fun t _ => key t).trans ((pieces_join S Kp hd hu (fun _ _ => True)).trans ?_)
  iintro ⟨%g, -, H⟩; iexists g; iexact H

theorem slot_free (k : Fin 8) (p : Fin 3) : (Free (slotV k p) c : sProp 𝕄) ⊢ iprop(∃ g, sM.view.loc (c : Thread nD τ) ↦[slotS k p]{fullShare} g) := by
  unfold Free; rw [← slot_elems]; exact .rfl
theorem buf_free (k : Fin 8) : (Free (bufV k) c : sProp 𝕄) ⊢ iprop(∃ g, bM.view.loc (c : Thread nD τ) ↦[bufS k]{fullShare} g) := by
  unfold Free; rw [← buf_elems]; exact .rfl

theorem end_slots (x : Elt F .f32) : B2 (F := F) c 112 ⊢ iprop(∃ f : Vec F S8x3x16x1024 .f32, sM.view.loc (c : Thread nD τ) ↦[Finset.univ]{fullShare} f) := by
  unfold B2
  rw [show A2 112 = Finset.Ico 32 (32 + 24) by decide]
  have key : ∀ n, n < 56 → (Free (F := F) (recvM c n) c ⊢ iprop(∃ g, sM.view.loc (c : Thread nD τ) ↦[slotS (kOf n) (pOf n)]{fullShare} g)) := by
    intro n h; rw [recvM_lo h]; exact slot_free c _ _
  exact (bigSep_mono fun n hn => key n (Finset.mem_Ico.mp hn).2).trans
    (whole_any (ℓ := sM.view.loc (c : Thread nD τ)) (fun _ => x) (Finset.Ico 32 (32 + 24)) (fun t => slotS (kOf t) (pOf t)) (slots_disj 32) (slots_all 32))

theorem end_bufs (x : Elt F .f32) : B5 (F := F) c 112 ⊢ iprop(∃ f : Vec F S8x16x1024 .f32, bM.view.loc (c : Thread nD τ) ↦[Finset.univ]{fullShare} f) := by
  unfold B5
  rw [show A5 112 = Finset.Ico 48 (48 + 8) by decide]
  exact (bigSep_mono fun n _ => buf_free c _).trans
    (whole_any (ℓ := bM.view.loc (c : Thread nD τ)) (fun _ => x) (Finset.Ico 48 (48 + 8)) (fun t => bufS (kOf t)) (bufs_disj 48) (bufs_all 48))

/-- The chunks computed, by distance. -/
abbrev Dfull : Finset ℕ := insert 4 (insert 5 (insert 3 (insert 6 (insert 2 (insert 7 (insert 1 (∅ : Finset ℕ)))))))

theorem end_part : iprop(B6 (F := F) c 112 ∗ Chunks m ρ c Dfull) ⊢ iprop(∃ f : Vec F S1024x1024 .f32, pM.view.loc (c : Thread nD τ) ↦[Finset.univ]{fullShare} f) := by
  unfold B6 Chunks
  rw [show A6 112 = Finset.range 8 by decide, show Finset.Ico 1 8 \ Dfull = ∅ by decide, show Dfull = Finset.Ico 1 8 by decide]
  have kb : ∀ n, n ∈ Finset.range 8 → (Free (F := F) (bandV pM c n) c ⊢ iprop(∃ g, pM.view.loc (c : Thread nD τ) ↦[rows (rowOf c n) (rowOf c n + 16)]{fullShare} g)) := by
    intro n hn
    have e : (bandV pM c n).view.set = rows (rowOf c n) (rowOf c n + 16) := by unfold bandV; exact band_set_p _ _
    unfold Free; rw [← e]; exact .rfl
  have kc : ∀ n, Done m ρ c (128 * (far c n).val) (128 * (far c n).val + 128)
      ⊢ iprop(∃ g, pM.view.loc (c : Thread nD τ) ↦[rows (128 * (far c n).val) (128 * (far c n).val + 128)]{fullShare} g) := by
    intro n; unfold Done; iintro H; iexists _; iexact H
  haveI : Nonempty (Buf (Elt F) (pM.view.loc (c : Thread nD τ))) := ⟨part m ρ c⟩
  iintro ⟨HB, -, HD⟩
  iapply (whole_any (ℓ := pM.view.loc (c : Thread nD τ)) (part m ρ c) (Finset.range 8) (fun t => rows (128 * (far c t).val) (128 * (far c t).val + 128)) (chunks_disj c) (chunks_all c))
  iapply (sep_join (fun t => iprop(∃ g, pM.view.loc (c : Thread nD τ) ↦[rows (128 * (far c t).val) (128 * (far c t).val + 128)]{fullShare} g))
    (show Finset.range 8 = insert 0 (Finset.Ico 1 8) by decide) (by decide))
  isplitl [HB]
  · rw [far_zero]
    have hb : (bigSep (Finset.range 8) fun n => Free (F := F) (bandV pM c n) c) ⊢ bigSep (Finset.range 8) fun n => iprop(∃ g, pM.view.loc (c : Thread nD τ) ↦[rows (rowOf c n) (rowOf c n + 16)]{fullShare} g) := bigSep_mono kb
    ihave HB := hb $$ HB
    have kk : ∀ t, (iprop(∃ g, pM.view.loc (c : Thread nD τ) ↦[rows (rowOf c t) (rowOf c t + 16)]{fullShare} g) : sProp 𝕄)
        ⊢ iprop(∃ g, ⌜True⌝ ∗ (pM.view.loc (c : Thread nD τ) ↦[rows (rowOf c t) (rowOf c t + 16)]{fullShare} g)) := by
      intro t; iintro ⟨%g, H⟩; iexists g; isplitr; · ipureintro; trivial
      iexact H
    have hk : (bigSep (Finset.range 8) fun t => iprop(∃ g, pM.view.loc (c : Thread nD τ) ↦[rows (rowOf c t) (rowOf c t + 16)]{fullShare} g) : sProp 𝕄)
        ⊢ bigSep (Finset.range 8) fun t => iprop(∃ g, ⌜True⌝ ∗ (pM.view.loc (c : Thread nD τ) ↦[rows (rowOf c t) (rowOf c t + 16)]{fullShare} g)) := bigSep_mono fun t _ => kk t
    ihave HB := hk $$ HB
    ihave HB := (pieces_join (ℓ := pM.view.loc (c : Thread nD τ)) (Finset.range 8) (fun t => rows (rowOf c t) (rowOf c t + 16)) (own_disj c) (own_all c) (fun _ _ => True)) $$ HB
    icases HB with ⟨%g, -, HB⟩
    iexists g; iexact HB
  · have hc : (bigSep (Finset.Ico 1 8) fun n => Done m ρ c (128 * (far c n).val) (128 * (far c n).val + 128))
        ⊢ bigSep (Finset.Ico 1 8) fun n => iprop(∃ g, pM.view.loc (c : Thread nD τ) ↦[rows (128 * (far c n).val) (128 * (far c n).val + 128)]{fullShare} g) := bigSep_mono fun n _ => kc n
    ihave HD := hc $$ HD
    iexact HD

theorem out_at (t : ℕ) (f : Vec F S1024x1024 .f32) (i : S1024x1024.Idx) (h : rowOf c t = 16 * ((i 0).val / 16)) :
    (bandV oM c t).view.read (Elt F) f (ix2 ⟨(i 0).val % 16, Nat.mod_lt _ (by decide)⟩ (i 1)) = f i := by
  have e : (Rect.unit (s := S1024x1024) ![rowOf c t, 0] (⟨2, ![16, 1024]⟩ : Shape).size (row_in c t)).emb (ix2 ⟨(i 0).val % 16, Nat.mod_lt _ (by decide)⟩ (i 1)) = i :=
    rect_emb 16 ![rowOf c t, 0] _ _ i (by show (i 0).val = rowOf c t + (i 0).val % 16; rw [h]; omega) rfl
  exact congrArg f e

theorem end_out : B4 m ρ c 112 ⊢ (oM.view.loc (c : Thread nD τ) ↦[Finset.univ]{fullShare} OutF m ρ c) := by
  unfold B4
  rw [show A4 112 = Finset.Ico 56 120 by decide]
  haveI : Nonempty (Buf (Elt F) (oM.view.loc (c : Thread nD τ))) := ⟨OutF m ρ c⟩
  have key : ∀ t, Holds (bandV oM c t) c (val m ρ c t)
      ⊢ iprop(∃ g, ⌜(bandV oM c t).view.read (Elt F) g = val m ρ c t⌝ ∗ (oM.view.loc (c : Thread nD τ) ↦[rows (rowOf c t) (rowOf c t + 16)]{fullShare} g)) := by
    intro t; unfold Holds; rw [← out_set]; exact .rfl
  refine (bigSep_mono fun t _ => key t).trans ((pieces_join (ℓ := oM.view.loc (c : Thread nD τ)) (Finset.Ico 56 120) (fun t => rows (rowOf c t) (rowOf c t + 16)) (bands_disj c) (bands_all c) (fun t g => (bandV oM c t).view.read (Elt F) g = val m ρ c t)).trans ?_)
  iintro ⟨%g, %h, H⟩
  have e : g = OutF m ρ c := by
    funext (i : S1024x1024.Idx)
    obtain ⟨h1, h2, h3⟩ := outAt_ok c i
    obtain ⟨f, hf, hg⟩ := h (outAt c i) (Finset.mem_Ico.mpr ⟨h1, h2⟩)
    rw [hg i (mem_rows.mpr (by rw [h3]; constructor <;> omega)), ← out_at c (outAt c i) f i h3, hf]
    rfl
  subst e
  iexact H

end Cert.Ring
-- ==== Proof.Run1.lean ====
module

public import proofs.«01_k».proof.Proof.State

/-! # Steps one and two of every stream, one rule a step -/

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg) (K : Dev nD × Own → ℕ) (c : Dev nD)

private theorem off_1 : ∀ c : Dev nD, k0_off6 c 1#32 = ![128 * (far c 1).val, 0] := by decide +kernel
private theorem pff_1 : ∀ c : Dev nD, k0_off7 c 1#32 = ![128 * (far c 1).val, 0] := by decide +kernel
private theorem off_7 : ∀ c : Dev nD, k0_off8 c = ![128 * (far c 7).val, 0] := by decide +kernel
private theorem pff_7 : ∀ c : Dev nD, k0_off9 c = ![128 * (far c 7).val, 0] := by decide +kernel
private theorem o_0 : ∀ c : Dev nD, k0_off10 c 1#32 0#32 = ![rowOf c (0 + 8), 0] := by decide +kernel
private theorem d_0 : ∀ c : Dev nD, (⟨k0_dev11 c, k0_dev11_lt c⟩ : Dev nD) = tgt c (0 + 8) := by decide +kernel
private theorem o_1 : ∀ c : Dev nD, k0_off10 c 4294967295#32 64#32 = ![rowOf c (1 + 8), 0] := by decide +kernel
private theorem d_1 : ∀ c : Dev nD, (⟨k0_dev12 c, k0_dev12_lt c⟩ : Dev nD) = tgt c (1 + 8) := by decide +kernel
private theorem o_2 : ∀ c : Dev nD, k0_off10 c 1#32 16#32 = ![rowOf c (2 + 8), 0] := by decide +kernel
private theorem d_2 : ∀ c : Dev nD, (⟨k0_dev13 c, k0_dev13_lt c⟩ : Dev nD) = tgt c (2 + 8) := by decide +kernel
private theorem o_3 : ∀ c : Dev nD, k0_off10 c 4294967295#32 80#32 = ![rowOf c (3 + 8), 0] := by decide +kernel
private theorem d_3 : ∀ c : Dev nD, (⟨k0_dev14 c, k0_dev14_lt c⟩ : Dev nD) = tgt c (3 + 8) := by decide +kernel
private theorem o_4 : ∀ c : Dev nD, k0_off10 c 1#32 32#32 = ![rowOf c (4 + 8), 0] := by decide +kernel
private theorem d_4 : ∀ c : Dev nD, (⟨k0_dev15 c, k0_dev15_lt c⟩ : Dev nD) = tgt c (4 + 8) := by decide +kernel
private theorem o_5 : ∀ c : Dev nD, k0_off10 c 4294967295#32 96#32 = ![rowOf c (5 + 8), 0] := by decide +kernel
private theorem d_5 : ∀ c : Dev nD, (⟨k0_dev16 c, k0_dev16_lt c⟩ : Dev nD) = tgt c (5 + 8) := by decide +kernel
private theorem o_6 : ∀ c : Dev nD, k0_off10 c 1#32 48#32 = ![rowOf c (6 + 8), 0] := by decide +kernel
private theorem d_6 : ∀ c : Dev nD, (⟨k0_dev17 c, k0_dev17_lt c⟩ : Dev nD) = tgt c (6 + 8) := by decide +kernel
private theorem o_7 : ∀ c : Dev nD, k0_off10 c 4294967295#32 112#32 = ![rowOf c (7 + 8), 0] := by decide +kernel
private theorem d_7 : ∀ c : Dev nD, (⟨k0_dev18 c, k0_dev18_lt c⟩ : Dev nD) = tgt c (7 + 8) := by decide +kernel
private theorem off_2 : ∀ c : Dev nD, k0_off6 c 2#32 = ![128 * (far c 2).val, 0] := by decide +kernel
private theorem pff_2 : ∀ c : Dev nD, k0_off7 c 2#32 = ![128 * (far c 2).val, 0] := by decide +kernel
private theorem off_6 : ∀ c : Dev nD, k0_off6 c 4294967294#32 = ![128 * (far c 6).val, 0] := by decide +kernel
private theorem pff_6 : ∀ c : Dev nD, k0_off7 c 4294967294#32 = ![128 * (far c 6).val, 0] := by decide +kernel
private theorem o_8 : ∀ c : Dev nD, k0_off10 c 2#32 0#32 = ![rowOf c (8 + 8), 0] := by decide +kernel
private theorem d_8 : ∀ c : Dev nD, (⟨k0_dev19 c, k0_dev19_lt c⟩ : Dev nD) = tgt c (8 + 8) := by decide +kernel
private theorem o_9 : ∀ c : Dev nD, k0_off10 c 4294967294#32 64#32 = ![rowOf c (9 + 8), 0] := by decide +kernel
private theorem d_9 : ∀ c : Dev nD, (⟨k0_dev20 c, k0_dev20_lt c⟩ : Dev nD) = tgt c (9 + 8) := by decide +kernel
private theorem o_10 : ∀ c : Dev nD, k0_off10 c 2#32 16#32 = ![rowOf c (10 + 8), 0] := by decide +kernel
private theorem d_10 : ∀ c : Dev nD, (⟨k0_dev21 c, k0_dev21_lt c⟩ : Dev nD) = tgt c (10 + 8) := by decide +kernel
private theorem o_11 : ∀ c : Dev nD, k0_off10 c 4294967294#32 80#32 = ![rowOf c (11 + 8), 0] := by decide +kernel
private theorem d_11 : ∀ c : Dev nD, (⟨k0_dev22 c, k0_dev22_lt c⟩ : Dev nD) = tgt c (11 + 8) := by decide +kernel
private theorem o_12 : ∀ c : Dev nD, k0_off10 c 2#32 32#32 = ![rowOf c (12 + 8), 0] := by decide +kernel
private theorem d_12 : ∀ c : Dev nD, (⟨k0_dev23 c, k0_dev23_lt c⟩ : Dev nD) = tgt c (12 + 8) := by decide +kernel
private theorem o_13 : ∀ c : Dev nD, k0_off10 c 4294967294#32 96#32 = ![rowOf c (13 + 8), 0] := by decide +kernel
private theorem d_13 : ∀ c : Dev nD, (⟨k0_dev24 c, k0_dev24_lt c⟩ : Dev nD) = tgt c (13 + 8) := by decide +kernel
private theorem o_14 : ∀ c : Dev nD, k0_off10 c 2#32 48#32 = ![rowOf c (14 + 8), 0] := by decide +kernel
private theorem d_14 : ∀ c : Dev nD, (⟨k0_dev25 c, k0_dev25_lt c⟩ : Dev nD) = tgt c (14 + 8) := by decide +kernel
private theorem o_15 : ∀ c : Dev nD, k0_off10 c 4294967294#32 112#32 = ![rowOf c (15 + 8), 0] := by decide +kernel
private theorem d_15 : ∀ c : Dev nD, (⟨k0_dev26 c, k0_dev26_lt c⟩ : Dev nD) = tgt c (15 + 8) := by decide +kernel

theorem run_part1 {P : KProg F} {Q : PUnit → sProp (MT nD τ sig ℕ (Elt F) ℕ UU ℕ)} {R : sProp (MT nD τ sig ℕ (Elt F) ℕ UU ℕ)}
    (hnext : iprop(Recs m ρ K ∗ St m ρ c 16 (insert 6 (insert 2 (insert 7 (insert 1 (∅ : Finset ℕ))))) ∗ R) ⊢ WP c P Q) :
    iprop(Recs m ρ K ∗ St m ρ c 0 (∅ : Finset ℕ) ∗ R) ⊢ WP c (part1 c P) Q := by
  unfold part1
  refine gemm_step m ρ K c (∅ : Finset ℕ) 1 (by decide) (by decide) (by decide) (off_1 c) (pff_1 c) ?_
  refine gemm_step m ρ K c (insert 1 (∅ : Finset ℕ)) 7 (by decide) (by decide) (by decide) (off_7 c) (pff_7 c) ?_
  refine add_step m ρ K c (q := 0) (insert 7 (insert 1 (∅ : Finset ℕ))) (by decide) (by decide) rfl rfl rfl rfl rfl rfl (o_0 c) rfl rfl (buf_src (by decide) (by decide) rfl) (d_0 c) (slot_recv (by decide) rfl rfl) ?_
  refine add_step m ρ K c (q := 1) (insert 7 (insert 1 (∅ : Finset ℕ))) (by decide) (by decide) rfl rfl rfl rfl rfl rfl (o_1 c) rfl rfl (buf_src (by decide) (by decide) rfl) (d_1 c) (slot_recv (by decide) rfl rfl) ?_
  refine add_step m ρ K c (q := 2) (insert 7 (insert 1 (∅ : Finset ℕ))) (by decide) (by decide) rfl rfl rfl rfl rfl rfl (o_2 c) rfl rfl (buf_src (by decide) (by decide) rfl) (d_2 c) (slot_recv (by decide) rfl rfl) ?_
  refine add_step m ρ K c (q := 3) (insert 7 (insert 1 (∅ : Finset ℕ))) (by decide) (by decide) rfl rfl rfl rfl rfl rfl (o_3 c) rfl rfl (buf_src (by decide) (by decide) rfl) (d_3 c) (slot_recv (by decide) rfl rfl) ?_
  refine add_step m ρ K c (q := 4) (insert 7 (insert 1 (∅ : Finset ℕ))) (by decide) (by decide) rfl rfl rfl rfl rfl rfl (o_4 c) rfl rfl (buf_src (by decide) (by decide) rfl) (d_4 c) (slot_recv (by decide) rfl rfl) ?_
  refine add_step m ρ K c (q := 5) (insert 7 (insert 1 (∅ : Finset ℕ))) (by decide) (by decide) rfl rfl rfl rfl rfl rfl (o_5 c) rfl rfl (buf_src (by decide) (by decide) rfl) (d_5 c) (slot_recv (by decide) rfl rfl) ?_
  refine add_step m ρ K c (q := 6) (insert 7 (insert 1 (∅ : Finset ℕ))) (by decide) (by decide) rfl rfl rfl rfl rfl rfl (o_6 c) rfl rfl (buf_src (by decide) (by decide) rfl) (d_6 c) (slot_recv (by decide) rfl rfl) ?_
  refine add_step m ρ K c (q := 7) (insert 7 (insert 1 (∅ : Finset ℕ))) (by decide) (by decide) rfl rfl rfl rfl rfl rfl (o_7 c) rfl rfl (buf_src (by decide) (by decide) rfl) (d_7 c) (slot_recv (by decide) rfl rfl) ?_
  refine gemm_step m ρ K c (insert 7 (insert 1 (∅ : Finset ℕ))) 2 (by decide) (by decide) (by decide) (off_2 c) (pff_2 c) ?_
  refine gemm_step m ρ K c (insert 2 (insert 7 (insert 1 (∅ : Finset ℕ)))) 6 (by decide) (by decide) (by decide) (off_6 c) (pff_6 c) ?_
  refine add_step m ρ K c (q := 8) (insert 6 (insert 2 (insert 7 (insert 1 (∅ : Finset ℕ))))) (by decide) (by decide) rfl rfl rfl rfl rfl rfl (o_8 c) rfl rfl (buf_src (by decide) (by decide) rfl) (d_8 c) (slot_recv (by decide) rfl rfl) ?_
  refine add_step m ρ K c (q := 9) (insert 6 (insert 2 (insert 7 (insert 1 (∅ : Finset ℕ))))) (by decide) (by decide) rfl rfl rfl rfl rfl rfl (o_9 c) rfl rfl (buf_src (by decide) (by decide) rfl) (d_9 c) (slot_recv (by decide) rfl rfl) ?_
  refine add_step m ρ K c (q := 10) (insert 6 (insert 2 (insert 7 (insert 1 (∅ : Finset ℕ))))) (by decide) (by decide) rfl rfl rfl rfl rfl rfl (o_10 c) rfl rfl (buf_src (by decide) (by decide) rfl) (d_10 c) (slot_recv (by decide) rfl rfl) ?_
  refine add_step m ρ K c (q := 11) (insert 6 (insert 2 (insert 7 (insert 1 (∅ : Finset ℕ))))) (by decide) (by decide) rfl rfl rfl rfl rfl rfl (o_11 c) rfl rfl (buf_src (by decide) (by decide) rfl) (d_11 c) (slot_recv (by decide) rfl rfl) ?_
  refine add_step m ρ K c (q := 12) (insert 6 (insert 2 (insert 7 (insert 1 (∅ : Finset ℕ))))) (by decide) (by decide) rfl rfl rfl rfl rfl rfl (o_12 c) rfl rfl (buf_src (by decide) (by decide) rfl) (d_12 c) (slot_recv (by decide) rfl rfl) ?_
  refine add_step m ρ K c (q := 13) (insert 6 (insert 2 (insert 7 (insert 1 (∅ : Finset ℕ))))) (by decide) (by decide) rfl rfl rfl rfl rfl rfl (o_13 c) rfl rfl (buf_src (by decide) (by decide) rfl) (d_13 c) (slot_recv (by decide) rfl rfl) ?_
  refine add_step m ρ K c (q := 14) (insert 6 (insert 2 (insert 7 (insert 1 (∅ : Finset ℕ))))) (by decide) (by decide) rfl rfl rfl rfl rfl rfl (o_14 c) rfl rfl (buf_src (by decide) (by decide) rfl) (d_14 c) (slot_recv (by decide) rfl rfl) ?_
  refine add_step m ρ K c (q := 15) (insert 6 (insert 2 (insert 7 (insert 1 (∅ : Finset ℕ))))) (by decide) (by decide) rfl rfl rfl rfl rfl rfl (o_15 c) rfl rfl (buf_src (by decide) (by decide) rfl) (d_15 c) (slot_recv (by decide) rfl rfl) ?_
  exact hnext

end Cert.Ring
-- ==== Proof.Run2.lean ====
module

public import proofs.«01_k».proof.Proof.State

/-! # Steps three to six, one rule a step -/

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg) (K : Dev nD × Own → ℕ) (c : Dev nD)

private theorem off_3 : ∀ c : Dev nD, k0_off6 c 3#32 = ![128 * (far c 3).val, 0] := by decide +kernel
private theorem pff_3 : ∀ c : Dev nD, k0_off7 c 3#32 = ![128 * (far c 3).val, 0] := by decide +kernel
private theorem off_5 : ∀ c : Dev nD, k0_off6 c 4294967293#32 = ![128 * (far c 5).val, 0] := by decide +kernel
private theorem pff_5 : ∀ c : Dev nD, k0_off7 c 4294967293#32 = ![128 * (far c 5).val, 0] := by decide +kernel
private theorem o_16 : ∀ c : Dev nD, k0_off10 c 3#32 0#32 = ![rowOf c (16 + 8), 0] := by decide +kernel
private theorem d_16 : ∀ c : Dev nD, (⟨k0_dev27 c, k0_dev27_lt c⟩ : Dev nD) = tgt c (16 + 8) := by decide +kernel
private theorem o_17 : ∀ c : Dev nD, k0_off10 c 4294967293#32 64#32 = ![rowOf c (17 + 8), 0] := by decide +kernel
private theorem d_17 : ∀ c : Dev nD, (⟨k0_dev28 c, k0_dev28_lt c⟩ : Dev nD) = tgt c (17 + 8) := by decide +kernel
private theorem o_18 : ∀ c : Dev nD, k0_off10 c 3#32 16#32 = ![rowOf c (18 + 8), 0] := by decide +kernel
private theorem d_18 : ∀ c : Dev nD, (⟨k0_dev29 c, k0_dev29_lt c⟩ : Dev nD) = tgt c (18 + 8) := by decide +kernel
private theorem o_19 : ∀ c : Dev nD, k0_off10 c 4294967293#32 80#32 = ![rowOf c (19 + 8), 0] := by decide +kernel
private theorem d_19 : ∀ c : Dev nD, (⟨k0_dev30 c, k0_dev30_lt c⟩ : Dev nD) = tgt c (19 + 8) := by decide +kernel
private theorem o_20 : ∀ c : Dev nD, k0_off10 c 3#32 32#32 = ![rowOf c (20 + 8), 0] := by decide +kernel
private theorem d_20 : ∀ c : Dev nD, (⟨k0_dev31 c, k0_dev31_lt c⟩ : Dev nD) = tgt c (20 + 8) := by decide +kernel
private theorem o_21 : ∀ c : Dev nD, k0_off10 c 4294967293#32 96#32 = ![rowOf c (21 + 8), 0] := by decide +kernel
private theorem d_21 : ∀ c : Dev nD, (⟨k0_dev32 c, k0_dev32_lt c⟩ : Dev nD) = tgt c (21 + 8) := by decide +kernel
private theorem o_22 : ∀ c : Dev nD, k0_off10 c 3#32 48#32 = ![rowOf c (22 + 8), 0] := by decide +kernel
private theorem d_22 : ∀ c : Dev nD, (⟨k0_dev33 c, k0_dev33_lt c⟩ : Dev nD) = tgt c (22 + 8) := by decide +kernel
private theorem o_23 : ∀ c : Dev nD, k0_off10 c 4294967293#32 112#32 = ![rowOf c (23 + 8), 0] := by decide +kernel
private theorem d_23 : ∀ c : Dev nD, (⟨k0_dev34 c, k0_dev34_lt c⟩ : Dev nD) = tgt c (23 + 8) := by decide +kernel
private theorem off_4 : ∀ c : Dev nD, k0_off6 c 4#32 = ![128 * (far c 4).val, 0] := by decide +kernel
private theorem pff_4 : ∀ c : Dev nD, k0_off7 c 4#32 = ![128 * (far c 4).val, 0] := by decide +kernel
private theorem o_24 : ∀ c : Dev nD, k0_off10 c 4#32 0#32 = ![rowOf c (24 + 8), 0] := by decide +kernel
private theorem d_24 : ∀ c : Dev nD, (⟨k0_dev35 c, k0_dev35_lt c⟩ : Dev nD) = tgt c (24 + 8) := by decide +kernel
private theorem o_25 : ∀ c : Dev nD, k0_off10 c 4294967292#32 64#32 = ![rowOf c (25 + 8), 0] := by decide +kernel
private theorem d_25 : ∀ c : Dev nD, (⟨k0_dev36 c, k0_dev36_lt c⟩ : Dev nD) = tgt c (25 + 8) := by decide +kernel
private theorem o_26 : ∀ c : Dev nD, k0_off10 c 4#32 16#32 = ![rowOf c (26 + 8), 0] := by decide +kernel
private theorem d_26 : ∀ c : Dev nD, (⟨k0_dev37 c, k0_dev37_lt c⟩ : Dev nD) = tgt c (26 + 8) := by decide +kernel
private theorem o_27 : ∀ c : Dev nD, k0_off10 c 4294967292#32 80#32 = ![rowOf c (27 + 8), 0] := by decide +kernel
private theorem d_27 : ∀ c : Dev nD, (⟨k0_dev38 c, k0_dev38_lt c⟩ : Dev nD) = tgt c (27 + 8) := by decide +kernel
private theorem o_28 : ∀ c : Dev nD, k0_off10 c 4#32 32#32 = ![rowOf c (28 + 8), 0] := by decide +kernel
private theorem d_28 : ∀ c : Dev nD, (⟨k0_dev39 c, k0_dev39_lt c⟩ : Dev nD) = tgt c (28 + 8) := by decide +kernel
private theorem o_29 : ∀ c : Dev nD, k0_off10 c 4294967292#32 96#32 = ![rowOf c (29 + 8), 0] := by decide +kernel
private theorem d_29 : ∀ c : Dev nD, (⟨k0_dev40 c, k0_dev40_lt c⟩ : Dev nD) = tgt c (29 + 8) := by decide +kernel
private theorem o_30 : ∀ c : Dev nD, k0_off10 c 4#32 48#32 = ![rowOf c (30 + 8), 0] := by decide +kernel
private theorem d_30 : ∀ c : Dev nD, (⟨k0_dev41 c, k0_dev41_lt c⟩ : Dev nD) = tgt c (30 + 8) := by decide +kernel
private theorem o_31 : ∀ c : Dev nD, k0_off10 c 4294967292#32 112#32 = ![rowOf c (31 + 8), 0] := by decide +kernel
private theorem d_31 : ∀ c : Dev nD, (⟨k0_dev42 c, k0_dev42_lt c⟩ : Dev nD) = tgt c (31 + 8) := by decide +kernel
private theorem o_32 : ∀ c : Dev nD, k0_off10 c 5#32 0#32 = ![rowOf c (32 + 8), 0] := by decide +kernel
private theorem d_32 : ∀ c : Dev nD, (⟨k0_dev43 c, k0_dev43_lt c⟩ : Dev nD) = tgt c (32 + 8) := by decide +kernel
private theorem o_33 : ∀ c : Dev nD, k0_off10 c 4294967291#32 64#32 = ![rowOf c (33 + 8), 0] := by decide +kernel
private theorem d_33 : ∀ c : Dev nD, (⟨k0_dev44 c, k0_dev44_lt c⟩ : Dev nD) = tgt c (33 + 8) := by decide +kernel
private theorem o_34 : ∀ c : Dev nD, k0_off10 c 5#32 16#32 = ![rowOf c (34 + 8), 0] := by decide +kernel
private theorem d_34 : ∀ c : Dev nD, (⟨k0_dev45 c, k0_dev45_lt c⟩ : Dev nD) = tgt c (34 + 8) := by decide +kernel
private theorem o_35 : ∀ c : Dev nD, k0_off10 c 4294967291#32 80#32 = ![rowOf c (35 + 8), 0] := by decide +kernel
private theorem d_35 : ∀ c : Dev nD, (⟨k0_dev46 c, k0_dev46_lt c⟩ : Dev nD) = tgt c (35 + 8) := by decide +kernel
private theorem o_36 : ∀ c : Dev nD, k0_off10 c 5#32 32#32 = ![rowOf c (36 + 8), 0] := by decide +kernel
private theorem d_36 : ∀ c : Dev nD, (⟨k0_dev47 c, k0_dev47_lt c⟩ : Dev nD) = tgt c (36 + 8) := by decide +kernel
private theorem o_37 : ∀ c : Dev nD, k0_off10 c 4294967291#32 96#32 = ![rowOf c (37 + 8), 0] := by decide +kernel
private theorem d_37 : ∀ c : Dev nD, (⟨k0_dev48 c, k0_dev48_lt c⟩ : Dev nD) = tgt c (37 + 8) := by decide +kernel
private theorem o_38 : ∀ c : Dev nD, k0_off10 c 5#32 48#32 = ![rowOf c (38 + 8), 0] := by decide +kernel
private theorem d_38 : ∀ c : Dev nD, (⟨k0_dev49 c, k0_dev49_lt c⟩ : Dev nD) = tgt c (38 + 8) := by decide +kernel
private theorem o_39 : ∀ c : Dev nD, k0_off10 c 4294967291#32 112#32 = ![rowOf c (39 + 8), 0] := by decide +kernel
private theorem d_39 : ∀ c : Dev nD, (⟨k0_dev50 c, k0_dev50_lt c⟩ : Dev nD) = tgt c (39 + 8) := by decide +kernel
private theorem o_40 : ∀ c : Dev nD, k0_off10 c 6#32 0#32 = ![rowOf c (40 + 8), 0] := by decide +kernel
private theorem d_40 : ∀ c : Dev nD, (⟨k0_dev51 c, k0_dev51_lt c⟩ : Dev nD) = tgt c (40 + 8) := by decide +kernel
private theorem o_41 : ∀ c : Dev nD, k0_off10 c 4294967290#32 64#32 = ![rowOf c (41 + 8), 0] := by decide +kernel
private theorem d_41 : ∀ c : Dev nD, (⟨k0_dev52 c, k0_dev52_lt c⟩ : Dev nD) = tgt c (41 + 8) := by decide +kernel
private theorem o_42 : ∀ c : Dev nD, k0_off10 c 6#32 16#32 = ![rowOf c (42 + 8), 0] := by decide +kernel
private theorem d_42 : ∀ c : Dev nD, (⟨k0_dev53 c, k0_dev53_lt c⟩ : Dev nD) = tgt c (42 + 8) := by decide +kernel
private theorem o_43 : ∀ c : Dev nD, k0_off10 c 4294967290#32 80#32 = ![rowOf c (43 + 8), 0] := by decide +kernel
private theorem d_43 : ∀ c : Dev nD, (⟨k0_dev54 c, k0_dev54_lt c⟩ : Dev nD) = tgt c (43 + 8) := by decide +kernel
private theorem o_44 : ∀ c : Dev nD, k0_off10 c 6#32 32#32 = ![rowOf c (44 + 8), 0] := by decide +kernel
private theorem d_44 : ∀ c : Dev nD, (⟨k0_dev55 c, k0_dev55_lt c⟩ : Dev nD) = tgt c (44 + 8) := by decide +kernel
private theorem o_45 : ∀ c : Dev nD, k0_off10 c 4294967290#32 96#32 = ![rowOf c (45 + 8), 0] := by decide +kernel
private theorem d_45 : ∀ c : Dev nD, (⟨k0_dev56 c, k0_dev56_lt c⟩ : Dev nD) = tgt c (45 + 8) := by decide +kernel
private theorem o_46 : ∀ c : Dev nD, k0_off10 c 6#32 48#32 = ![rowOf c (46 + 8), 0] := by decide +kernel
private theorem d_46 : ∀ c : Dev nD, (⟨k0_dev57 c, k0_dev57_lt c⟩ : Dev nD) = tgt c (46 + 8) := by decide +kernel
private theorem o_47 : ∀ c : Dev nD, k0_off10 c 4294967290#32 112#32 = ![rowOf c (47 + 8), 0] := by decide +kernel
private theorem d_47 : ∀ c : Dev nD, (⟨k0_dev58 c, k0_dev58_lt c⟩ : Dev nD) = tgt c (47 + 8) := by decide +kernel

theorem run_part2 {P : KProg F} {Q : PUnit → sProp (MT nD τ sig ℕ (Elt F) ℕ UU ℕ)} {R : sProp (MT nD τ sig ℕ (Elt F) ℕ UU ℕ)}
    (hnext : iprop(Recs m ρ K ∗ St m ρ c 48 (insert 4 (insert 5 (insert 3 (insert 6 (insert 2 (insert 7 (insert 1 (∅ : Finset ℕ)))))))) ∗ R) ⊢ WP c P Q) :
    iprop(Recs m ρ K ∗ St m ρ c 16 (insert 6 (insert 2 (insert 7 (insert 1 (∅ : Finset ℕ))))) ∗ R) ⊢ WP c (part2 c P) Q := by
  unfold part2
  refine gemm_step m ρ K c (insert 6 (insert 2 (insert 7 (insert 1 (∅ : Finset ℕ))))) 3 (by decide) (by decide) (by decide) (off_3 c) (pff_3 c) ?_
  refine gemm_step m ρ K c (insert 3 (insert 6 (insert 2 (insert 7 (insert 1 (∅ : Finset ℕ)))))) 5 (by decide) (by decide) (by decide) (off_5 c) (pff_5 c) ?_
  refine add_step m ρ K c (q := 16) (insert 5 (insert 3 (insert 6 (insert 2 (insert 7 (insert 1 (∅ : Finset ℕ))))))) (by decide) (by decide) rfl rfl rfl rfl rfl rfl (o_16 c) rfl rfl (buf_src (by decide) (by decide) rfl) (d_16 c) (slot_recv (by decide) rfl rfl) ?_
  refine add_step m ρ K c (q := 17) (insert 5 (insert 3 (insert 6 (insert 2 (insert 7 (insert 1 (∅ : Finset ℕ))))))) (by decide) (by decide) rfl rfl rfl rfl rfl rfl (o_17 c) rfl rfl (buf_src (by decide) (by decide) rfl) (d_17 c) (slot_recv (by decide) rfl rfl) ?_
  refine add_step m ρ K c (q := 18) (insert 5 (insert 3 (insert 6 (insert 2 (insert 7 (insert 1 (∅ : Finset ℕ))))))) (by decide) (by decide) rfl rfl rfl rfl rfl rfl (o_18 c) rfl rfl (buf_src (by decide) (by decide) rfl) (d_18 c) (slot_recv (by decide) rfl rfl) ?_
  refine add_step m ρ K c (q := 19) (insert 5 (insert 3 (insert 6 (insert 2 (insert 7 (insert 1 (∅ : Finset ℕ))))))) (by decide) (by decide) rfl rfl rfl rfl rfl rfl (o_19 c) rfl rfl (buf_src (by decide) (by decide) rfl) (d_19 c) (slot_recv (by decide) rfl rfl) ?_
  refine add_step m ρ K c (q := 20) (insert 5 (insert 3 (insert 6 (insert 2 (insert 7 (insert 1 (∅ : Finset ℕ))))))) (by decide) (by decide) rfl rfl rfl rfl rfl rfl (o_20 c) rfl rfl (buf_src (by decide) (by decide) rfl) (d_20 c) (slot_recv (by decide) rfl rfl) ?_
  refine add_step m ρ K c (q := 21) (insert 5 (insert 3 (insert 6 (insert 2 (insert 7 (insert 1 (∅ : Finset ℕ))))))) (by decide) (by decide) rfl rfl rfl rfl rfl rfl (o_21 c) rfl rfl (buf_src (by decide) (by decide) rfl) (d_21 c) (slot_recv (by decide) rfl rfl) ?_
  refine add_step m ρ K c (q := 22) (insert 5 (insert 3 (insert 6 (insert 2 (insert 7 (insert 1 (∅ : Finset ℕ))))))) (by decide) (by decide) rfl rfl rfl rfl rfl rfl (o_22 c) rfl rfl (buf_src (by decide) (by decide) rfl) (d_22 c) (slot_recv (by decide) rfl rfl) ?_
  refine add_step m ρ K c (q := 23) (insert 5 (insert 3 (insert 6 (insert 2 (insert 7 (insert 1 (∅ : Finset ℕ))))))) (by decide) (by decide) rfl rfl rfl rfl rfl rfl (o_23 c) rfl rfl (buf_src (by decide) (by decide) rfl) (d_23 c) (slot_recv (by decide) rfl rfl) ?_
  refine gemm_step m ρ K c (insert 5 (insert 3 (insert 6 (insert 2 (insert 7 (insert 1 (∅ : Finset ℕ))))))) 4 (by decide) (by decide) (by decide) (off_4 c) (pff_4 c) ?_
  refine add_step m ρ K c (q := 24) (insert 4 (insert 5 (insert 3 (insert 6 (insert 2 (insert 7 (insert 1 (∅ : Finset ℕ)))))))) (by decide) (by decide) rfl rfl rfl rfl rfl rfl (o_24 c) rfl rfl (buf_src (by decide) (by decide) rfl) (d_24 c) (slot_recv (by decide) rfl rfl) ?_
  refine add_step m ρ K c (q := 25) (insert 4 (insert 5 (insert 3 (insert 6 (insert 2 (insert 7 (insert 1 (∅ : Finset ℕ)))))))) (by decide) (by decide) rfl rfl rfl rfl rfl rfl (o_25 c) rfl rfl (buf_src (by decide) (by decide) rfl) (d_25 c) (slot_recv (by decide) rfl rfl) ?_
  refine add_step m ρ K c (q := 26) (insert 4 (insert 5 (insert 3 (insert 6 (insert 2 (insert 7 (insert 1 (∅ : Finset ℕ)))))))) (by decide) (by decide) rfl rfl rfl rfl rfl rfl (o_26 c) rfl rfl (buf_src (by decide) (by decide) rfl) (d_26 c) (slot_recv (by decide) rfl rfl) ?_
  refine add_step m ρ K c (q := 27) (insert 4 (insert 5 (insert 3 (insert 6 (insert 2 (insert 7 (insert 1 (∅ : Finset ℕ)))))))) (by decide) (by decide) rfl rfl rfl rfl rfl rfl (o_27 c) rfl rfl (buf_src (by decide) (by decide) rfl) (d_27 c) (slot_recv (by decide) rfl rfl) ?_
  refine add_step m ρ K c (q := 28) (insert 4 (insert 5 (insert 3 (insert 6 (insert 2 (insert 7 (insert 1 (∅ : Finset ℕ)))))))) (by decide) (by decide) rfl rfl rfl rfl rfl rfl (o_28 c) rfl rfl (buf_src (by decide) (by decide) rfl) (d_28 c) (slot_recv (by decide) rfl rfl) ?_
  refine add_step m ρ K c (q := 29) (insert 4 (insert 5 (insert 3 (insert 6 (insert 2 (insert 7 (insert 1 (∅ : Finset ℕ)))))))) (by decide) (by decide) rfl rfl rfl rfl rfl rfl (o_29 c) rfl rfl (buf_src (by decide) (by decide) rfl) (d_29 c) (slot_recv (by decide) rfl rfl) ?_
  refine add_step m ρ K c (q := 30) (insert 4 (insert 5 (insert 3 (insert 6 (insert 2 (insert 7 (insert 1 (∅ : Finset ℕ)))))))) (by decide) (by decide) rfl rfl rfl rfl rfl rfl (o_30 c) rfl rfl (buf_src (by decide) (by decide) rfl) (d_30 c) (slot_recv (by decide) rfl rfl) ?_
  refine add_step m ρ K c (q := 31) (insert 4 (insert 5 (insert 3 (insert 6 (insert 2 (insert 7 (insert 1 (∅ : Finset ℕ)))))))) (by decide) (by decide) rfl rfl rfl rfl rfl rfl (o_31 c) rfl rfl (buf_src (by decide) (by decide) rfl) (d_31 c) (slot_recv (by decide) rfl rfl) ?_
  refine add_step m ρ K c (q := 32) (insert 4 (insert 5 (insert 3 (insert 6 (insert 2 (insert 7 (insert 1 (∅ : Finset ℕ)))))))) (by decide) (by decide) rfl rfl rfl rfl rfl rfl (o_32 c) rfl rfl (buf_src (by decide) (by decide) rfl) (d_32 c) (slot_recv (by decide) rfl rfl) ?_
  refine add_step m ρ K c (q := 33) (insert 4 (insert 5 (insert 3 (insert 6 (insert 2 (insert 7 (insert 1 (∅ : Finset ℕ)))))))) (by decide) (by decide) rfl rfl rfl rfl rfl rfl (o_33 c) rfl rfl (buf_src (by decide) (by decide) rfl) (d_33 c) (slot_recv (by decide) rfl rfl) ?_
  refine add_step m ρ K c (q := 34) (insert 4 (insert 5 (insert 3 (insert 6 (insert 2 (insert 7 (insert 1 (∅ : Finset ℕ)))))))) (by decide) (by decide) rfl rfl rfl rfl rfl rfl (o_34 c) rfl rfl (buf_src (by decide) (by decide) rfl) (d_34 c) (slot_recv (by decide) rfl rfl) ?_
  refine add_step m ρ K c (q := 35) (insert 4 (insert 5 (insert 3 (insert 6 (insert 2 (insert 7 (insert 1 (∅ : Finset ℕ)))))))) (by decide) (by decide) rfl rfl rfl rfl rfl rfl (o_35 c) rfl rfl (buf_src (by decide) (by decide) rfl) (d_35 c) (slot_recv (by decide) rfl rfl) ?_
  refine add_step m ρ K c (q := 36) (insert 4 (insert 5 (insert 3 (insert 6 (insert 2 (insert 7 (insert 1 (∅ : Finset ℕ)))))))) (by decide) (by decide) rfl rfl rfl rfl rfl rfl (o_36 c) rfl rfl (buf_src (by decide) (by decide) rfl) (d_36 c) (slot_recv (by decide) rfl rfl) ?_
  refine add_step m ρ K c (q := 37) (insert 4 (insert 5 (insert 3 (insert 6 (insert 2 (insert 7 (insert 1 (∅ : Finset ℕ)))))))) (by decide) (by decide) rfl rfl rfl rfl rfl rfl (o_37 c) rfl rfl (buf_src (by decide) (by decide) rfl) (d_37 c) (slot_recv (by decide) rfl rfl) ?_
  refine add_step m ρ K c (q := 38) (insert 4 (insert 5 (insert 3 (insert 6 (insert 2 (insert 7 (insert 1 (∅ : Finset ℕ)))))))) (by decide) (by decide) rfl rfl rfl rfl rfl rfl (o_38 c) rfl rfl (buf_src (by decide) (by decide) rfl) (d_38 c) (slot_recv (by decide) rfl rfl) ?_
  refine add_step m ρ K c (q := 39) (insert 4 (insert 5 (insert 3 (insert 6 (insert 2 (insert 7 (insert 1 (∅ : Finset ℕ)))))))) (by decide) (by decide) rfl rfl rfl rfl rfl rfl (o_39 c) rfl rfl (buf_src (by decide) (by decide) rfl) (d_39 c) (slot_recv (by decide) rfl rfl) ?_
  refine add_step m ρ K c (q := 40) (insert 4 (insert 5 (insert 3 (insert 6 (insert 2 (insert 7 (insert 1 (∅ : Finset ℕ)))))))) (by decide) (by decide) rfl rfl rfl rfl rfl rfl (o_40 c) rfl rfl (buf_src (by decide) (by decide) rfl) (d_40 c) (slot_recv (by decide) rfl rfl) ?_
  refine add_step m ρ K c (q := 41) (insert 4 (insert 5 (insert 3 (insert 6 (insert 2 (insert 7 (insert 1 (∅ : Finset ℕ)))))))) (by decide) (by decide) rfl rfl rfl rfl rfl rfl (o_41 c) rfl rfl (buf_src (by decide) (by decide) rfl) (d_41 c) (slot_recv (by decide) rfl rfl) ?_
  refine add_step m ρ K c (q := 42) (insert 4 (insert 5 (insert 3 (insert 6 (insert 2 (insert 7 (insert 1 (∅ : Finset ℕ)))))))) (by decide) (by decide) rfl rfl rfl rfl rfl rfl (o_42 c) rfl rfl (buf_src (by decide) (by decide) rfl) (d_42 c) (slot_recv (by decide) rfl rfl) ?_
  refine add_step m ρ K c (q := 43) (insert 4 (insert 5 (insert 3 (insert 6 (insert 2 (insert 7 (insert 1 (∅ : Finset ℕ)))))))) (by decide) (by decide) rfl rfl rfl rfl rfl rfl (o_43 c) rfl rfl (buf_src (by decide) (by decide) rfl) (d_43 c) (slot_recv (by decide) rfl rfl) ?_
  refine add_step m ρ K c (q := 44) (insert 4 (insert 5 (insert 3 (insert 6 (insert 2 (insert 7 (insert 1 (∅ : Finset ℕ)))))))) (by decide) (by decide) rfl rfl rfl rfl rfl rfl (o_44 c) rfl rfl (buf_src (by decide) (by decide) rfl) (d_44 c) (slot_recv (by decide) rfl rfl) ?_
  refine add_step m ρ K c (q := 45) (insert 4 (insert 5 (insert 3 (insert 6 (insert 2 (insert 7 (insert 1 (∅ : Finset ℕ)))))))) (by decide) (by decide) rfl rfl rfl rfl rfl rfl (o_45 c) rfl rfl (buf_src (by decide) (by decide) rfl) (d_45 c) (slot_recv (by decide) rfl rfl) ?_
  refine add_step m ρ K c (q := 46) (insert 4 (insert 5 (insert 3 (insert 6 (insert 2 (insert 7 (insert 1 (∅ : Finset ℕ)))))))) (by decide) (by decide) rfl rfl rfl rfl rfl rfl (o_46 c) rfl rfl (buf_src (by decide) (by decide) rfl) (d_46 c) (slot_recv (by decide) rfl rfl) ?_
  refine add_step m ρ K c (q := 47) (insert 4 (insert 5 (insert 3 (insert 6 (insert 2 (insert 7 (insert 1 (∅ : Finset ℕ)))))))) (by decide) (by decide) rfl rfl rfl rfl rfl rfl (o_47 c) rfl rfl (buf_src (by decide) (by decide) rfl) (d_47 c) (slot_recv (by decide) rfl rfl) ?_
  exact hnext

end Cert.Ring
-- ==== Proof.Run3.lean ====
module

public import proofs.«01_k».proof.Proof.State

/-! # Steps seven to ten, one rule a step -/

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg) (K : Dev nD × Own → ℕ) (c : Dev nD)

private theorem o_48 : ∀ c : Dev nD, k0_off11 c 1#32 0#32 = ![rowOf c (48 + 8), 0] := by decide +kernel
private theorem d_48 : ∀ c : Dev nD, (⟨k0_dev59 c, k0_dev59_lt c⟩ : Dev nD) = tgt c (48 + 8) := by decide +kernel
private theorem s_48 : ∀ c : Dev nD, k0_off12 c 1#32 0#32 = ![rowOf c (48 + 8), 0] := by decide +kernel
private theorem o_49 : ∀ c : Dev nD, k0_off11 c 4294967295#32 64#32 = ![rowOf c (49 + 8), 0] := by decide +kernel
private theorem d_49 : ∀ c : Dev nD, (⟨k0_dev60 c, k0_dev60_lt c⟩ : Dev nD) = tgt c (49 + 8) := by decide +kernel
private theorem s_49 : ∀ c : Dev nD, k0_off12 c 4294967295#32 64#32 = ![rowOf c (49 + 8), 0] := by decide +kernel
private theorem o_50 : ∀ c : Dev nD, k0_off11 c 1#32 16#32 = ![rowOf c (50 + 8), 0] := by decide +kernel
private theorem d_50 : ∀ c : Dev nD, (⟨k0_dev61 c, k0_dev61_lt c⟩ : Dev nD) = tgt c (50 + 8) := by decide +kernel
private theorem s_50 : ∀ c : Dev nD, k0_off12 c 1#32 16#32 = ![rowOf c (50 + 8), 0] := by decide +kernel
private theorem o_51 : ∀ c : Dev nD, k0_off11 c 4294967295#32 80#32 = ![rowOf c (51 + 8), 0] := by decide +kernel
private theorem d_51 : ∀ c : Dev nD, (⟨k0_dev62 c, k0_dev62_lt c⟩ : Dev nD) = tgt c (51 + 8) := by decide +kernel
private theorem s_51 : ∀ c : Dev nD, k0_off12 c 4294967295#32 80#32 = ![rowOf c (51 + 8), 0] := by decide +kernel
private theorem o_52 : ∀ c : Dev nD, k0_off11 c 1#32 32#32 = ![rowOf c (52 + 8), 0] := by decide +kernel
private theorem d_52 : ∀ c : Dev nD, (⟨k0_dev63 c, k0_dev63_lt c⟩ : Dev nD) = tgt c (52 + 8) := by decide +kernel
private theorem s_52 : ∀ c : Dev nD, k0_off12 c 1#32 32#32 = ![rowOf c (52 + 8), 0] := by decide +kernel
private theorem o_53 : ∀ c : Dev nD, k0_off11 c 4294967295#32 96#32 = ![rowOf c (53 + 8), 0] := by decide +kernel
private theorem d_53 : ∀ c : Dev nD, (⟨k0_dev64 c, k0_dev64_lt c⟩ : Dev nD) = tgt c (53 + 8) := by decide +kernel
private theorem s_53 : ∀ c : Dev nD, k0_off12 c 4294967295#32 96#32 = ![rowOf c (53 + 8), 0] := by decide +kernel
private theorem o_54 : ∀ c : Dev nD, k0_off11 c 1#32 48#32 = ![rowOf c (54 + 8), 0] := by decide +kernel
private theorem d_54 : ∀ c : Dev nD, (⟨k0_dev65 c, k0_dev65_lt c⟩ : Dev nD) = tgt c (54 + 8) := by decide +kernel
private theorem s_54 : ∀ c : Dev nD, k0_off12 c 1#32 48#32 = ![rowOf c (54 + 8), 0] := by decide +kernel
private theorem o_55 : ∀ c : Dev nD, k0_off11 c 4294967295#32 112#32 = ![rowOf c (55 + 8), 0] := by decide +kernel
private theorem d_55 : ∀ c : Dev nD, (⟨k0_dev66 c, k0_dev66_lt c⟩ : Dev nD) = tgt c (55 + 8) := by decide +kernel
private theorem s_55 : ∀ c : Dev nD, k0_off12 c 4294967295#32 112#32 = ![rowOf c (55 + 8), 0] := by decide +kernel
private theorem d_56 : ∀ c : Dev nD, (⟨k0_dev67 c, k0_dev67_lt c⟩ : Dev nD) = tgt c (56 + 8) := by decide +kernel
private theorem s_56 : ∀ c : Dev nD, k0_off12 c 0#32 0#32 = ![rowOf c (56 + 8), 0] := by decide +kernel
private theorem d_57 : ∀ c : Dev nD, (⟨k0_dev68 c, k0_dev68_lt c⟩ : Dev nD) = tgt c (57 + 8) := by decide +kernel
private theorem s_57 : ∀ c : Dev nD, k0_off12 c 0#32 64#32 = ![rowOf c (57 + 8), 0] := by decide +kernel
private theorem d_58 : ∀ c : Dev nD, (⟨k0_dev69 c, k0_dev69_lt c⟩ : Dev nD) = tgt c (58 + 8) := by decide +kernel
private theorem s_58 : ∀ c : Dev nD, k0_off12 c 0#32 16#32 = ![rowOf c (58 + 8), 0] := by decide +kernel
private theorem d_59 : ∀ c : Dev nD, (⟨k0_dev70 c, k0_dev70_lt c⟩ : Dev nD) = tgt c (59 + 8) := by decide +kernel
private theorem s_59 : ∀ c : Dev nD, k0_off12 c 0#32 80#32 = ![rowOf c (59 + 8), 0] := by decide +kernel
private theorem d_60 : ∀ c : Dev nD, (⟨k0_dev71 c, k0_dev71_lt c⟩ : Dev nD) = tgt c (60 + 8) := by decide +kernel
private theorem s_60 : ∀ c : Dev nD, k0_off12 c 0#32 32#32 = ![rowOf c (60 + 8), 0] := by decide +kernel
private theorem d_61 : ∀ c : Dev nD, (⟨k0_dev72 c, k0_dev72_lt c⟩ : Dev nD) = tgt c (61 + 8) := by decide +kernel
private theorem s_61 : ∀ c : Dev nD, k0_off12 c 0#32 96#32 = ![rowOf c (61 + 8), 0] := by decide +kernel
private theorem d_62 : ∀ c : Dev nD, (⟨k0_dev73 c, k0_dev73_lt c⟩ : Dev nD) = tgt c (62 + 8) := by decide +kernel
private theorem s_62 : ∀ c : Dev nD, k0_off12 c 0#32 48#32 = ![rowOf c (62 + 8), 0] := by decide +kernel
private theorem d_63 : ∀ c : Dev nD, (⟨k0_dev74 c, k0_dev74_lt c⟩ : Dev nD) = tgt c (63 + 8) := by decide +kernel
private theorem s_63 : ∀ c : Dev nD, k0_off12 c 0#32 112#32 = ![rowOf c (63 + 8), 0] := by decide +kernel
private theorem d_64 : ∀ c : Dev nD, (⟨k0_dev75 c, k0_dev75_lt c⟩ : Dev nD) = tgt c (64 + 8) := by decide +kernel
private theorem s_64 : ∀ c : Dev nD, k0_off12 c 4294967295#32 0#32 = ![rowOf c (64 + 8), 0] := by decide +kernel
private theorem d_65 : ∀ c : Dev nD, (⟨k0_dev76 c, k0_dev76_lt c⟩ : Dev nD) = tgt c (65 + 8) := by decide +kernel
private theorem s_65 : ∀ c : Dev nD, k0_off12 c 1#32 64#32 = ![rowOf c (65 + 8), 0] := by decide +kernel
private theorem d_66 : ∀ c : Dev nD, (⟨k0_dev77 c, k0_dev77_lt c⟩ : Dev nD) = tgt c (66 + 8) := by decide +kernel
private theorem s_66 : ∀ c : Dev nD, k0_off12 c 4294967295#32 16#32 = ![rowOf c (66 + 8), 0] := by decide +kernel
private theorem d_67 : ∀ c : Dev nD, (⟨k0_dev78 c, k0_dev78_lt c⟩ : Dev nD) = tgt c (67 + 8) := by decide +kernel
private theorem s_67 : ∀ c : Dev nD, k0_off12 c 1#32 80#32 = ![rowOf c (67 + 8), 0] := by decide +kernel
private theorem d_68 : ∀ c : Dev nD, (⟨k0_dev79 c, k0_dev79_lt c⟩ : Dev nD) = tgt c (68 + 8) := by decide +kernel
private theorem s_68 : ∀ c : Dev nD, k0_off12 c 4294967295#32 32#32 = ![rowOf c (68 + 8), 0] := by decide +kernel
private theorem d_69 : ∀ c : Dev nD, (⟨k0_dev80 c, k0_dev80_lt c⟩ : Dev nD) = tgt c (69 + 8) := by decide +kernel
private theorem s_69 : ∀ c : Dev nD, k0_off12 c 1#32 96#32 = ![rowOf c (69 + 8), 0] := by decide +kernel
private theorem d_70 : ∀ c : Dev nD, (⟨k0_dev81 c, k0_dev81_lt c⟩ : Dev nD) = tgt c (70 + 8) := by decide +kernel
private theorem s_70 : ∀ c : Dev nD, k0_off12 c 4294967295#32 48#32 = ![rowOf c (70 + 8), 0] := by decide +kernel
private theorem d_71 : ∀ c : Dev nD, (⟨k0_dev82 c, k0_dev82_lt c⟩ : Dev nD) = tgt c (71 + 8) := by decide +kernel
private theorem s_71 : ∀ c : Dev nD, k0_off12 c 1#32 112#32 = ![rowOf c (71 + 8), 0] := by decide +kernel
private theorem d_72 : ∀ c : Dev nD, (⟨k0_dev83 c, k0_dev83_lt c⟩ : Dev nD) = tgt c (72 + 8) := by decide +kernel
private theorem s_72 : ∀ c : Dev nD, k0_off12 c 4294967294#32 0#32 = ![rowOf c (72 + 8), 0] := by decide +kernel
private theorem d_73 : ∀ c : Dev nD, (⟨k0_dev84 c, k0_dev84_lt c⟩ : Dev nD) = tgt c (73 + 8) := by decide +kernel
private theorem s_73 : ∀ c : Dev nD, k0_off12 c 2#32 64#32 = ![rowOf c (73 + 8), 0] := by decide +kernel
private theorem d_74 : ∀ c : Dev nD, (⟨k0_dev85 c, k0_dev85_lt c⟩ : Dev nD) = tgt c (74 + 8) := by decide +kernel
private theorem s_74 : ∀ c : Dev nD, k0_off12 c 4294967294#32 16#32 = ![rowOf c (74 + 8), 0] := by decide +kernel
private theorem d_75 : ∀ c : Dev nD, (⟨k0_dev86 c, k0_dev86_lt c⟩ : Dev nD) = tgt c (75 + 8) := by decide +kernel
private theorem s_75 : ∀ c : Dev nD, k0_off12 c 2#32 80#32 = ![rowOf c (75 + 8), 0] := by decide +kernel
private theorem d_76 : ∀ c : Dev nD, (⟨k0_dev87 c, k0_dev87_lt c⟩ : Dev nD) = tgt c (76 + 8) := by decide +kernel
private theorem s_76 : ∀ c : Dev nD, k0_off12 c 4294967294#32 32#32 = ![rowOf c (76 + 8), 0] := by decide +kernel
private theorem d_77 : ∀ c : Dev nD, (⟨k0_dev88 c, k0_dev88_lt c⟩ : Dev nD) = tgt c (77 + 8) := by decide +kernel
private theorem s_77 : ∀ c : Dev nD, k0_off12 c 2#32 96#32 = ![rowOf c (77 + 8), 0] := by decide +kernel
private theorem d_78 : ∀ c : Dev nD, (⟨k0_dev89 c, k0_dev89_lt c⟩ : Dev nD) = tgt c (78 + 8) := by decide +kernel
private theorem s_78 : ∀ c : Dev nD, k0_off12 c 4294967294#32 48#32 = ![rowOf c (78 + 8), 0] := by decide +kernel
private theorem d_79 : ∀ c : Dev nD, (⟨k0_dev90 c, k0_dev90_lt c⟩ : Dev nD) = tgt c (79 + 8) := by decide +kernel
private theorem s_79 : ∀ c : Dev nD, k0_off12 c 2#32 112#32 = ![rowOf c (79 + 8), 0] := by decide +kernel

theorem run_part3 {P : KProg F} {Q : PUnit → sProp (MT nD τ sig ℕ (Elt F) ℕ UU ℕ)} {R : sProp (MT nD τ sig ℕ (Elt F) ℕ UU ℕ)}
    (hnext : iprop(Recs m ρ K ∗ St m ρ c 80 (insert 4 (insert 5 (insert 3 (insert 6 (insert 2 (insert 7 (insert 1 (∅ : Finset ℕ)))))))) ∗ R) ⊢ WP c P Q) :
    iprop(Recs m ρ K ∗ St m ρ c 48 (insert 4 (insert 5 (insert 3 (insert 6 (insert 2 (insert 7 (insert 1 (∅ : Finset ℕ)))))))) ∗ R) ⊢ WP c (part3 c P) Q := by
  unfold part3
  refine finish_step m ρ K c (q := 48) (insert 4 (insert 5 (insert 3 (insert 6 (insert 2 (insert 7 (insert 1 (∅ : Finset ℕ)))))))) (by decide) (by decide) (by decide) rfl rfl rfl rfl rfl rfl (o_48 c) (o_48 c) rfl rfl (row_src (by decide) (s_48 c)) (d_48 c) (row_recv (by decide) (by decide) (d_48 c) (s_48 c)) ?_
  refine finish_step m ρ K c (q := 49) (insert 4 (insert 5 (insert 3 (insert 6 (insert 2 (insert 7 (insert 1 (∅ : Finset ℕ)))))))) (by decide) (by decide) (by decide) rfl rfl rfl rfl rfl rfl (o_49 c) (o_49 c) rfl rfl (row_src (by decide) (s_49 c)) (d_49 c) (row_recv (by decide) (by decide) (d_49 c) (s_49 c)) ?_
  refine finish_step m ρ K c (q := 50) (insert 4 (insert 5 (insert 3 (insert 6 (insert 2 (insert 7 (insert 1 (∅ : Finset ℕ)))))))) (by decide) (by decide) (by decide) rfl rfl rfl rfl rfl rfl (o_50 c) (o_50 c) rfl rfl (row_src (by decide) (s_50 c)) (d_50 c) (row_recv (by decide) (by decide) (d_50 c) (s_50 c)) ?_
  refine finish_step m ρ K c (q := 51) (insert 4 (insert 5 (insert 3 (insert 6 (insert 2 (insert 7 (insert 1 (∅ : Finset ℕ)))))))) (by decide) (by decide) (by decide) rfl rfl rfl rfl rfl rfl (o_51 c) (o_51 c) rfl rfl (row_src (by decide) (s_51 c)) (d_51 c) (row_recv (by decide) (by decide) (d_51 c) (s_51 c)) ?_
  refine finish_step m ρ K c (q := 52) (insert 4 (insert 5 (insert 3 (insert 6 (insert 2 (insert 7 (insert 1 (∅ : Finset ℕ)))))))) (by decide) (by decide) (by decide) rfl rfl rfl rfl rfl rfl (o_52 c) (o_52 c) rfl rfl (row_src (by decide) (s_52 c)) (d_52 c) (row_recv (by decide) (by decide) (d_52 c) (s_52 c)) ?_
  refine finish_step m ρ K c (q := 53) (insert 4 (insert 5 (insert 3 (insert 6 (insert 2 (insert 7 (insert 1 (∅ : Finset ℕ)))))))) (by decide) (by decide) (by decide) rfl rfl rfl rfl rfl rfl (o_53 c) (o_53 c) rfl rfl (row_src (by decide) (s_53 c)) (d_53 c) (row_recv (by decide) (by decide) (d_53 c) (s_53 c)) ?_
  refine finish_step m ρ K c (q := 54) (insert 4 (insert 5 (insert 3 (insert 6 (insert 2 (insert 7 (insert 1 (∅ : Finset ℕ)))))))) (by decide) (by decide) (by decide) rfl rfl rfl rfl rfl rfl (o_54 c) (o_54 c) rfl rfl (row_src (by decide) (s_54 c)) (d_54 c) (row_recv (by decide) (by decide) (d_54 c) (s_54 c)) ?_
  refine finish_step m ρ K c (q := 55) (insert 4 (insert 5 (insert 3 (insert 6 (insert 2 (insert 7 (insert 1 (∅ : Finset ℕ)))))))) (by decide) (by decide) (by decide) rfl rfl rfl rfl rfl rfl (o_55 c) (o_55 c) rfl rfl (row_src (by decide) (s_55 c)) (d_55 c) (row_recv (by decide) (by decide) (d_55 c) (s_55 c)) ?_
  refine relay_step m ρ K c (q := 56) (insert 4 (insert 5 (insert 3 (insert 6 (insert 2 (insert 7 (insert 1 (∅ : Finset ℕ)))))))) (by decide) (by decide) rfl rfl rfl rfl rfl rfl (row_src (by decide) (s_56 c)) (d_56 c) (row_recv (by decide) (by decide) (d_56 c) (s_56 c)) ?_
  refine relay_step m ρ K c (q := 57) (insert 4 (insert 5 (insert 3 (insert 6 (insert 2 (insert 7 (insert 1 (∅ : Finset ℕ)))))))) (by decide) (by decide) rfl rfl rfl rfl rfl rfl (row_src (by decide) (s_57 c)) (d_57 c) (row_recv (by decide) (by decide) (d_57 c) (s_57 c)) ?_
  refine relay_step m ρ K c (q := 58) (insert 4 (insert 5 (insert 3 (insert 6 (insert 2 (insert 7 (insert 1 (∅ : Finset ℕ)))))))) (by decide) (by decide) rfl rfl rfl rfl rfl rfl (row_src (by decide) (s_58 c)) (d_58 c) (row_recv (by decide) (by decide) (d_58 c) (s_58 c)) ?_
  refine relay_step m ρ K c (q := 59) (insert 4 (insert 5 (insert 3 (insert 6 (insert 2 (insert 7 (insert 1 (∅ : Finset ℕ)))))))) (by decide) (by decide) rfl rfl rfl rfl rfl rfl (row_src (by decide) (s_59 c)) (d_59 c) (row_recv (by decide) (by decide) (d_59 c) (s_59 c)) ?_
  refine relay_step m ρ K c (q := 60) (insert 4 (insert 5 (insert 3 (insert 6 (insert 2 (insert 7 (insert 1 (∅ : Finset ℕ)))))))) (by decide) (by decide) rfl rfl rfl rfl rfl rfl (row_src (by decide) (s_60 c)) (d_60 c) (row_recv (by decide) (by decide) (d_60 c) (s_60 c)) ?_
  refine relay_step m ρ K c (q := 61) (insert 4 (insert 5 (insert 3 (insert 6 (insert 2 (insert 7 (insert 1 (∅ : Finset ℕ)))))))) (by decide) (by decide) rfl rfl rfl rfl rfl rfl (row_src (by decide) (s_61 c)) (d_61 c) (row_recv (by decide) (by decide) (d_61 c) (s_61 c)) ?_
  refine relay_step m ρ K c (q := 62) (insert 4 (insert 5 (insert 3 (insert 6 (insert 2 (insert 7 (insert 1 (∅ : Finset ℕ)))))))) (by decide) (by decide) rfl rfl rfl rfl rfl rfl (row_src (by decide) (s_62 c)) (d_62 c) (row_recv (by decide) (by decide) (d_62 c) (s_62 c)) ?_
  refine relay_step m ρ K c (q := 63) (insert 4 (insert 5 (insert 3 (insert 6 (insert 2 (insert 7 (insert 1 (∅ : Finset ℕ)))))))) (by decide) (by decide) rfl rfl rfl rfl rfl rfl (row_src (by decide) (s_63 c)) (d_63 c) (row_recv (by decide) (by decide) (d_63 c) (s_63 c)) ?_
  refine relay_step m ρ K c (q := 64) (insert 4 (insert 5 (insert 3 (insert 6 (insert 2 (insert 7 (insert 1 (∅ : Finset ℕ)))))))) (by decide) (by decide) rfl rfl rfl rfl rfl rfl (row_src (by decide) (s_64 c)) (d_64 c) (row_recv (by decide) (by decide) (d_64 c) (s_64 c)) ?_
  refine relay_step m ρ K c (q := 65) (insert 4 (insert 5 (insert 3 (insert 6 (insert 2 (insert 7 (insert 1 (∅ : Finset ℕ)))))))) (by decide) (by decide) rfl rfl rfl rfl rfl rfl (row_src (by decide) (s_65 c)) (d_65 c) (row_recv (by decide) (by decide) (d_65 c) (s_65 c)) ?_
  refine relay_step m ρ K c (q := 66) (insert 4 (insert 5 (insert 3 (insert 6 (insert 2 (insert 7 (insert 1 (∅ : Finset ℕ)))))))) (by decide) (by decide) rfl rfl rfl rfl rfl rfl (row_src (by decide) (s_66 c)) (d_66 c) (row_recv (by decide) (by decide) (d_66 c) (s_66 c)) ?_
  refine relay_step m ρ K c (q := 67) (insert 4 (insert 5 (insert 3 (insert 6 (insert 2 (insert 7 (insert 1 (∅ : Finset ℕ)))))))) (by decide) (by decide) rfl rfl rfl rfl rfl rfl (row_src (by decide) (s_67 c)) (d_67 c) (row_recv (by decide) (by decide) (d_67 c) (s_67 c)) ?_
  refine relay_step m ρ K c (q := 68) (insert 4 (insert 5 (insert 3 (insert 6 (insert 2 (insert 7 (insert 1 (∅ : Finset ℕ)))))))) (by decide) (by decide) rfl rfl rfl rfl rfl rfl (row_src (by decide) (s_68 c)) (d_68 c) (row_recv (by decide) (by decide) (d_68 c) (s_68 c)) ?_
  refine relay_step m ρ K c (q := 69) (insert 4 (insert 5 (insert 3 (insert 6 (insert 2 (insert 7 (insert 1 (∅ : Finset ℕ)))))))) (by decide) (by decide) rfl rfl rfl rfl rfl rfl (row_src (by decide) (s_69 c)) (d_69 c) (row_recv (by decide) (by decide) (d_69 c) (s_69 c)) ?_
  refine relay_step m ρ K c (q := 70) (insert 4 (insert 5 (insert 3 (insert 6 (insert 2 (insert 7 (insert 1 (∅ : Finset ℕ)))))))) (by decide) (by decide) rfl rfl rfl rfl rfl rfl (row_src (by decide) (s_70 c)) (d_70 c) (row_recv (by decide) (by decide) (d_70 c) (s_70 c)) ?_
  refine relay_step m ρ K c (q := 71) (insert 4 (insert 5 (insert 3 (insert 6 (insert 2 (insert 7 (insert 1 (∅ : Finset ℕ)))))))) (by decide) (by decide) rfl rfl rfl rfl rfl rfl (row_src (by decide) (s_71 c)) (d_71 c) (row_recv (by decide) (by decide) (d_71 c) (s_71 c)) ?_
  refine relay_step m ρ K c (q := 72) (insert 4 (insert 5 (insert 3 (insert 6 (insert 2 (insert 7 (insert 1 (∅ : Finset ℕ)))))))) (by decide) (by decide) rfl rfl rfl rfl rfl rfl (row_src (by decide) (s_72 c)) (d_72 c) (row_recv (by decide) (by decide) (d_72 c) (s_72 c)) ?_
  refine relay_step m ρ K c (q := 73) (insert 4 (insert 5 (insert 3 (insert 6 (insert 2 (insert 7 (insert 1 (∅ : Finset ℕ)))))))) (by decide) (by decide) rfl rfl rfl rfl rfl rfl (row_src (by decide) (s_73 c)) (d_73 c) (row_recv (by decide) (by decide) (d_73 c) (s_73 c)) ?_
  refine relay_step m ρ K c (q := 74) (insert 4 (insert 5 (insert 3 (insert 6 (insert 2 (insert 7 (insert 1 (∅ : Finset ℕ)))))))) (by decide) (by decide) rfl rfl rfl rfl rfl rfl (row_src (by decide) (s_74 c)) (d_74 c) (row_recv (by decide) (by decide) (d_74 c) (s_74 c)) ?_
  refine relay_step m ρ K c (q := 75) (insert 4 (insert 5 (insert 3 (insert 6 (insert 2 (insert 7 (insert 1 (∅ : Finset ℕ)))))))) (by decide) (by decide) rfl rfl rfl rfl rfl rfl (row_src (by decide) (s_75 c)) (d_75 c) (row_recv (by decide) (by decide) (d_75 c) (s_75 c)) ?_
  refine relay_step m ρ K c (q := 76) (insert 4 (insert 5 (insert 3 (insert 6 (insert 2 (insert 7 (insert 1 (∅ : Finset ℕ)))))))) (by decide) (by decide) rfl rfl rfl rfl rfl rfl (row_src (by decide) (s_76 c)) (d_76 c) (row_recv (by decide) (by decide) (d_76 c) (s_76 c)) ?_
  refine relay_step m ρ K c (q := 77) (insert 4 (insert 5 (insert 3 (insert 6 (insert 2 (insert 7 (insert 1 (∅ : Finset ℕ)))))))) (by decide) (by decide) rfl rfl rfl rfl rfl rfl (row_src (by decide) (s_77 c)) (d_77 c) (row_recv (by decide) (by decide) (d_77 c) (s_77 c)) ?_
  refine relay_step m ρ K c (q := 78) (insert 4 (insert 5 (insert 3 (insert 6 (insert 2 (insert 7 (insert 1 (∅ : Finset ℕ)))))))) (by decide) (by decide) rfl rfl rfl rfl rfl rfl (row_src (by decide) (s_78 c)) (d_78 c) (row_recv (by decide) (by decide) (d_78 c) (s_78 c)) ?_
  refine relay_step m ρ K c (q := 79) (insert 4 (insert 5 (insert 3 (insert 6 (insert 2 (insert 7 (insert 1 (∅ : Finset ℕ)))))))) (by decide) (by decide) rfl rfl rfl rfl rfl rfl (row_src (by decide) (s_79 c)) (d_79 c) (row_recv (by decide) (by decide) (d_79 c) (s_79 c)) ?_
  exact hnext

end Cert.Ring
-- ==== Proof.Run4.lean ====
module

public import proofs.«01_k».proof.Proof.State

/-! # The last steps and the last waits, one rule a step -/

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg) (K : Dev nD × Own → ℕ) (c : Dev nD)

private theorem d_80 : ∀ c : Dev nD, (⟨k0_dev91 c, k0_dev91_lt c⟩ : Dev nD) = tgt c (80 + 8) := by decide +kernel
private theorem s_80 : ∀ c : Dev nD, k0_off12 c 4294967293#32 0#32 = ![rowOf c (80 + 8), 0] := by decide +kernel
private theorem d_81 : ∀ c : Dev nD, (⟨k0_dev92 c, k0_dev92_lt c⟩ : Dev nD) = tgt c (81 + 8) := by decide +kernel
private theorem s_81 : ∀ c : Dev nD, k0_off12 c 3#32 64#32 = ![rowOf c (81 + 8), 0] := by decide +kernel
private theorem d_82 : ∀ c : Dev nD, (⟨k0_dev93 c, k0_dev93_lt c⟩ : Dev nD) = tgt c (82 + 8) := by decide +kernel
private theorem s_82 : ∀ c : Dev nD, k0_off12 c 4294967293#32 16#32 = ![rowOf c (82 + 8), 0] := by decide +kernel
private theorem d_83 : ∀ c : Dev nD, (⟨k0_dev94 c, k0_dev94_lt c⟩ : Dev nD) = tgt c (83 + 8) := by decide +kernel
private theorem s_83 : ∀ c : Dev nD, k0_off12 c 3#32 80#32 = ![rowOf c (83 + 8), 0] := by decide +kernel
private theorem d_84 : ∀ c : Dev nD, (⟨k0_dev95 c, k0_dev95_lt c⟩ : Dev nD) = tgt c (84 + 8) := by decide +kernel
private theorem s_84 : ∀ c : Dev nD, k0_off12 c 4294967293#32 32#32 = ![rowOf c (84 + 8), 0] := by decide +kernel
private theorem d_85 : ∀ c : Dev nD, (⟨k0_dev96 c, k0_dev96_lt c⟩ : Dev nD) = tgt c (85 + 8) := by decide +kernel
private theorem s_85 : ∀ c : Dev nD, k0_off12 c 3#32 96#32 = ![rowOf c (85 + 8), 0] := by decide +kernel
private theorem d_86 : ∀ c : Dev nD, (⟨k0_dev97 c, k0_dev97_lt c⟩ : Dev nD) = tgt c (86 + 8) := by decide +kernel
private theorem s_86 : ∀ c : Dev nD, k0_off12 c 4294967293#32 48#32 = ![rowOf c (86 + 8), 0] := by decide +kernel
private theorem d_87 : ∀ c : Dev nD, (⟨k0_dev98 c, k0_dev98_lt c⟩ : Dev nD) = tgt c (87 + 8) := by decide +kernel
private theorem s_87 : ∀ c : Dev nD, k0_off12 c 3#32 112#32 = ![rowOf c (87 + 8), 0] := by decide +kernel
private theorem d_88 : ∀ c : Dev nD, (⟨k0_dev99 c, k0_dev99_lt c⟩ : Dev nD) = tgt c (88 + 8) := by decide +kernel
private theorem s_88 : ∀ c : Dev nD, k0_off12 c 4294967292#32 0#32 = ![rowOf c (88 + 8), 0] := by decide +kernel
private theorem d_89 : ∀ c : Dev nD, (⟨k0_dev100 c, k0_dev100_lt c⟩ : Dev nD) = tgt c (89 + 8) := by decide +kernel
private theorem s_89 : ∀ c : Dev nD, k0_off12 c 4#32 64#32 = ![rowOf c (89 + 8), 0] := by decide +kernel
private theorem d_90 : ∀ c : Dev nD, (⟨k0_dev101 c, k0_dev101_lt c⟩ : Dev nD) = tgt c (90 + 8) := by decide +kernel
private theorem s_90 : ∀ c : Dev nD, k0_off12 c 4294967292#32 16#32 = ![rowOf c (90 + 8), 0] := by decide +kernel
private theorem d_91 : ∀ c : Dev nD, (⟨k0_dev102 c, k0_dev102_lt c⟩ : Dev nD) = tgt c (91 + 8) := by decide +kernel
private theorem s_91 : ∀ c : Dev nD, k0_off12 c 4#32 80#32 = ![rowOf c (91 + 8), 0] := by decide +kernel
private theorem d_92 : ∀ c : Dev nD, (⟨k0_dev103 c, k0_dev103_lt c⟩ : Dev nD) = tgt c (92 + 8) := by decide +kernel
private theorem s_92 : ∀ c : Dev nD, k0_off12 c 4294967292#32 32#32 = ![rowOf c (92 + 8), 0] := by decide +kernel
private theorem d_93 : ∀ c : Dev nD, (⟨k0_dev104 c, k0_dev104_lt c⟩ : Dev nD) = tgt c (93 + 8) := by decide +kernel
private theorem s_93 : ∀ c : Dev nD, k0_off12 c 4#32 96#32 = ![rowOf c (93 + 8), 0] := by decide +kernel
private theorem d_94 : ∀ c : Dev nD, (⟨k0_dev105 c, k0_dev105_lt c⟩ : Dev nD) = tgt c (94 + 8) := by decide +kernel
private theorem s_94 : ∀ c : Dev nD, k0_off12 c 4294967292#32 48#32 = ![rowOf c (94 + 8), 0] := by decide +kernel
private theorem d_95 : ∀ c : Dev nD, (⟨k0_dev106 c, k0_dev106_lt c⟩ : Dev nD) = tgt c (95 + 8) := by decide +kernel
private theorem s_95 : ∀ c : Dev nD, k0_off12 c 4#32 112#32 = ![rowOf c (95 + 8), 0] := by decide +kernel
private theorem d_96 : ∀ c : Dev nD, (⟨k0_dev107 c, k0_dev107_lt c⟩ : Dev nD) = tgt c (96 + 8) := by decide +kernel
private theorem s_96 : ∀ c : Dev nD, k0_off12 c 4294967291#32 0#32 = ![rowOf c (96 + 8), 0] := by decide +kernel
private theorem d_97 : ∀ c : Dev nD, (⟨k0_dev108 c, k0_dev108_lt c⟩ : Dev nD) = tgt c (97 + 8) := by decide +kernel
private theorem s_97 : ∀ c : Dev nD, k0_off12 c 5#32 64#32 = ![rowOf c (97 + 8), 0] := by decide +kernel
private theorem d_98 : ∀ c : Dev nD, (⟨k0_dev109 c, k0_dev109_lt c⟩ : Dev nD) = tgt c (98 + 8) := by decide +kernel
private theorem s_98 : ∀ c : Dev nD, k0_off12 c 4294967291#32 16#32 = ![rowOf c (98 + 8), 0] := by decide +kernel
private theorem d_99 : ∀ c : Dev nD, (⟨k0_dev110 c, k0_dev110_lt c⟩ : Dev nD) = tgt c (99 + 8) := by decide +kernel
private theorem s_99 : ∀ c : Dev nD, k0_off12 c 5#32 80#32 = ![rowOf c (99 + 8), 0] := by decide +kernel
private theorem d_100 : ∀ c : Dev nD, (⟨k0_dev111 c, k0_dev111_lt c⟩ : Dev nD) = tgt c (100 + 8) := by decide +kernel
private theorem s_100 : ∀ c : Dev nD, k0_off12 c 4294967291#32 32#32 = ![rowOf c (100 + 8), 0] := by decide +kernel
private theorem d_101 : ∀ c : Dev nD, (⟨k0_dev112 c, k0_dev112_lt c⟩ : Dev nD) = tgt c (101 + 8) := by decide +kernel
private theorem s_101 : ∀ c : Dev nD, k0_off12 c 5#32 96#32 = ![rowOf c (101 + 8), 0] := by decide +kernel
private theorem d_102 : ∀ c : Dev nD, (⟨k0_dev113 c, k0_dev113_lt c⟩ : Dev nD) = tgt c (102 + 8) := by decide +kernel
private theorem s_102 : ∀ c : Dev nD, k0_off12 c 4294967291#32 48#32 = ![rowOf c (102 + 8), 0] := by decide +kernel
private theorem d_103 : ∀ c : Dev nD, (⟨k0_dev114 c, k0_dev114_lt c⟩ : Dev nD) = tgt c (103 + 8) := by decide +kernel
private theorem s_103 : ∀ c : Dev nD, k0_off12 c 5#32 112#32 = ![rowOf c (103 + 8), 0] := by decide +kernel

theorem run_part4 {P : KProg F} {Q : PUnit → sProp (MT nD τ sig ℕ (Elt F) ℕ UU ℕ)} {R : sProp (MT nD τ sig ℕ (Elt F) ℕ UU ℕ)}
    (hnext : iprop(Recs m ρ K ∗ St m ρ c 112 (insert 4 (insert 5 (insert 3 (insert 6 (insert 2 (insert 7 (insert 1 (∅ : Finset ℕ)))))))) ∗ R) ⊢ WP c P Q) :
    iprop(Recs m ρ K ∗ St m ρ c 80 (insert 4 (insert 5 (insert 3 (insert 6 (insert 2 (insert 7 (insert 1 (∅ : Finset ℕ)))))))) ∗ R) ⊢ WP c (part4 c P) Q := by
  unfold part4
  refine relay_step m ρ K c (q := 80) (insert 4 (insert 5 (insert 3 (insert 6 (insert 2 (insert 7 (insert 1 (∅ : Finset ℕ)))))))) (by decide) (by decide) rfl rfl rfl rfl rfl rfl (row_src (by decide) (s_80 c)) (d_80 c) (row_recv (by decide) (by decide) (d_80 c) (s_80 c)) ?_
  refine relay_step m ρ K c (q := 81) (insert 4 (insert 5 (insert 3 (insert 6 (insert 2 (insert 7 (insert 1 (∅ : Finset ℕ)))))))) (by decide) (by decide) rfl rfl rfl rfl rfl rfl (row_src (by decide) (s_81 c)) (d_81 c) (row_recv (by decide) (by decide) (d_81 c) (s_81 c)) ?_
  refine relay_step m ρ K c (q := 82) (insert 4 (insert 5 (insert 3 (insert 6 (insert 2 (insert 7 (insert 1 (∅ : Finset ℕ)))))))) (by decide) (by decide) rfl rfl rfl rfl rfl rfl (row_src (by decide) (s_82 c)) (d_82 c) (row_recv (by decide) (by decide) (d_82 c) (s_82 c)) ?_
  refine relay_step m ρ K c (q := 83) (insert 4 (insert 5 (insert 3 (insert 6 (insert 2 (insert 7 (insert 1 (∅ : Finset ℕ)))))))) (by decide) (by decide) rfl rfl rfl rfl rfl rfl (row_src (by decide) (s_83 c)) (d_83 c) (row_recv (by decide) (by decide) (d_83 c) (s_83 c)) ?_
  refine relay_step m ρ K c (q := 84) (insert 4 (insert 5 (insert 3 (insert 6 (insert 2 (insert 7 (insert 1 (∅ : Finset ℕ)))))))) (by decide) (by decide) rfl rfl rfl rfl rfl rfl (row_src (by decide) (s_84 c)) (d_84 c) (row_recv (by decide) (by decide) (d_84 c) (s_84 c)) ?_
  refine relay_step m ρ K c (q := 85) (insert 4 (insert 5 (insert 3 (insert 6 (insert 2 (insert 7 (insert 1 (∅ : Finset ℕ)))))))) (by decide) (by decide) rfl rfl rfl rfl rfl rfl (row_src (by decide) (s_85 c)) (d_85 c) (row_recv (by decide) (by decide) (d_85 c) (s_85 c)) ?_
  refine relay_step m ρ K c (q := 86) (insert 4 (insert 5 (insert 3 (insert 6 (insert 2 (insert 7 (insert 1 (∅ : Finset ℕ)))))))) (by decide) (by decide) rfl rfl rfl rfl rfl rfl (row_src (by decide) (s_86 c)) (d_86 c) (row_recv (by decide) (by decide) (d_86 c) (s_86 c)) ?_
  refine relay_step m ρ K c (q := 87) (insert 4 (insert 5 (insert 3 (insert 6 (insert 2 (insert 7 (insert 1 (∅ : Finset ℕ)))))))) (by decide) (by decide) rfl rfl rfl rfl rfl rfl (row_src (by decide) (s_87 c)) (d_87 c) (row_recv (by decide) (by decide) (d_87 c) (s_87 c)) ?_
  refine relay_step m ρ K c (q := 88) (insert 4 (insert 5 (insert 3 (insert 6 (insert 2 (insert 7 (insert 1 (∅ : Finset ℕ)))))))) (by decide) (by decide) rfl rfl rfl rfl rfl rfl (row_src (by decide) (s_88 c)) (d_88 c) (row_recv (by decide) (by decide) (d_88 c) (s_88 c)) ?_
  refine relay_step m ρ K c (q := 89) (insert 4 (insert 5 (insert 3 (insert 6 (insert 2 (insert 7 (insert 1 (∅ : Finset ℕ)))))))) (by decide) (by decide) rfl rfl rfl rfl rfl rfl (row_src (by decide) (s_89 c)) (d_89 c) (row_recv (by decide) (by decide) (d_89 c) (s_89 c)) ?_
  refine relay_step m ρ K c (q := 90) (insert 4 (insert 5 (insert 3 (insert 6 (insert 2 (insert 7 (insert 1 (∅ : Finset ℕ)))))))) (by decide) (by decide) rfl rfl rfl rfl rfl rfl (row_src (by decide) (s_90 c)) (d_90 c) (row_recv (by decide) (by decide) (d_90 c) (s_90 c)) ?_
  refine relay_step m ρ K c (q := 91) (insert 4 (insert 5 (insert 3 (insert 6 (insert 2 (insert 7 (insert 1 (∅ : Finset ℕ)))))))) (by decide) (by decide) rfl rfl rfl rfl rfl rfl (row_src (by decide) (s_91 c)) (d_91 c) (row_recv (by decide) (by decide) (d_91 c) (s_91 c)) ?_
  refine relay_step m ρ K c (q := 92) (insert 4 (insert 5 (insert 3 (insert 6 (insert 2 (insert 7 (insert 1 (∅ : Finset ℕ)))))))) (by decide) (by decide) rfl rfl rfl rfl rfl rfl (row_src (by decide) (s_92 c)) (d_92 c) (row_recv (by decide) (by decide) (d_92 c) (s_92 c)) ?_
  refine relay_step m ρ K c (q := 93) (insert 4 (insert 5 (insert 3 (insert 6 (insert 2 (insert 7 (insert 1 (∅ : Finset ℕ)))))))) (by decide) (by decide) rfl rfl rfl rfl rfl rfl (row_src (by decide) (s_93 c)) (d_93 c) (row_recv (by decide) (by decide) (d_93 c) (s_93 c)) ?_
  refine relay_step m ρ K c (q := 94) (insert 4 (insert 5 (insert 3 (insert 6 (insert 2 (insert 7 (insert 1 (∅ : Finset ℕ)))))))) (by decide) (by decide) rfl rfl rfl rfl rfl rfl (row_src (by decide) (s_94 c)) (d_94 c) (row_recv (by decide) (by decide) (d_94 c) (s_94 c)) ?_
  refine relay_step m ρ K c (q := 95) (insert 4 (insert 5 (insert 3 (insert 6 (insert 2 (insert 7 (insert 1 (∅ : Finset ℕ)))))))) (by decide) (by decide) rfl rfl rfl rfl rfl rfl (row_src (by decide) (s_95 c)) (d_95 c) (row_recv (by decide) (by decide) (d_95 c) (s_95 c)) ?_
  refine relay_step m ρ K c (q := 96) (insert 4 (insert 5 (insert 3 (insert 6 (insert 2 (insert 7 (insert 1 (∅ : Finset ℕ)))))))) (by decide) (by decide) rfl rfl rfl rfl rfl rfl (row_src (by decide) (s_96 c)) (d_96 c) (row_recv (by decide) (by decide) (d_96 c) (s_96 c)) ?_
  refine relay_step m ρ K c (q := 97) (insert 4 (insert 5 (insert 3 (insert 6 (insert 2 (insert 7 (insert 1 (∅ : Finset ℕ)))))))) (by decide) (by decide) rfl rfl rfl rfl rfl rfl (row_src (by decide) (s_97 c)) (d_97 c) (row_recv (by decide) (by decide) (d_97 c) (s_97 c)) ?_
  refine relay_step m ρ K c (q := 98) (insert 4 (insert 5 (insert 3 (insert 6 (insert 2 (insert 7 (insert 1 (∅ : Finset ℕ)))))))) (by decide) (by decide) rfl rfl rfl rfl rfl rfl (row_src (by decide) (s_98 c)) (d_98 c) (row_recv (by decide) (by decide) (d_98 c) (s_98 c)) ?_
  refine relay_step m ρ K c (q := 99) (insert 4 (insert 5 (insert 3 (insert 6 (insert 2 (insert 7 (insert 1 (∅ : Finset ℕ)))))))) (by decide) (by decide) rfl rfl rfl rfl rfl rfl (row_src (by decide) (s_99 c)) (d_99 c) (row_recv (by decide) (by decide) (d_99 c) (s_99 c)) ?_
  refine relay_step m ρ K c (q := 100) (insert 4 (insert 5 (insert 3 (insert 6 (insert 2 (insert 7 (insert 1 (∅ : Finset ℕ)))))))) (by decide) (by decide) rfl rfl rfl rfl rfl rfl (row_src (by decide) (s_100 c)) (d_100 c) (row_recv (by decide) (by decide) (d_100 c) (s_100 c)) ?_
  refine relay_step m ρ K c (q := 101) (insert 4 (insert 5 (insert 3 (insert 6 (insert 2 (insert 7 (insert 1 (∅ : Finset ℕ)))))))) (by decide) (by decide) rfl rfl rfl rfl rfl rfl (row_src (by decide) (s_101 c)) (d_101 c) (row_recv (by decide) (by decide) (d_101 c) (s_101 c)) ?_
  refine relay_step m ρ K c (q := 102) (insert 4 (insert 5 (insert 3 (insert 6 (insert 2 (insert 7 (insert 1 (∅ : Finset ℕ)))))))) (by decide) (by decide) rfl rfl rfl rfl rfl rfl (row_src (by decide) (s_102 c)) (d_102 c) (row_recv (by decide) (by decide) (d_102 c) (s_102 c)) ?_
  refine relay_step m ρ K c (q := 103) (insert 4 (insert 5 (insert 3 (insert 6 (insert 2 (insert 7 (insert 1 (∅ : Finset ℕ)))))))) (by decide) (by decide) rfl rfl rfl rfl rfl rfl (row_src (by decide) (s_103 c)) (d_103 c) (row_recv (by decide) (by decide) (d_103 c) (s_103 c)) ?_
  refine last_step m ρ K c (q := 104) (insert 4 (insert 5 (insert 3 (insert 6 (insert 2 (insert 7 (insert 1 (∅ : Finset ℕ)))))))) (by decide) (by decide) rfl rfl rfl rfl ?_
  refine last_step m ρ K c (q := 105) (insert 4 (insert 5 (insert 3 (insert 6 (insert 2 (insert 7 (insert 1 (∅ : Finset ℕ)))))))) (by decide) (by decide) rfl rfl rfl rfl ?_
  refine last_step m ρ K c (q := 106) (insert 4 (insert 5 (insert 3 (insert 6 (insert 2 (insert 7 (insert 1 (∅ : Finset ℕ)))))))) (by decide) (by decide) rfl rfl rfl rfl ?_
  refine last_step m ρ K c (q := 107) (insert 4 (insert 5 (insert 3 (insert 6 (insert 2 (insert 7 (insert 1 (∅ : Finset ℕ)))))))) (by decide) (by decide) rfl rfl rfl rfl ?_
  refine last_step m ρ K c (q := 108) (insert 4 (insert 5 (insert 3 (insert 6 (insert 2 (insert 7 (insert 1 (∅ : Finset ℕ)))))))) (by decide) (by decide) rfl rfl rfl rfl ?_
  refine last_step m ρ K c (q := 109) (insert 4 (insert 5 (insert 3 (insert 6 (insert 2 (insert 7 (insert 1 (∅ : Finset ℕ)))))))) (by decide) (by decide) rfl rfl rfl rfl ?_
  refine last_step m ρ K c (q := 110) (insert 4 (insert 5 (insert 3 (insert 6 (insert 2 (insert 7 (insert 1 (∅ : Finset ℕ)))))))) (by decide) (by decide) rfl rfl rfl rfl ?_
  refine last_step m ρ K c (q := 111) (insert 4 (insert 5 (insert 3 (insert 6 (insert 2 (insert 7 (insert 1 (∅ : Finset ℕ)))))))) (by decide) (by decide) rfl rfl rfl rfl ?_
  exact hnext

end Cert.Ring
-- ==== Proof.Body.lean ====
module

public import proofs.«01_k».proof.Proof.Ends
public import proofs.«01_k».proof.Proof.Run1
public import proofs.«01_k».proof.Proof.Run2
public import proofs.«01_k».proof.Proof.Run3
public import proofs.«01_k».proof.Proof.Run4

/-! # The whole body of one device -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (K : Dev nD × Own → ℕ) (c : Dev nD)

/-- Both semaphores of a message's place, at zero. -/
def Zero (n : ℕ) : sProp 𝕄 := iprop(semVal (sendCell c n) 0 ∗ semVal (recvCell c n) 0)

/-- A place's semaphores close once its messages are through. -/
theorem close_place {n : ℕ} (h : 112 ≤ n) : iprop(Recs m ρ K ∗ AtP (F := F) c n) ⊢ |={Set.univ}=> Zero (F := F) c n := by
  unfold AtP Zero
  iintro ⟨#HR, ⟨HS, HV⟩, -⟩
  imod (Rounds.cell_close ER (Rd m ρ) (Set.mem_univ (K (c, sendIx n))) (fun h => h) (R := rd n) (fun r hr => duties_send_late m ρ c h hr)) $$ [HS] with HzS
  · isplitr; · iapply (Recs_cell m ρ K (c, sendIx n)); iexact HR
    iexact HS
  imod (Rounds.cell_close ER (Rd m ρ) (Set.mem_univ (K (c, recvIx n))) (fun h => h) (R := rd n) (fun r hr => duties_recv_late m ρ c h hr)) $$ [HV] with HzV
  · isplitr; · iapply (Recs_cell m ρ K (c, recvIx n)); iexact HR
    iexact HV
  imodintro
  isplitl [HzS] <;> iassumption

theorem close_all : iprop(Recs m ρ K ∗ bigSep (Finset.Ico 112 136) fun n => AtP (F := F) c n)
    ⊢ |={Set.univ}=> bigSep (Finset.Ico 112 136) fun n => Zero (F := F) c n :=
  (bigSep_with_persistent (Ψ := fun n => iprop(|={Set.univ}=> Zero (F := F) c n)) fun n hn => close_place m ρ K c (Finset.mem_Ico.mp hn).1).trans (bigSep_fupd _ _)

/-- What a device is left with. -/
def Left : sProp 𝕄 :=
  iprop(((bigSep (Finset.Ico 112 136) fun n => Zero (F := F) c n) ∗ semVal (barCell c) 0) ∗ Owes (F := F) c 0 ∗ (Xp m ρ c ∗ Wp m ρ c)
    ∗ (oM.view.loc (c : Thread nD τ) ↦[Finset.univ]{fullShare} OutF m ρ c)
    ∗ (∃ f : Vec F S1024x1024 .f32, pM.view.loc (c : Thread nD τ) ↦[Finset.univ]{fullShare} f)
    ∗ (∃ f : Vec F S8x16x1024 .f32, bM.view.loc (c : Thread nD τ) ↦[Finset.univ]{fullShare} f)
    ∗ (∃ f : Vec F S8x3x16x1024 .f32, sM.view.loc (c : Thread nD τ) ↦[Finset.univ]{fullShare} f))

theorem leave {q : ℕ} (hq : q = 112) {D : Finset ℕ} (hD : D = Dfull) : iprop(Recs m ρ K ∗ St m ρ c q D ∗ atPos ER (barCell c) 1 ∅ 0) ⊢ |={Set.univ}=> Left m ρ c := by
  subst hq hD
  unfold St Toks Left
  iintro ⟨#HR, ⟨⟨-, -, -, -, HA, HO⟩, HXW, HC, -, H2, -, H4, H5, H6⟩, HB⟩
  imod (Rounds.cell_close ER (Rd m ρ) (Set.mem_univ (K (c, none))) (fun h => h) (R := 1) (fun r hr => duties_bar_late m ρ c hr)) $$ [HB] with HzB
  · isplitr; · iapply (Recs_cell m ρ K (c, none)); iexact HR
    iexact HB
  imod (close_all m ρ K c) $$ [HA] with HZ
  · isplitr; · iexact HR
    iexact HA
  imodintro
  isplitl [HZ HzB]; · isplitl [HZ] <;> iassumption
  isplitl [HO]
  · ihave HO := (Entails.of_eq (show Owes (F := F) c (Owed c (Finset.Ico (112 + 8) 112)) = Owes (F := F) c 0 from by
      rw [show Finset.Ico (112 + 8) 112 = ∅ by decide]; rfl)) $$ HO
    iexact HO
  isplitl [HXW]; · iexact HXW
  isplitl [H4]; · iapply (end_out m ρ c); iexact H4
  isplitl [H6 HC]
  · iapply (end_part m ρ c); isplitl [H6] <;> iassumption
  isplitl [H5]; · iapply (end_bufs c (anyElt m ρ c)); iexact H5
  iapply (end_slots c (anyElt m ρ c)); iexact H2

/-- What a device's body starts from. -/
def Given : sProp 𝕄 :=
  iprop(Lin (F := F) c ∗ Owes (F := F) c (O₀ c) ∗ (Xp m ρ c ∗ Wp m ρ c)
    ∗ (∃ f : Vec F S1024x1024 .f32, oM.view.loc (c : Thread nD τ) ↦[Finset.univ]{fullShare} f)
    ∗ (∃ f : Vec F S1024x1024 .f32, pM.view.loc (c : Thread nD τ) ↦[Finset.univ]{fullShare} f)
    ∗ (∃ f : Vec F S8x16x1024 .f32, bM.view.loc (c : Thread nD τ) ↦[Finset.univ]{fullShare} f)
    ∗ (∃ f : Vec F S8x3x16x1024 .f32, sM.view.loc (c : Thread nD τ) ↦[Finset.univ]{fullShare} f))

theorem run_tail : iprop(Recs m ρ K ∗ St m ρ c 0 ∅ ∗ (emp ∗ atPos ER (barCell c) 1 ∅ 0))
    ⊢ WP c (part1 c <| part2 c <| part3 c <| part4 c <| .ret ⟨⟩) (fun _ => Left m ρ c) := by
  refine run_part1 m ρ K c (run_part2 m ρ K c (run_part3 m ρ K c (run_part4 m ρ K c ?_)))
  unfold WP
  rw [wp_ret]
  refine (BIBase.Entails.trans ?_ (leave m ρ K c rfl rfl))
  iintro ⟨HR, HS, -, HB⟩
  isplitl [HR]; · iexact HR
  isplitl [HS] <;> iassumption

set_option maxRecDepth 65536 in
theorem sound_body : iprop(Recs m ρ K ∗ Given m ρ c) ⊢ WP c (chain (F := F)) (fun _ => Left m ρ c) := by
  unfold chain WP
  rw [wp_deviceId]
  have h := run_start m ρ K c (R := iprop(emp)) (run_tail m ρ K c)
  refine BIBase.Entails.trans ?_ h
  unfold Given
  iintro ⟨HR, HL, HO, HXW, ⟨%fo, Ho⟩, ⟨%fp, Hp⟩, ⟨%fb, Hb⟩, ⟨%fs, Hs⟩⟩
  isplitl [HR]; · iexact HR
  isplitr []
  · isplitl [HL]; · iexact HL
    isplitl [HO]; · iexact HO
    iapply (start_mem m ρ c fo fp fb fs)
    isplitl [HXW]; · iexact HXW
    isplitl [Ho]; · iexact Ho
    isplitl [Hp]; · iexact Hp
    isplitl [Hb] <;> iassumption
  · iempintro

end Cert.Ring
-- ==== Proof.Fund.lean ====
module

public import proofs.«01_k».proof.Proof.Body

/-! # What the launch deals each device

The positions, the leave to pay each duty, and the credit for what the others owe it. -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## Places by message -/

abbrev Place : Type := Bool × Fin 8 × Fin 3
abbrev placeOf (b : Bool) (n : ℕ) : Place := (b, kOf n, pOf n)

theorem places_all0 : (Finset.univ : Finset Place) = (Finset.Ico 0 24).image (placeOf false) ∪ (Finset.Ico 0 24).image (placeOf true) := by decide +kernel
theorem places_all112 : (Finset.univ : Finset Place) = (Finset.Ico 112 136).image (placeOf false) ∪ (Finset.Ico 112 136).image (placeOf true) := by decide +kernel
theorem places_inj (b : Bool) (a : ℕ) : Set.InjOn (placeOf b) (Finset.Ico a (a + 24) : Finset ℕ) := by
  intro n hn n' hn' h
  have h1 := Finset.mem_Ico.mp (Finset.mem_coe.mp hn); have h2 := Finset.mem_Ico.mp (Finset.mem_coe.mp hn')
  have hk : n % 8 = n' % 8 := congrArg (fun x : Place => x.2.1.val) h
  have hp : n / 8 % 3 = n' / 8 % 3 := congrArg (fun x : Place => x.2.2.val) h
  omega
theorem places_disj (s t : Finset ℕ) : Disjoint (s.image (placeOf false)) (t.image (placeOf true)) := by
  rw [Finset.disjoint_left]; intro x hx hy
  obtain ⟨n, -, rfl⟩ := Finset.mem_image.mp hx
  obtain ⟨n', -, h⟩ := Finset.mem_image.mp hy
  exact absurd (congrArg Prod.fst h) (by simp)

omit [FloatOps F] in
theorem places_cut {a : ℕ} (h : (Finset.univ : Finset Place) = (Finset.Ico a (a + 24)).image (placeOf false) ∪ (Finset.Ico a (a + 24)).image (placeOf true))
    (Φ : Place → sProp 𝕄) : bigSep Finset.univ Φ
      ⊢ iprop((bigSep (Finset.Ico a (a + 24)) fun n => Φ (placeOf false n)) ∗ bigSep (Finset.Ico a (a + 24)) fun n => Φ (placeOf true n)) := by
  rw [← bigSep_image_of_injOn (places_inj false a) Φ, ← bigSep_image_of_injOn (places_inj true a) Φ]
  exact sep_cut Φ h (places_disj _ _)
omit [FloatOps F] in
theorem places_glue {a : ℕ} (h : (Finset.univ : Finset Place) = (Finset.Ico a (a + 24)).image (placeOf false) ∪ (Finset.Ico a (a + 24)).image (placeOf true))
    (Φ : Place → sProp 𝕄) : iprop((bigSep (Finset.Ico a (a + 24)) fun n => Φ (placeOf false n)) ∗ bigSep (Finset.Ico a (a + 24)) fun n => Φ (placeOf true n))
      ⊢ bigSep Finset.univ Φ := by
  rw [← bigSep_image_of_injOn (places_inj false a) Φ, ← bigSep_image_of_injOn (places_inj true a) Φ]
  exact sep_glue Φ h (places_disj _ _)

theorem own_all' : (Finset.univ : Finset Own) = insert none ((Finset.univ : Finset Place).image some) := by decide +kernel
omit [FloatOps F] in
theorem own_cut (Φ : Own → sProp 𝕄) : bigSep Finset.univ Φ ⊢ iprop(Φ none ∗ bigSep Finset.univ fun x : Place => Φ (some x)) := by
  rw [← bigSep_image_of_injOn (f := (some : Place → Own)) (s := Finset.univ) (fun a _ b _ h => Option.some.inj h) Φ]
  exact sep_split Φ own_all' (by simp)
omit [FloatOps F] in
theorem own_glue (Φ : Own → sProp 𝕄) : iprop(Φ none ∗ bigSep Finset.univ fun x : Place => Φ (some x)) ⊢ bigSep Finset.univ Φ := by
  rw [← bigSep_image_of_injOn (f := (some : Place → Own)) (s := Finset.univ) (fun a _ b _ h => Option.some.inj h) Φ]
  exact sep_join Φ own_all' (by simp)

/-! ## Credit -/

omit [FloatOps F] in
theorem cred_sum {I : Type} [DecidableEq I] (S : Finset I) (T : I → CellTallies nD τ sig ℕ) :
    (cred (∑ i ∈ S, T i) : sProp 𝕄) = bigSep S fun i => cred (T i) := by
  induction S using Finset.induction_on with
  | empty => rw [Finset.sum_empty, cred_zero, bigSep_empty]; rfl
  | insert i s hi ih =>
    rw [Finset.sum_insert hi]
    refine BI.Entails.antisymm ?_ ?_
    · refine BIBase.Entails.trans ?_ (sep_join (fun i => (cred (T i) : sProp 𝕄)) rfl hi)
      rw [← ih]; exact (cred_add _ _).1
    · refine BIBase.Entails.trans (sep_split (fun i => (cred (T i) : sProp 𝕄)) rfl hi) ?_
      rw [← ih]; exact (cred_add _ _).2

/-- The ring's turn, as a permutation. -/
def ring : Dev nD ≃ Dev nD := ⟨nxt, prv, prv_nxt, nxt_prv⟩
def turn (n : ℕ) : Dev nD ≃ Dev nD := ⟨fun c => tgt c n, fun c => src c n, fun c => src_tgt c n, fun c => tgt_src c n⟩

/-- What the others owe device `c`: two signals and every message. -/
def Due (c : Dev nD) : CellTallies nD τ sig ℕ := tallyAt (barCell c) 0 2 + ∑ n ∈ Finset.range 112, tallyAt (recvCell c n) n N

theorem one_cell (sm sm' : SemLoc sig) (ι ι' k : ℕ) (c : Dev nD) :
    ∑ d : Dev nD, (tallyAt ((d : Thread nD τ), sm') ι' k : CellTallies nD τ sig ℕ) ((c : Thread nD τ), sm) ι
      = (tallyAt ((c : Thread nD τ), sm') ι' k : CellTallies nD τ sig ℕ) ((c : Thread nD τ), sm) ι := by
  refine Finset.sum_eq_single c (fun d _ hd => ?_) (fun h => absurd (Finset.mem_univ c) h)
  rw [tallyAt_apply, if_neg]
  rintro ⟨h, -⟩
  exact hd (Fin.ext (congrArg (fun g : GSem nD τ sig => g.1.1.val) h).symm)

theorem due_at (c : Dev nD) (sm : SemLoc sig) (ι : ℕ) : ∑ d : Dev nD, O₀ d ((c : Thread nD τ), sm) ι = Due c ((c : Thread nD τ), sm) ι := by
  unfold O₀ Due Owed
  simp only [Pi.add_apply, Finsupp.add_apply, Finset.sum_apply, Finsupp.finset_sum_apply]
  rw [Finset.sum_add_distrib, Finset.sum_add_distrib, Finset.sum_comm]
  have hb : ∑ d : Dev nD, (tallyAt (barCell (prv d)) 0 1 : CellTallies nD τ sig ℕ) ((c : Thread nD τ), sm) ι
      = (tallyAt (barCell c) 0 1 : CellTallies nD τ sig ℕ) ((c : Thread nD τ), sm) ι :=
    (Equiv.sum_comp ring.symm fun d => (tallyAt (barCell d) 0 1 : CellTallies nD τ sig ℕ) ((c : Thread nD τ), sm) ι).trans (one_cell _ _ _ _ _ _)
  have hb' : ∑ d : Dev nD, (tallyAt (barCell (nxt d)) 0 1 : CellTallies nD τ sig ℕ) ((c : Thread nD τ), sm) ι
      = (tallyAt (barCell c) 0 1 : CellTallies nD τ sig ℕ) ((c : Thread nD τ), sm) ι :=
    (Equiv.sum_comp ring fun d => (tallyAt (barCell d) 0 1 : CellTallies nD τ sig ℕ) ((c : Thread nD τ), sm) ι).trans (one_cell _ _ _ _ _ _)
  have hr : ∀ n, ∑ d : Dev nD, (tallyAt (recvCell (tgt d n) n) n N : CellTallies nD τ sig ℕ) ((c : Thread nD τ), sm) ι
      = (tallyAt (recvCell c n) n N : CellTallies nD τ sig ℕ) ((c : Thread nD τ), sm) ι := fun n =>
    (Equiv.sum_comp (turn n) fun d => (tallyAt (recvCell d n) n N : CellTallies nD τ sig ℕ) ((c : Thread nD τ), sm) ι).trans (one_cell _ _ _ _ _ _)
  rw [hb, hb', Finset.sum_congr rfl fun n _ => hr n]
  have h2 : (tallyAt (barCell c) 0 2 : CellTallies nD τ sig ℕ) ((c : Thread nD τ), sm) ι
      = (tallyAt (barCell c) 0 1 : CellTallies nD τ sig ℕ) ((c : Thread nD τ), sm) ι + (tallyAt (barCell c) 0 1 : CellTallies nD τ sig ℕ) ((c : Thread nD τ), sm) ι := by
    rw [tallyAt_apply, tallyAt_apply]; split <;> rfl
  rw [h2]; omega

theorem due_cells (c : Dev nD) : ∑ sm : SemLoc sig, tallyOn ((c : Thread nD τ), sm) (Due c ((c : Thread nD τ), sm)) = Due c := by
  funext g
  rw [Finset.sum_apply]
  by_cases h : g.1 = (c : Thread nD τ)
  · obtain ⟨t, sm⟩ := g
    dsimp only at h
    subst h
    rw [Finset.sum_eq_single sm (fun s _ hs => tallyOn_ne (fun e => hs (congrArg Prod.snd e).symm) _) (fun h => absurd (Finset.mem_univ sm) h), tallyOn_self]
  · rw [Finset.sum_eq_zero fun s _ => tallyOn_ne (fun e => h (congrArg Prod.fst e)) _]
    unfold Due
    rw [Pi.add_apply, tallyAt_ne_cell (fun e => h (congrArg Prod.fst e)), Finset.sum_apply,
      Finset.sum_eq_zero fun n _ => tallyAt_ne_cell (fun e => h (congrArg Prod.fst e)) _ _, add_zero]

omit [FloatOps F] in
theorem creds (c : Dev nD) : (Pipeline.launchCred O₀ c : sProp 𝕄) ⊢ iprop(cred (tallyAt (barCell c) 0 2) ∗ bigSep (Finset.Ico 0 112) fun n => RC (F := F) c n) := by
  have e : (Pipeline.launchCred O₀ c : sProp 𝕄) = cred (Due c) := by
    unfold Pipeline.launchCred
    rw [← cred_sum, ← due_cells c]
    refine congrArg _ (Finset.sum_congr rfl fun sm _ => ?_)
    unfold tallyOn; refine congrArg _ (Finsupp.ext fun ι => ?_)
    rw [Pipeline.launchCredit_owing]; exact due_at c sm ι
  rw [e]
  unfold Due
  refine (cred_add _ _).1.trans (sep_mono_right ?_)
  rw [cred_sum, show Finset.Ico 0 112 = Finset.range 112 by decide +kernel]
  unfold RC
  exact fun _ h => h

/-! ## Leave to pay -/

/-- The duties of device `c`'s own cells, listed: of each message its sending and its landing, and the two signals. -/
def tokN (c : Dev nD) (b : Bool) (n : ℕ) : GSem nD τ sig × ℕ × Bool :=
  if n < 112 then (kcell (c, some (placeOf b n)), rd n, false) else (barCell c, 0, b)
abbrev tokOf (x : Dev nD × Bool × Fin 113) : GSem nD τ sig × ℕ × Bool := tokN x.1 x.2.1 x.2.2.val

theorem tokOf_injective : Function.Injective tokOf := by
  rintro ⟨c, b, n⟩ ⟨c', b', n'⟩ h
  have hn := n.isLt; have hn' := n'.isLt
  unfold tokOf tokN at h
  dsimp only at h
  by_cases h1 : n.val < 112 <;> by_cases h2 : n'.val < 112
  · rw [if_pos h1, if_pos h2] at h
    have hc := kcell_injective (congrArg Prod.fst h)
    have hr : rd n.val = rd n'.val := congrArg (fun x : GSem nD τ sig × ℕ × Bool => x.2.1) h
    have hp := Option.some.inj (congrArg Prod.snd hc)
    have hk : n.val % 8 = n'.val % 8 := congrArg (fun x : Place => x.2.1.val) hp
    have hpp : n.val / 8 % 3 = n'.val / 8 % 3 := congrArg (fun x : Place => x.2.2.val) hp
    unfold rd at hr
    have he : n = n' := Fin.ext (by omega)
    have hb : b = b' := congrArg Prod.fst hp
    have hcc : c = c' := congrArg Prod.fst hc
    rw [he, hb, hcc]
  · rw [if_pos h1, if_neg h2] at h
    exact absurd (congrArg Prod.snd (kcell_injective (a₁ := (c, some (placeOf b n.val))) (a₂ := (c', none)) (congrArg Prod.fst h))) (by simp)
  · rw [if_neg h1, if_pos h2] at h
    exact absurd (congrArg Prod.snd (kcell_injective (a₁ := (c, none)) (a₂ := (c', some (placeOf b' n'.val))) (congrArg Prod.fst h))) (by simp)
  · rw [if_neg h1, if_neg h2] at h
    have hc := kcell_injective (a₁ := (c, none)) (a₂ := (c', none)) (congrArg Prod.fst h)
    have hb : b = b' := congrArg (fun x : GSem nD τ sig × ℕ × Bool => x.2.2) h
    have he : n = n' := Fin.ext (by omega)
    have hcc : c = c' := congrArg Prod.fst hc
    rw [he, hb, hcc]

def ringCells : Finset (GSem nD τ sig) := Finset.univ.map ⟨kcell, kcell_injective⟩
def ringToks : Finset (GSem nD τ sig × ℕ × Bool) := Finset.univ.map ⟨tokOf, tokOf_injective⟩

def tokP (x : GSem nD τ sig × ℕ × Bool) : sProp 𝕄 := dutyTok ER x.1 x.2.1 x.2.2
/-- The duties of device `c`'s own cells. -/
def toks (c : Dev nD) : sProp 𝕄 := bigSep Finset.univ fun b : Bool => bigSep Finset.univ fun n : Fin 113 => tokP (F := F) (tokN c b n.val)

omit [FloatOps F] in
theorem toks_side (c : Dev nD) (b : Bool) : (bigSep Finset.univ fun n : Fin 113 => tokP (F := F) (tokN c b n.val))
    ⊢ iprop(dutyTok ER (barCell c) 0 b ∗ bigSep (Finset.range 112) fun n => dutyTok ER (kcell (c, some (placeOf b n))) (rd n) false) := by
  have e : (Finset.univ : Finset (Fin 113)).map Fin.valEmbedding = Finset.range 113 := by decide +kernel
  have e1 : (bigSep Finset.univ fun n : Fin 113 => tokP (F := F) (tokN c b n.val)) = bigSep (Finset.range 113) fun n => tokP (F := F) (tokN c b n) := by
    rw [← e, bigSep_map]; rfl
  rw [e1]
  refine (sep_split _ (show Finset.range 113 = insert 112 (Finset.range 112) from Finset.range_add_one) Finset.notMem_range_self).trans ?_
  have k0 : tokP (F := F) (tokN c b 112) = dutyTok ER (barCell c) 0 b := by unfold tokP tokN; rw [if_neg (by decide)]
  rw [k0]
  have k1 : ∀ n ∈ Finset.range 112, tokP (F := F) (tokN c b n) = dutyTok ER (kcell (c, some (placeOf b n))) (rd n) false := fun n hn => by
    unfold tokP tokN; rw [if_pos (Finset.mem_range.mp hn)]
  exact sep_mono_right (Entails.of_eq (bigSep_congr k1))

omit [FloatOps F] in
theorem toks_cut (c : Dev nD) : toks (F := F) c
    ⊢ iprop((dutyTok ER (barCell c) 0 false ∗ dutyTok ER (barCell c) 0 true) ∗ (bigSep (Finset.range 112) fun n => dutyTok ER (sendCell c n) (rd n) false)
        ∗ bigSep (Finset.range 112) fun n => dutyTok ER (recvCell c n) (rd n) false) := by
  unfold toks
  refine (sep_split _ (show (Finset.univ : Finset Bool) = insert false {true} by decide) (by decide)).trans ?_
  rw [bigSep_singleton]
  iintro ⟨H1, H2⟩
  ihave H1 := (toks_side (F := F) c false) $$ H1
  ihave H2 := (toks_side (F := F) c true) $$ H2
  icases H1 with ⟨Hf, HS⟩
  icases H2 with ⟨Ht, HV⟩
  isplitl [Hf Ht]; · isplitl [Hf] <;> iassumption
  isplitl [HS]
  · iexact HS
  · iexact HV

/-- The leave device `c` pays with. -/
def payToks (c : Dev nD) : sProp 𝕄 :=
  iprop((dutyTok ER (barCell (nxt c)) 0 false ∗ dutyTok ER (barCell (prv c)) 0 true) ∗ bigSep (Finset.range 112) fun n => Tok (F := F) c n)

omit [FloatOps F] in
theorem comm_le {I J : Type} [DecidableEq I] [DecidableEq J] (S : Finset I) (T : Finset J) (Φ : J → I → sProp 𝕄) :
    (bigSep T fun c => bigSep S fun n => Φ c n) ⊢ bigSep S fun n => bigSep T fun c => Φ c n := by
  induction S using Finset.induction_on with
  | empty => rw [bigSep_empty]; iintro -; iempintro
  | insert i s hi ih =>
    have key : ∀ c, (bigSep (insert i s) fun n => Φ c n) ⊢ iprop(Φ c i ∗ bigSep s fun n => Φ c n) := fun c => sep_split (Φ c) rfl hi
    refine (bigSep_mono fun c _ => key c).trans ?_
    rw [bigSep_sep']
    exact (sep_mono_right ih).trans (sep_join (fun n => bigSep T fun c => Φ c n) rfl hi)

omit [FloatOps F] in
theorem recv_around : (bigSep Finset.univ fun c : Dev nD => bigSep (Finset.range 112) fun n => (dutyTok ER (recvCell c n) (rd n) false : sProp 𝕄))
    ⊢ bigSep Finset.univ fun c : Dev nD => bigSep (Finset.range 112) fun n => (dutyTok ER (recvCell (tgt c n) n) (rd n) false : sProp 𝕄) := by
  refine (comm_le _ _ _).trans (BIBase.Entails.trans ?_ (comm_le _ _ _))
  have key : ∀ n, (bigSep Finset.univ fun c : Dev nD => (dutyTok ER (recvCell c n) (rd n) false : sProp 𝕄))
      ⊢ bigSep Finset.univ fun c : Dev nD => (dutyTok ER (recvCell (tgt c n) n) (rd n) false : sProp 𝕄) := fun n =>
    Entails.of_eq (bigSep_univ_equiv (turn n) _)
  exact bigSep_mono fun n _ => key n

omit [FloatOps F] in
/-- Dealt round the ring. -/
theorem toks_around : (bigSep Finset.univ fun c : Dev nD => toks (F := F) c) ⊢ bigSep Finset.univ fun c : Dev nD => payToks (F := F) c := by
  have key : ∀ c : Dev nD, toks (F := F) c ⊢ iprop((dutyTok ER (barCell c) 0 false ∗ dutyTok ER (barCell c) 0 true)
      ∗ (bigSep (Finset.range 112) fun n => dutyTok ER (sendCell c n) (rd n) false) ∗ bigSep (Finset.range 112) fun n => dutyTok ER (recvCell c n) (rd n) false) := toks_cut
  refine (bigSep_mono fun c _ => key c).trans ?_
  unfold payToks Tok
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄))]
  exact sep_mono_right (sep_mono_right recv_around)

end Cert.Ring
-- ==== Proof.Launch.lean ====
module

public import proofs.«01_k».proof.Proof.Fund
public import proofs.«01_k».proof.Proof.Gen.KernelIdeal.Points
public import Idealize.ShloMosaic.Lib.Quiescent

/-! # The launch: eight devices run the body to the end -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's data -/

/-- What device `c` starts from, apart from memory. -/
def start (c : Dev nD) : sProp 𝕄 := iprop((∃ K, Recs m ρ K) ∗ Lin (F := F) c)

/-- The three scratch buffers, with anything in them. -/
def Scratch (c : Dev nD) : sProp 𝕄 :=
  iprop((∃ f : Vec F S1024x1024 .f32, pM.view.loc (c : Thread nD τ) ↦[Finset.univ]{fullShare} f)
    ∗ (∃ f : Vec F S8x16x1024 .f32, bM.view.loc (c : Thread nD τ) ↦[Finset.univ]{fullShare} f)
    ∗ (∃ f : Vec F S8x3x16x1024 .f32, sM.view.loc (c : Thread nD τ) ↦[Finset.univ]{fullShare} f))

def Φ₀ (c : Dev nD) : sProp 𝕄 := iprop(start m ρ c ∗ Scratch (F := F) c)
def Φ₁ (c : Dev nD) : sProp 𝕄 := iprop(((bigSep (Finset.Ico 112 136) fun n => Zero (F := F) c n) ∗ semVal (barCell c) 0) ∗ Scratch (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xs m ρ c
    | ⟨1, _⟩ => ws m ρ c
    | ⟨2, _⟩ => OutF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
set_option maxRecDepth 4000 in
def bodyPost (c : Dev nD) : sProp 𝕄 :=
  iprop(Φ₁ (F := F) c ∗ (dats m ρ 0 c).owesAt 0 t₀.succ
    ∗ stg c cc0_stg0_0 (xs m ρ c) ∗ stg c cc0_stg1_0 (ws m ρ c) ∗ stg c cc0_stg2_0 (OutF m ρ c))

theorem given_of (c : Dev nD) : bodyPre m ρ c ⊢ iprop((∃ K, Recs m ρ K) ∗ Given m ρ c) := by
  unfold bodyPre Φ₀ start Scratch Dat.owesAt Pipeline.owesWithin Given Owes Xp Wp
  iintro ⟨⟨⟨HR, HL⟩, Hp, Hb, Hs⟩, ⟨%W, -, HO⟩, ⟨%d0, ⟨%f0, %h0, Hx⟩⟩, ⟨%d1, ⟨%f1, %h1, Hw⟩⟩, ⟨%d2, ⟨%f2, -, Ho⟩⟩⟩
  have e0 : f0 = xs m ρ c := by rw [h0]; unfold Dat.before; rw [if_pos (fetch0_0 t₀)]; rfl
  have e1 : f1 = ws m ρ c := by rw [h1]; unfold Dat.before; rw [if_pos (fetch0_1 t₀)]; rfl
  subst e0 e1
  isplitl [HR]; · iexact HR
  isplitl [HL]; · iexact HL
  isplitl [HO]; · iexists W; iexact HO
  isplitl [Hx Hw]; · isplitl [Hx] <;> iassumption
  isplitl [Ho]; · iexists f2; iexact Ho
  isplitl [Hp]; · iexact Hp
  isplitl [Hb] <;> iassumption

theorem post_of (c : Dev nD) : Left m ρ c ⊢ bodyPost m ρ c := by
  unfold bodyPost Φ₁ Scratch Dat.owesAt Pipeline.owesWithin Left Owes Xp Wp
  rw [show (dats m ρ 0 c).owed t₀.succ = 0 from rfl]
  iintro ⟨HZ, ⟨%W, HO⟩, ⟨Hx, Hw⟩, Ho, HS⟩
  isplitl [HZ HS]; · isplitl [HZ] <;> iassumption
  isplitl [HO]
  · iexists W; isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem body_runs (c : Dev nD) : bodyPre m ρ c ⊢ WP c (chain (F := F)) (fun _ => bodyPost m ρ c) := by
  refine (given_of m ρ c).trans ?_
  iintro ⟨⟨%K, HR⟩, HG⟩
  iapply ((sound_body m ρ K c).trans (wp_mono frame _ _ fun _ => post_of m ρ c))
  isplitl [HR] <;> iassumption

set_option maxRecDepth 65536 in
theorem body_obligation (c : Dev nD) : BodyObligation (dats (F := F) m ρ 0 c) (defs₀ (F := F)) 𝒱₀ 0 Set.univ := fun t => by
  rw [fin_N t]
  rw [bigSep_W0, bigSep_W0]
  simp only [owns_whole_eq]
  show bodyPre m ρ c ⊢ wp frame (wpE (defs₀ (F := F)) 𝒱₀ c none) Set.univ
    (cc0_body (F := F) xM (Memref.isWhole_whole _) wM (Memref.isWhole_whole _) oM (Memref.isWhole_whole _)
    pM (Memref.isWhole_whole _) bM (Memref.isWhole_whole _) sM (Memref.isWhole_whole _) cc0_scratch3 cc0_scratch4) (fun _ => bodyPost m ρ c)
  rw [body_eq_chain]
  exact body_runs m ρ c

end Cert.Ring
-- ==== Proof.Finish.lean ====
module

public import proofs.«01_k».proof.Proof.Launch
public import Idealize.ShloMosaic.Lib.Pipeline.CollectiveSegs

/-! # Every run ends, with the arrays at known contents and every semaphore at zero -/

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Semaphores -/

/-- The kernel's own semaphores: one for sending and one for landing per stream and place. -/
def osem (x : Place) : SemLoc sig := csem (some x)
theorem ownSemFacts : Pipeline.OwnSemFacts cfg0.spec osem := by decide +kernel

theorem share_eq (c : Dev nD) (w : Fin cfg0.W) : (dats m ρ 0 c).share w = fullShare := by unfold Dat.share; split <;> rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem zero_of (c : Dev nD) : (bigSep (Finset.Ico 112 136) fun n => Zero (F := F) c n)
    ⊢ (Pipeline.ownSems0 (Ix := ℕ) (Name := ℕ) (U := UU) (Lvl := ℕ) (Val := Elt F) (τ := τ) osem c : sProp 𝕄) := by
  unfold Zero Pipeline.ownSems0
  rw [bigSep_sep']
  exact places_glue (a := 112) places_all112 (fun x => (semVal ((c : Thread nD τ), osem x) 0 : sProp 𝕄))

/-! ## The ghost state -/

def u₀ : UU :=
  (initOf (Pipeline.cells cfgs cellOf_inj) (Pipeline.launchToks cfgs cellOf_inj), initOf ringCells ringToks)

/-- A device's positions, each with its mark. -/
def Pos (c : Dev nD) : sProp 𝕄 := bigSep Finset.univ fun k : Own => iprop(atPos ER (kcell (c, k)) 0 ∅ 0 ∗ reached ER (kcell (c, k)) 0)
def G (c : Dev nD) : sProp 𝕄 :=
  iprop((bigSep Finset.univ fun k : Own => roundState ER (Rd m ρ) (kcell (c, k)) 0) ∗ Pos (F := F) c ∗ toks (F := F) c)

/-- Every cell's invariant. -/
def Cells (K : Dev nD × Own → ℕ) : sProp 𝕄 := bigSep Finset.univ fun x => cellInv ER (Rd m ρ) (K x) (kcell x)
instance Cells_persistent (K : Dev nD × Own → ℕ) : BI.Persistent (Cells m ρ K) := by unfold Cells; infer_instance
def Part (c : Dev nD) : sProp 𝕄 :=
  iprop(BarG (F := F) c ∗ (bigSep (Finset.range 112) fun n => Tok (F := F) c n) ∗ bigSep (Finset.Ico 0 24) fun n => AtP (F := F) c n)
def G' (c : Dev nD) : sProp 𝕄 := iprop((∃ K, Cells m ρ K) ∗ Part (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Own => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G Pos; simp only [bigSep_sep']
  isplitl [Hst']; · iexact Hst'
  isplitl [Hat' Hr']
  · isplitl [Hat'] <;> iassumption
  iexact Htok'

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Own => semVal (kcell (c, k)) 0 : sProp 𝕄) := by
  rw [unscopedSems0_eq]
  unfold Pipeline.ownSems0
  iintro ⟨HS, HB⟩
  iapply (own_glue fun k : Own => (semVal (kcell (c, k)) 0 : sProp 𝕄))
  isplitl [HB]; · iexact HB
  iexact HS

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : Own => iprop(∃ κ : ℕ, cellInv ER (Rd m ρ) κ (kcell (c, k)))) ∗ Pos (F := F) c ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Own => semVal (kcell (c, k)) 0) ∗ bigSep Finset.univ fun k : Own => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat] <;> iassumption

/-- The mark of every cell. -/
def Marks : sProp 𝕄 := bigSep Finset.univ fun x : Dev nD × Own => reached ER (kcell x) 0
instance Marks_persistent : BI.Persistent (Marks (F := F)) := by unfold Marks; infer_instance
theorem mark_at (x : Dev nD × Own) : Marks (F := F) ⊢ reached ER (kcell x) 0 := by
  unfold Marks; exact bigSep_elim (Finset.mem_univ x)

theorem pos_marks (c : Dev nD) : Pos (F := F) c ⊢ iprop(Pos (F := F) c ∗ bigSep Finset.univ fun k : Own => reached ER (kcell (c, k)) 0) := by
  unfold Pos
  rw [← bigSep_sep']
  have key : ∀ k : Own, (iprop(atPos ER (kcell (c, k)) 0 ∅ 0 ∗ reached ER (kcell (c, k)) 0) : sProp 𝕄)
      ⊢ iprop((atPos ER (kcell (c, k)) 0 ∅ 0 ∗ reached ER (kcell (c, k)) 0) ∗ reached ER (kcell (c, k)) 0) := by
    intro k; iintro ⟨H, #HR⟩
    isplitl
    · isplitl [H]; · iexact H
      iexact HR
    iexact HR
  exact bigSep_mono fun k _ => key k

theorem part_of (c : Dev nD) : iprop(Marks (F := F) ∗ Pos (F := F) c ∗ payToks (F := F) c) ⊢ Part (F := F) c := by
  unfold Part Pos payToks BarG AtP
  iintro ⟨#HM, HP, HB, HT⟩
  ihave HP := (own_cut fun k : Own => (iprop(atPos ER (kcell (c, k)) 0 ∅ 0 ∗ reached ER (kcell (c, k)) 0) : sProp 𝕄)) $$ HP
  icases HP with ⟨⟨H0, -⟩, HP⟩
  isplitl [H0 HB]
  · isplitl [H0]; · iexact H0
    isplitr
    · isplitr; · iapply (mark_at (F := F) (nxt c, none)); iexact HM
      iapply (mark_at (F := F) (prv c, none)); iexact HM
    iexact HB
  isplitl [HT]; · iexact HT
  ihave HP := (show (bigSep Finset.univ fun x : Place => (iprop(atPos ER (kcell (c, some x)) 0 ∅ 0 ∗ reached ER (kcell (c, some x)) 0) : sProp 𝕄))
      ⊢ bigSep (Finset.Ico 0 (0 + 24)) fun n => iprop((atPos ER (sendCell c n) 0 ∅ 0 ∗ reached ER (sendCell c n) 0) ∗ (atPos ER (recvCell c n) 0 ∅ 0 ∗ reached ER (recvCell c n) 0)) from by
    refine BIBase.Entails.trans ?_ (Entails.of_eq (bigSep_sep' (Finset.Ico 0 (0 + 24)) (fun n => (iprop(atPos ER (sendCell c n) 0 ∅ 0 ∗ reached ER (sendCell c n) 0) : sProp 𝕄))
      (fun n => iprop(atPos ER (recvCell c n) 0 ∅ 0 ∗ reached ER (recvCell c n) 0))).symm)
    exact places_cut (a := 0) places_all0 fun x : Place => (iprop(atPos ER (kcell (c, some x)) 0 ∅ 0 ∗ reached ER (kcell (c, some x)) 0) : sProp 𝕄)) $$ HP
  have key : ∀ n ∈ Finset.Ico 0 (0 + 24), (iprop((atPos ER (sendCell c n) 0 ∅ 0 ∗ reached ER (sendCell c n) 0) ∗ (atPos ER (recvCell c n) 0 ∅ 0 ∗ reached ER (recvCell c n) 0)) : sProp 𝕄)
      ⊢ iprop((atPos ER (sendCell c n) (rd n) ∅ 0 ∗ atPos ER (recvCell c n) (rd n) ∅ 0) ∗ (reached ER (sendCell c n) (rd n) ∗ reached ER (recvCell c n) (rd n))) := by
    intro n hn
    have hr : rd n = 0 := by have := (Finset.mem_Ico.mp hn).2; unfold rd; omega
    rw [hr]
    iintro ⟨⟨H1, H2⟩, H3, H4⟩
    isplitl [H1 H3]; · isplitl [H1] <;> iassumption
    isplitl [H2] <;> iassumption
  ihave HP := (show (bigSep (Finset.Ico 0 (0 + 24)) fun n => (iprop((atPos ER (sendCell c n) 0 ∅ 0 ∗ reached ER (sendCell c n) 0) ∗ (atPos ER (recvCell c n) 0 ∅ 0 ∗ reached ER (recvCell c n) 0)) : sProp 𝕄))
      ⊢ bigSep (Finset.Ico 0 (0 + 24)) fun n => iprop((atPos ER (sendCell c n) (rd n) ∅ 0 ∗ atPos ER (recvCell c n) (rd n) ∅ 0) ∗ (reached ER (sendCell c n) (rd n) ∗ reached ER (recvCell c n) (rd n))) from bigSep_mono key) $$ HP
  iexact HP

theorem regroup :
    (bigSep Finset.univ fun c : Dev nD => iprop((bigSep Finset.univ fun k : Own => iprop(∃ κ : ℕ, cellInv ER (Rd m ρ) κ (kcell (c, k)))) ∗ Pos (F := F) c ∗ toks (F := F) c) : sProp 𝕄)
      ⊢ bigSep Finset.univ (G' m ρ) := by
  rw [bigSep_sep', bigSep_sep', ← bigSep_univ_prod (fun x : Dev nD × Own => iprop(∃ κ : ℕ, cellInv ER (Rd m ρ) κ (kcell x)))]
  iintro ⟨HI, Hpos, Htok⟩
  ihave HK := (BI.bigSep_exists_pi Finset.univ (fun (x : Dev nD × Own) (κ : ℕ) => (cellInv ER (Rd m ρ) κ (kcell x) : sProp 𝕄))) $$ HI
  icases HK with ⟨%K, HI⟩
  ihave HI := (show (bigSep Finset.univ fun x : Dev nD × Own => (cellInv ER (Rd m ρ) (K x) (kcell x) : sProp 𝕄)) ⊢ Cells m ρ K from by unfold Cells; exact fun _ h => h) $$ HI
  icases HI with #HI
  ihave Htk := (toks_around (F := F)) $$ Htok
  ihave Hpos := (show (bigSep Finset.univ fun c : Dev nD => Pos (F := F) c) ⊢ iprop((bigSep Finset.univ fun c : Dev nD => Pos (F := F) c) ∗ Marks (F := F)) from by
    unfold Marks
    rw [bigSep_univ_prod, ← bigSep_sep']
    exact bigSep_mono fun c _ => pos_marks c) $$ Hpos
  icases Hpos with ⟨Hpos, #HM⟩
  have key : ∀ c ∈ (Finset.univ : Finset (Dev nD)), iprop((Cells m ρ K ∗ Marks (F := F)) ∗ (Pos (F := F) c ∗ payToks (F := F) c)) ⊢ G' m ρ c := by
    intro c _
    unfold G'
    iintro ⟨⟨HI, HM⟩, HP⟩
    isplitl [HI]; · iexists K; iexact HI
    iapply (part_of (F := F) c)
    isplitl [HM] <;> iassumption
  iapply (bigSep_with_persistent (R := iprop(Cells m ρ K ∗ Marks (F := F))) key)
  isplitr
  · isplitr; · iexact HI
    iexact HM
  iapply (Entails.of_eq (bigSep_sep' Finset.univ (fun c : Dev nD => Pos (F := F) c) (fun c => payToks (F := F) c)).symm)
  isplitl [Hpos] <;> iassumption

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G' Part Lin Recs Cells
  icases HG with ⟨⟨%K, HI⟩, HB, HT, HA⟩
  isplitl
  · isplitl [HI Hlev]
    · iexists K; isplitl [HI] <;> iassumption
    isplitl [HB]; · iexact HB
    isplitl [HT]; · iexact HT
    isplitl [HA]; · iexact HA
    isplitl [H1] <;> iassumption
  · iempintro

theorem scratch_eq (c : Dev nD) : (Pipeline.scopedRest cfg0.spec c : sProp 𝕄) = Scratch (F := F) c := scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, unscopedSems0_eq]
  unfold Φ₁
  iintro ⟨⟨HZ, HB⟩, HS⟩
  isplitl [HB]; · iexact HB
  isplitl [HZ]; · iapply (zero_of (F := F) c); iexact HZ
  iexact HS

theorem O₀_pos {c : Dev nD} {g : GSem nD τ sig} {u : ℕ} (h : 0 < O₀ c g u) :
    (∃ n < 112, g = recvCell (tgt c n) n ∧ u = n) ∨ (∃ d, g = barCell d ∧ u = 0) := by
  unfold O₀ at h
  rw [Pi.add_apply, Finsupp.add_apply, Pi.add_apply, Finsupp.add_apply] at h
  by_cases h1 : 0 < Owed c (Finset.range 112) g u
  · obtain ⟨n, hn, rfl, rfl⟩ := Owed_pos h1
    exact .inl ⟨_, Finset.mem_range.mp hn, rfl, rfl⟩
  · right
    rw [tallyAt_apply, tallyAt_apply] at h
    by_cases h2 : g = barCell (prv c) ∧ u = 0
    · exact ⟨_, h2⟩
    by_cases h3 : g = barCell (nxt c) ∧ u = 0
    · exact ⟨_, h3⟩
    rw [if_neg h2, if_neg h3] at h
    omega

theorem mayWait_stage (c : Dev nD) (q : DmaSem sig) (hq : q.val < 3) (O : CellTallies nD τ sig ℕ) (hO : O = O₀ c ∨ O = 0) :
    (levAts L lv : sProp 𝕄) ⊢ MayWait (c : Thread nD τ) (.dma q) 0 O := by
  refine MayOwe.of_cut (L := L) (lev := lv) 0 (fun p hp => by rw [Finset.mem_singleton.mp hp, L_tc]; exact Finset.mem_range.mpr (Nat.zero_lt_succ _)) (fun g u hg => ?_)
    (fun p hp => by
      rw [Finset.mem_singleton.mp hp]
      show (if 27 ≤ q.val then 2 + 0 else 0) ≤ 0
      rw [if_neg (by omega)]) (fun g u hg => ?_)
  · rcases hO with rfl | rfl
    · rcases O₀_pos hg with ⟨n, hn, rfl, rfl⟩ | ⟨d, rfl, rfl⟩
      · rw [L_tc]; exact Finset.mem_range.mpr hn
      · rw [L_tc]; decide
    · exact absurd hg (Nat.lt_irrefl 0)
  · rcases hO with rfl | rfl
    · rcases O₀_pos hg with ⟨n, hn, rfl, rfl⟩ | ⟨d, rfl, rfl⟩
      · rw [lv_recv]; omega
      · rw [lv_bar]; omega
    · exact absurd hg (Nat.lt_irrefl 0)

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring
-- ==== Proof.Frames.lean ====
module

public import proofs.«01_k».proof.Defs
public import proofs.«01_k».proof.Proof.Finish
public import proofs.«01_k».proof.Proof.Gen.Kernel
public import proofs.«01_k».proof.Proof.Gen.ReferenceIdeal.Run

/-! # The frames: arguments unchanged, every semaphore back at zero -/

@[expose] public section

noncomputable section

namespace Cert.Ring

open Cert.KernelIdeal Cert.KernelIdeal.Gen
open Idealize.ShloMosaic Idealize.ShloMosaic.TcCoe
open Idealize.SL.Sem

section
variable {F : FTy → Type} [FloatOps F]
variable (m : (ℓ : Loc nD τ sig) → Buf (Elt F) ℓ) (ρ : Dev nD → PrngReg)

theorem finalA_x (c : Dev nD) : finalA m ρ c (0 : Fin 3) = m ((c.tc : Thread nD τ).loc main_arg0) :=
  (dats (F := F) m ρ 0 c).arrAt_in (0 : Fin 3) rfl _
theorem finalA_w (c : Dev nD) : finalA m ρ c (1 : Fin 3) = m ((c.tc : Thread nD τ).loc main_arg1) :=
  (dats (F := F) m ρ 0 c).arrAt_in (1 : Fin 3) rfl _

/-- The kernel's run over any float values: the arguments end as they began, every counter at zero. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := F)) _ _).mono (fun _ h => ⟨fun c => ⟨(h.1 c 0).trans (finalA_x m ρ c), (h.1 c 1).trans (finalA_w m ρ c)⟩, h.2⟩) (run_main m ρ)

end

theorem frame_kernelIdeal : Cert.quiescent_KernelIdeal := fun m ρ _ => run_frame m ρ

section
variable {F : FTy → Type} [FloatOps F]

set_option maxRecDepth 65536 in
theorem body_same : @Cert.Kernel.cc0_body F _ _ = @Cert.KernelIdeal.cc0_body F _ _ := rfl

set_option maxRecDepth 65536 in
theorem bodies_same : @Cert.Kernel.defs₀ F _ _ = @Cert.KernelIdeal.defs₀ F _ _ := by
  unfold Cert.Kernel.defs₀ Cert.KernelIdeal.defs₀
  refine congrArg (Defs.onTc (Val := Elt F) (Λ := Cert.Kernel.Λ₀) (τ := Cert.Kernel.τ) (nD := Cert.Kernel.nD) (sig := Cert.Kernel.sig)) ?_
  funext l x
  match l, x with
  | 0, (t, s) => exact rfl

/-- The two programs are one text. -/
theorem defs_same : @Cert.Kernel.defs F _ _ = @Cert.KernelIdeal.defs F _ _ := by
  unfold Cert.Kernel.defs Cert.KernelIdeal.defs
  rw [bodies_same]; rfl

end

/-- So the frame of the first is the run at the machine's words. -/
theorem frame_kernel : Cert.quiescent_Kernel := fun m ρ _ => by
  rw [defs_same]
  exact run_frame (F := Bits) m ρ

/-- The reference has no semaphore at all. -/
theorem frame_reference : Cert.quiescent_ReferenceIdeal := fun m ρ _ =>
  (θ_run Cert.ReferenceIdeal.defs _ _).mono (fun r h => ⟨fun c => (h c).2, funext fun g => by
    obtain ⟨_, s⟩ := g
    cases s with
    | reg s => exact s.elim0
    | dma s => exact s.elim0⟩) (Cert.ReferenceIdeal.Value.run m ρ)

end Cert.Ring
-- ==== Proof.Value.lean ====
module

public import proofs.«01_k».proof.Proof.Split
public import Idealize.ShloMosaic.Lib.Pointwise

/-! # What the bands hold, exact

At the extended reals every message is a sum of partial products over the devices it has passed, and the last sum runs
over all of them. -/

@[expose] public section

noncomputable section

namespace Cert.Ring

open Cert.KernelIdeal Cert.KernelIdeal.Gen
open Idealize.ShloMosaic Idealize.ShloMosaic.TcCoe

variable (m : (ℓ : Loc nD τ sig) → Buf (Elt Ideal) ℓ) (ρ : Dev nD → PrngReg)

/-! ## The products -/

/-- Row `r` of the staged `x` against column `q` of the staged `w`. -/
def dotAt (c : Dev nD) (r q : Fin 1024) : EReal := ∑ k : Fin 128, (xs (F := Ideal) m ρ c (ix2 r k) : EReal) * (ws (F := Ideal) m ρ c (ix2 k q) : EReal)

theorem prod64_at (a : Vec Ideal S64x128 .f32) (b : Vec Ideal S128x1024 .f32) (j : S64x1024.Idx) :
    (prod64 a b j : EReal) = ∑ k : Fin 128, (a (ix2 (j 0) k) : EReal) * (b (ix2 k (j 1)) : EReal) := by
  unfold prod64
  unfold_payloads
  pointwise
theorem prod128_at (a : Vec Ideal S128x128 .f32) (b : Vec Ideal S128x1024 .f32) (j : S128x1024.Idx) :
    (prod128 a b j : EReal) = ∑ k : Fin 128, (a (ix2 (j 0) k) : EReal) * (b (ix2 k (j 1)) : EReal) := by
  unfold prod128
  unfold_payloads
  pointwise

/-- A load of rows of the staged `x`, at an element. -/
theorem x_rows (R : ℕ) (off : Fin 2 → ℕ) (h : ∀ a, off a + (⟨2, ![R, 128]⟩ : Shape).size a ≤ S1024x128.size a)
    (f : Vec Ideal S1024x128 .f32) (j : Fin R) (k : Fin 128) (r : Fin 1024) (hr : r.val = off 0 + j.val) :
    (xM : Memref sig .tc .vmem S1024x128 .f32).view.readAt (Elt Ideal) (Rect.unit (s := S1024x128) off (⟨2, ![R, 128]⟩ : Shape).size h).toLoadRect f (ix2 j k)
      = f (ix2 r k) := by
  have h1' : off 1 + 128 ≤ 128 := h 1
  show f ((Rect.unit (s := S1024x128) off (⟨2, ![R, 128]⟩ : Shape).size h).emb (ix2 j k)) = f (ix2 r k)
  congr 1
  funext a
  apply Fin.ext
  fin_cases a
  · show off 0 + 1 * j.val = r.val; omega
  · show off 1 + 1 * k.val = k.val; omega

/-- The partial product is the product, however it was cut into blocks of rows. -/
theorem part_at (c : Dev nD) (i : S1024x1024.Idx) : (part m ρ c i : EReal) = dotAt m ρ c (i 0) (i 1) := by
  have hi : (i 0).val < 1024 := (i 0).isLt
  unfold part dotAt
  split
  · rename_i hc
    split
    · unfold topP
      rw [prod64_at]
      refine Finset.sum_congr rfl fun k _ => ?_
      congr 1
      exact x_rows 64 _ (in64 c) _ _ _ _ (show (i 0).val = 128 * c.val + (i 0).val % 64 by omega)
    · unfold botP
      rw [prod64_at]
      refine Finset.sum_congr rfl fun k _ => ?_
      congr 1
      exact x_rows 64 _ (in64' c) _ _ _ _ (show (i 0).val = 128 * c.val + 64 + (i 0).val % 64 by omega)
  · unfold chunkP
    rw [prod128_at]
    refine Finset.sum_congr rfl fun k _ => ?_
    congr 1
    exact x_rows 128 _ (in128 _) _ _ _ _ (show (i 0).val = 128 * ((i 0).val / 128) + (i 0).val % 128 by omega)

/-- The same by a row number; zero outside. -/
def dotN (c : Dev nD) (r : ℕ) (q : Fin 1024) : EReal := if h : r < 1024 then dotAt m ρ c ⟨r, h⟩ q else 0

theorem bandP_at (c : Dev nD) (n : ℕ) (a : Fin 16) (q : Fin 1024) :
    (bandP m ρ c n (ix2 a q) : EReal) = dotN m ρ c (rowOf c n + a.val) q := by
  have hr := rowOf_lt c n
  have hlt : rowOf c n + a.val < 1024 := by omega
  unfold dotN
  rw [dif_pos hlt]
  show (part m ρ c ((Rect.unit (s := S1024x1024) ![rowOf c n, 0] S16x1024.size (row_in c n)).emb (ix2 a q)) : EReal) = _
  rw [rect_emb 16 _ (row_in c n) (ix2 a q) (ix2 ⟨rowOf c n + a.val, hlt⟩ q) rfl rfl, part_at]
  rfl

/-! ## One step -/

theorem asSlot_back (v : Vec Ideal S16x1024 .f32) (h : S1x1x16x1024.ShapeCasts S16x1024) : shapeCast S16x1024 (asSlot v) h = v := by
  funext j
  show v ((Shape.reshapeEquiv squeezes_S1x1x16x1024_S16x1024.numel_eq).symm (Shape.reshapeEquiv h j)) = v j
  rw [Shape.reshapeEquiv_symm, Shape.reshapeEquiv_reshapeEquiv, Shape.reshapeEquiv_self]
theorem asBand_back (v : Vec Ideal S16x1024 .f32) (h : S16x1024.ShapeCasts S1x16x1024) : asBand (shapeCast S1x16x1024 v h) = v := by
  funext j
  show v (Shape.reshapeEquiv h (Shape.reshapeEquiv squeezes_S1x16x1024_S16x1024.numel_eq j)) = v j
  rw [Shape.reshapeEquiv_reshapeEquiv, Shape.reshapeEquiv_self]

theorem add_at (a b : Vec Ideal S16x1024 .f32) (j : S16x1024.Idx) : (asBand (addV a (asSlot b)) j : EReal) = (a j : EReal) + (b j : EReal) := by
  have e : addV a (asSlot b) = shapeCast S1x16x1024 (addf a (shapeCast S16x1024 (asSlot b) shapeCasts_S1x1x16x1024_S16x1024)) shapeCasts_S16x1024_S1x16x1024 := rfl
  rw [e, asBand_back, asSlot_back]
  rfl

/-- `y` times the logistic of `y`. -/
def silu (y : EReal) : EReal := y * Ideal.logistic y

theorem fin_at (a b : Vec Ideal S16x1024 .f32) (j : S16x1024.Idx) : (finV a (asSlot b) j : EReal) = silu ((a j : EReal) + (b j : EReal)) := by
  have e : finV a (asSlot b) = mulf (addf a (shapeCast S16x1024 (asSlot b) shapeCasts_S1x1x16x1024_S16x1024)) (logistic (addf a (shapeCast S16x1024 (asSlot b) shapeCasts_S1x1x16x1024_S16x1024))) := rfl
  rw [e, asSlot_back]
  rfl

/-! ## The sums round the ring -/

/-- How far round the device is that message `n` comes from. -/
def gap (n : ℕ) : ℕ := if n % 2 = 0 then 7 else 1

theorem src_gap (c : Dev nD) (n : ℕ) : src c n = far c (gap n) := by
  unfold src gap; split <;> rfl
theorem gap_add8 (n : ℕ) : gap (n + 8) = gap n := by
  unfold gap; rw [show (n + 8) % 2 = n % 2 by omega]
theorem row_next (c : Dev nD) (n : ℕ) (h : n < 120) : rowOf (src c n) n = rowOf c (n + 8) := by
  have e := rowOf_tgt (src c n) n h
  rw [tgt_src] at e
  exact e.symm

/-- The partial products of `t` devices, from `c` backwards along the message's way. -/
def sumN (c : Dev nD) (g t r : ℕ) (q : Fin 1024) : EReal := ∑ s ∈ Finset.range t, dotN m ρ (far c (s * g)) r q

theorem sumN_succ (c : Dev nD) (g t r : ℕ) (q : Fin 1024) :
    sumN m ρ c g (t + 1) r q = dotN m ρ c r q + sumN m ρ (far c g) g t r q := by
  unfold sumN
  rw [Finset.sum_range_succ', Nat.zero_mul, far_zero, add_comm]
  congr 1
  refine Finset.sum_congr rfl fun s _ => ?_
  rw [far_far, Nat.add_mul, Nat.one_mul, Nat.add_comm g]

theorem val_sum (t : ℕ) : ∀ (n : ℕ) (hn : n / 8 = t) (h : n < 56) (c : Dev nD) (a : Fin 16) (q : Fin 1024),
    (val m ρ c n (ix2 a q) : EReal) = sumN m ρ c (gap n) (t + 1) (rowOf c n + a.val) q := by
  induction t with
  | zero =>
    intro n hn h c a q
    rw [val_lo m ρ (by omega), bandP_at, sumN_succ]
    unfold sumN
    rw [Finset.range_zero, Finset.sum_empty, add_zero]
  | succ t ih =>
    intro n hn h c a q
    obtain ⟨n, rfl⟩ : ∃ k, n = k + 8 := ⟨n - 8, by omega⟩
    rw [val_add m ρ (by omega), add_at, bandP_at, ih n (by omega) (by omega), gap_add8, row_next c n (by omega), src_gap]
    exact (sumN_succ m ρ c (gap n) (t + 1) _ q).symm

/-- All the devices once each. -/
theorem sumN_all (c : Dev nD) (n r : ℕ) (q : Fin 1024) : sumN m ρ c (gap n) 8 r q = ∑ d : Dev nD, dotN m ρ d r q := by
  unfold sumN
  rw [← Fin.sum_univ_eq_sum_range (fun s => dotN m ρ (far c (s * gap n)) r q) 8]
  have hb : ∀ c : Dev nD, Function.Bijective (fun s : Fin 8 => far c (s.val * 7)) ∧ Function.Bijective (fun s : Fin 8 => far c (s.val * 1)) := by
    intro c
    have hi : Function.Injective (fun s : Fin 8 => far c (s.val * 7)) ∧ Function.Injective (fun s : Fin 8 => far c (s.val * 1)) := by
      revert c; unfold Function.Injective; decide +kernel
    exact ⟨hi.1.bijective_of_finite, hi.2.bijective_of_finite⟩
  unfold gap
  split
  · exact (hb c).1.sum_comp fun d => dotN m ρ d r q
  · exact (hb c).2.sum_comp fun d => dotN m ρ d r q

theorem val_silu (t : ℕ) : ∀ (n : ℕ) (hn : n / 8 = t + 7) (h : n < 120) (c : Dev nD) (a : Fin 16) (q : Fin 1024),
    (val m ρ c n (ix2 a q) : EReal) = silu (∑ d : Dev nD, dotN m ρ d (rowOf c n + a.val) q) := by
  induction t with
  | zero =>
    intro n hn h c a q
    obtain ⟨n, rfl⟩ : ∃ k, n = k + 8 := ⟨n - 8, by omega⟩
    rw [val_fin m ρ (by omega) (by omega), fin_at, bandP_at, val_sum m ρ 6 n (by omega) (by omega), row_next c n (by omega), src_gap,
      ← sumN_succ, sumN_all]
  | succ t ih =>
    intro n hn h c a q
    obtain ⟨n, rfl⟩ : ∃ k, n = k + 8 := ⟨n - 8, by omega⟩
    rw [val_hi m ρ (by omega), ih n (by omega) (by omega), row_next c n (by omega)]

/-- The output block of every device. -/
theorem OutF_at (c : Dev nD) (r q : Fin 1024) : (OutF m ρ c (ix2 r q) : EReal) = silu (∑ d : Dev nD, dotAt m ρ d r q) := by
  obtain ⟨h1, h2, h3⟩ := outAt_ok c (ix2 r q)
  have hr : (ix2 r q (0 : Fin 2)).val = r.val := rfl
  rw [hr] at h3
  unfold OutF
  refine (val_silu m ρ (outAt c (ix2 r q) / 8 - 7) (outAt c (ix2 r q)) (by omega) h2 c ⟨r.val % 16, Nat.mod_lt _ (by decide)⟩ q).trans ?_
  rw [h3]
  congr 1
  refine Finset.sum_congr rfl fun d _ => ?_
  show dotN m ρ d (16 * (r.val / 16) + r.val % 16) q = _
  rw [show 16 * (r.val / 16) + r.val % 16 = r.val by omega]
  unfold dotN
  rw [dif_pos r.isLt]

end Cert.Ring
-- ==== Proof.Agree.lean ====
module

public import proofs.«01_k».proof.Defs
public import proofs.«01_k».proof.Proof.Finish
public import proofs.«01_k».proof.Proof.Frames
public import proofs.«01_k».proof.Proof.Value
public import proofs.«01_k».proof.Proof.Gen.ReferenceIdeal.Run
public import proofs.«01_k».proof.Proof.Gen.Unbounded.Value
public import proofs.«01_k».proof.Proof.Gen.On_unclipped

/-! # The two value claims

Each device's result is `y · logistic y` of the whole product `y`; the reference divides `y` by one plus the exponential
of minus `y`, clipped. -/

@[expose] public section

noncomputable section

namespace Cert.Ring

open Cert.KernelIdeal Cert.KernelIdeal.Gen
open Idealize.ShloMosaic Idealize.ShloMosaic.TcCoe
open Idealize.SL.Sem
open Idealize.ShloMosaic.Pipeline (Dat)

/-! ## Numbers -/

/-- One plus an exponential is never zero. -/
theorem denom_ne (z : EReal) : (1 : EReal) + Ideal.exp z ≠ 0 := by
  have h0 : 0 ≤ Ideal.exp z := by
    induction z with
    | bot => simp
    | top => simp
    | coe r => simpa using (Real.exp_pos r).le
  have h1 : (0 : EReal) < 1 + Ideal.exp z := lt_of_lt_of_le zero_lt_one (le_add_of_nonneg_right h0)
  exact h1.ne'

theorem silu_div (y : EReal) : silu y = Ideal.div y (1 + Ideal.exp (-y)) := by
  have h := denom_ne (-y)
  unfold silu Ideal.logistic Ideal.div
  rw [if_neg h, if_neg h, one_mul]

/-- Within the bounds the clip does nothing. -/
theorem clip_id (y b : EReal) (h : max y (-y) ≤ b) : min b (max (-b) y) = y := by
  have h1 : y ≤ b := le_trans (le_max_left _ _) h
  have h2 : -b ≤ y := EReal.neg_le.mp (le_trans (le_max_right _ _) h)
  rw [max_eq_right h2, min_eq_right h1]

/-- The two bounds are opposite. -/
theorem bound_neg : Ideal.ofBits .f32 0xC2700000#32 = -Ideal.ofBits .f32 0x42700000#32 := by
  simp [Ideal.ofBits, Ideal.ieee, -EReal.coe_mul]

theorem ix_eta (i : S1024x1024.Idx) : i = ix2 (i 0) (i 1) := by
  funext a; fin_cases a <;> rfl

/-! ## The whole product -/

/-- Row `r` of the whole `x` against column `q` of the whole `w`. -/
def whole (X W : Vec Ideal S1024x1024 .f32) (r q : Fin 1024) : EReal := ∑ k : Fin 1024, (X (ix2 r k) : EReal) * (W (ix2 k q) : EReal)

section
variable (m : (ℓ : Loc nD τ sig) → Buf (Elt Ideal) ℓ) (ρ : Dev nD → PrngReg)

theorem blk0_zero : ∀ t : Fin grid0.N, win0_0.index t (0 : Fin 2) = 0 ∧ win0_0.index t (1 : Fin 2) = 0 := by decide +kernel
theorem blk1_zero : ∀ t : Fin grid0.N, win0_1.index t (0 : Fin 2) = 0 ∧ win0_1.index t (1 : Fin 2) = 0 := by decide +kernel
theorem blk2_zero : ∀ t : Fin grid0.N, win0_2.index t (0 : Fin 2) = 0 ∧ win0_2.index t (1 : Fin 2) = 0 := by decide +kernel

/-- The operands are staged whole. -/
theorem xs_mem (c : Dev nD) (i : S1024x128.Idx) : xs (F := Ideal) m ρ c i = m ((c.tc : Thread nD τ).loc main_arg0) i := by
  obtain ⟨e0, e1⟩ := blk0_zero (0 : Fin 1)
  show m ((c.tc : Thread nD τ).loc main_arg0) ((win0_0.blk (0 : Fin 1)).view.emb i) = _
  congr 1
  funext a; apply Fin.ext
  fin_cases a
  · show win0_0.index (0 : Fin 1) (0 : Fin 2) * 1024 + 1 * (i 0).val = (i 0).val; omega
  · show win0_0.index (0 : Fin 1) (1 : Fin 2) * 128 + 1 * (i 1).val = (i 1).val; omega
theorem ws_mem (c : Dev nD) (i : S128x1024.Idx) : ws (F := Ideal) m ρ c i = m ((c.tc : Thread nD τ).loc main_arg1) i := by
  obtain ⟨e0, e1⟩ := blk1_zero (0 : Fin 1)
  show m ((c.tc : Thread nD τ).loc main_arg1) ((win0_1.blk (0 : Fin 1)).view.emb i) = _
  congr 1
  funext a; apply Fin.ext
  fin_cases a
  · show win0_1.index (0 : Fin 1) (0 : Fin 2) * 128 + 1 * (i 0).val = (i 0).val; omega
  · show win0_1.index (0 : Fin 1) (1 : Fin 2) * 1024 + 1 * (i 1).val = (i 1).val; omega

/-- The devices' products over their own blocks add up to the whole product. -/
theorem dots_whole (X W : Vec Ideal S1024x1024 .f32)
    (hX : ∀ c : Dev nD, m ((c.tc : Thread nD τ).loc main_arg0) = Layout.block ⟨2, ![1024, 128]⟩ ⟨2, ![1024, 1024]⟩ 1 8 c X)
    (hW : ∀ c : Dev nD, m ((c.tc : Thread nD τ).loc main_arg1) = Layout.block ⟨2, ![128, 1024]⟩ ⟨2, ![1024, 1024]⟩ 0 8 c W)
    (r q : Fin 1024) : (∑ d : Dev nD, dotAt m ρ d r q) = whole X W r q := by
  unfold whole
  rw [Fin.sum_univ_tiles 8 128 (by decide) (fun k : Fin 1024 => (X (ix2 r k) : EReal) * (W (ix2 k q) : EReal))]
  refine Finset.sum_congr rfl fun d _ => ?_
  unfold dotAt
  refine Finset.sum_congr rfl fun k _ => ?_
  rw [xs_mem, ws_mem, hX d, hW d]
  congr 1
  · show X _ = X _
    congr 1
    funext a; apply Fin.ext
    fin_cases a <;> rfl
  · show W _ = W _
    congr 1
    funext a; apply Fin.ext
    fin_cases a <;> rfl

/-! ## The result array -/

theorem out_emb (t : Fin cfg0.N) (j : S1024x1024.Idx) : ((cfg0.win 2).blk t).view.emb j = j := by
  obtain ⟨e0, e1⟩ := blk2_zero t
  funext a; apply Fin.ext
  fin_cases a
  · show win0_2.index t (0 : Fin 2) * 1024 + 1 * (j 0).val = (j 0).val; omega
  · show win0_2.index t (1 : Fin 2) * 1024 + 1 * (j 1).val = (j 1).val; omega

theorem out_flushed (c : Dev nD) (t : Fin cfg0.N) :
    (dats (F := Ideal) m ρ 0 c).flushed 2 t = ((cfg0.win 2).blk t).view.read (Elt Ideal) (OutF m ρ c) := by
  funext j
  show OutF m ρ c j = OutF m ρ c (((cfg0.win 2).blk t).view.emb j)
  rw [out_emb]

theorem out_covered (i : S1024x1024.Idx) :
    ∃ t : Fin cfg0.N, (cfg0.win 2).flush t = true ∧ i ∈ ((cfg0.win 2).blk t).view.set :=
  ⟨t₀, flush0_2 _, by have h := ((cfg0.win 2).blk t₀).view.emb_mem_set i; rwa [out_emb] at h⟩

/-- The one write-back covers the array. -/
theorem finalA_out (c : Dev nD) : finalA (F := Ideal) m ρ c (2 : Fin 3) = OutF m ρ c :=
  (dats (F := Ideal) m ρ 0 c).arrAt_eq_of_cover 2 (OutF m ρ c) (fun t _ => out_flushed m ρ c t) out_covered

/-- What the kernel leaves. -/
theorem run_value (X W : Vec Ideal S1024x1024 .f32)
    (hX : ∀ c : Dev nD, m ((c.tc : Thread nD τ).loc main_arg0) = Layout.block ⟨2, ![1024, 128]⟩ ⟨2, ![1024, 1024]⟩ 1 8 c X)
    (hW : ∀ c : Dev nD, m ((c.tc : Thread nD τ).loc main_arg1) = Layout.block ⟨2, ![128, 1024]⟩ ⟨2, ![1024, 1024]⟩ 0 8 c W) :
    θ_run (defs (F := Ideal)) (onTc (τ := τ) (main (F := Ideal))) ⟨m, fun _ => 0, ρ⟩ (fun r => ∀ c : Dev nD,
      r.2.mem ((c.tc : Thread nD τ).loc main_v1) = (fun i : S1024x1024.Idx => silu (whole X W (i 0) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c => ⟨((h.1 c 2).trans (finalA_out m ρ c)).trans (funext fun i => by
      rw [ix_eta i]
      exact (OutF_at m ρ c (i 0) (i 1)).trans (congrArg silu (dots_whole m ρ X W hX hW (i 0) (i 1)))),
    (h.1 c 0).trans (finalA_x m ρ c), (h.1 c 1).trans (finalA_w m ρ c)⟩) (run_main m ρ)

end

/-! ## The reference whose bounds are infinite -/

theorem unbounded_at (X W : Vec Ideal S1024x1024 .f32) (i : S1024x1024.Idx) :
    (Cert.Unbounded.Value.G2 (F := Ideal) X W i : EReal) = silu (whole X W (i 0) (i 1)) := by
  have e : (Cert.Unbounded.Value.G2 (F := Ideal) X W i : EReal)
      = Ideal.div (whole X W (i 0) (i 1)) (1 + Ideal.exp (0 - min ⊤ (max ⊥ (whole X W (i 0) (i 1))))) := by
    unfold whole
    show (Cert.Unbounded.Gen.k0_pay1 (F := Ideal) X W i : EReal) = _
    unfold_payloads
    pointwise
    rw [show (Named.named (F := Ideal) Cert.Unbounded.κ "clip_hi" (φ := .f32) 0x42700000#32 : EReal) = ⊤ from rfl,
      show (Named.named (F := Ideal) Cert.Unbounded.κ "clip_lo" (φ := .f32) 0xC2700000#32 : EReal) = ⊥ from rfl]
  rw [e, silu_div, max_eq_right bot_le, min_eq_right le_top, zero_sub]

theorem agree_unbounded : Cert.algebraic_KernelIdeal_Unbounded := fun m g m' g' _ hm =>
  ⟨fun i : S1024x1024.Idx => silu (whole (m' (((0 : Dev Cert.Unbounded.nD).tc : Thread Cert.Unbounded.nD Cert.Unbounded.τ).loc Cert.Unbounded.main_arg0))
      (m' (((0 : Dev Cert.Unbounded.nD).tc : Thread Cert.Unbounded.nD Cert.Unbounded.τ).loc Cert.Unbounded.main_arg1)) (i 0) (i 1)),
    run_value m g _ _ (fun c => (hm c).1) (fun c => (hm c).2),
    (θ_run Cert.Unbounded.defs _ _).mono (fun r h => ⟨(h 0).1.trans (funext fun i => unbounded_at _ _ i), (h 0).2⟩) (Cert.Unbounded.Value.run m' g')⟩

/-! ## The reference as written, where the clip does nothing -/

/-- The product as the reference and the mask compute it. -/
def hostDot (X W : FVec Ideal S1024x1024 .f32) : FVec Ideal S1024x1024 .f32 :=
  Host.dotGeneral Cert.ReferenceIdeal.dot_S1024x1024_S1024x1024_S1024x1024_1_0_0_1_n_n none X W

theorem host_dot (X W : Vec Ideal S1024x1024 .f32) (i : S1024x1024.Idx) : (hostDot X W i : EReal) = whole X W (i 0) (i 1) := by
  unfold whole hostDot
  pointwise

/-- The mask, at an element. -/
theorem mask_bound (X W : Vec Ideal S1024x1024 .f32) (i : S1024x1024.Idx) (h : Cert.On_unclipped.fn (F := Ideal) X W i = 1#1) :
    max (whole X W (i 0) (i 1)) (-whole X W (i 0) (i 1)) ≤ Ideal.ofBits .f32 0x42700000#32 := by
  have e : Cert.On_unclipped.fn (F := Ideal) X W i = BitVec.ofBool (decide (max (hostDot X W i : EReal) (-(hostDot X W i : EReal)) ≤ Ideal.ofBits .f32 0x42700000#32)) := rfl
  rw [host_dot] at e
  by_contra hn
  rw [e, decide_eq_false hn] at h
  exact absurd h (by decide)

/-- The reference's quotient, at an element where the mask holds. -/
theorem reference_at (X W : Vec Ideal S1024x1024 .f32) (i : S1024x1024.Idx) (h : Cert.On_unclipped.fn (F := Ideal) X W i = 1#1) :
    Ideal.div (hostDot X W i) (Ideal.ofBits .f32 0x3F800000#32 + Ideal.exp (-min (Ideal.ofBits .f32 0x42700000#32) (max (Ideal.ofBits .f32 0xC2700000#32) (hostDot X W i))))
      = silu (whole X W (i 0) (i 1)) := by
  rw [host_dot, bound_neg, clip_id _ _ (mask_bound X W i h), Ideal.ofBits_one_f32, silu_div]

theorem agree_reference : Cert.algebraic_KernelIdeal_ReferenceIdeal_on_unclipped := fun m g m' g' _ hm =>
  ⟨fun i : S1024x1024.Idx => silu (whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) (i 0) (i 1)),
    (θ_run (defs (F := Ideal)) _ _).mono (fun r h c => ⟨fun i _ => congrFun (h c).1 i, (h c).2⟩) (run_value m g _ _ (fun c => (hm c).1) (fun c => (hm c).2)),
    (θ_run Cert.ReferenceIdeal.defs _ _).mono (fun r h => ⟨fun i hi => (congrFun (h 0).1 i).trans (reference_at _ _ i hi), (h 0).2⟩) (Cert.ReferenceIdeal.Value.run m' g')⟩

theorem frame_unbounded : Cert.quiescent_Unbounded := fun m g _ => Cert.Unbounded.Gen.frame m g

end Cert.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Unbounded
public import proofs.«01_k».proof.Proof.Gen.Unbounded.Value
public import proofs.«01_k».proof.Proof.Gen.On_unclipped
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Unbounded.Gen.facts,
  Cert.On_unclipped.Gen.facts, Cert.Ring.frame_kernel, Cert.Ring.frame_kernelIdeal, Cert.Ring.frame_reference, Cert.Ring.frame_unbounded,
  trivial, Cert.Ring.agree_reference, Cert.Ring.agree_unbounded⟩

end Cert.Proof

end
